-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_TopK (m : (ℓ : Loc Cert.TopK.nD Cert.TopK.τ Cert.TopK.sig) → Buf (Elt Bits) ℓ) : Prop :=
  True

def Pre_TopKIdeal (m : (ℓ : Loc Cert.TopKIdeal.nD Cert.TopKIdeal.τ Cert.TopKIdeal.sig) → Buf (Elt Ideal) ℓ) : Prop :=
  True

def Pre_Adj [hPre_in_range : Cert.Pre_in_range.Facts] (m : (ℓ : Loc Cert.Adj.nD Cert.Adj.τ Cert.Adj.sig) → Buf (Elt Bits) ℓ) : Prop :=
  ∀ c : Dev Cert.Adj.nD,
    (Cert.Pre_in_range.fn (F := Bits) (m ((c.tc : Thread Cert.Adj.nD Cert.Adj.τ).loc Cert.Adj.main_arg0))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_TopK [hTopK : Cert.TopK.Facts] : Prop :=
  ∀ (m : (ℓ : Loc Cert.TopK.nD Cert.TopK.τ Cert.TopK.sig) → Buf (Elt Bits) ℓ) (g : Dev Cert.TopK.nD → PrngReg), Pre_TopK m →
    θ_run (Cert.TopK.defs (F := Bits)) (onTc (τ := Cert.TopK.τ) (Cert.TopK.main (F := Bits))) ⟨m, fun _ => 0, g⟩ (fun r => (∀ c : Dev Cert.TopK.nD,
      r.2.mem ((c.tc : Thread Cert.TopK.nD Cert.TopK.τ).loc Cert.TopK.main_arg0) = m ((c.tc : Thread Cert.TopK.nD Cert.TopK.τ).loc Cert.TopK.main_arg0))
      ∧ r.2.sem = fun _ => 0)

def quiescent_TopKIdeal [hTopKIdeal : Cert.TopKIdeal.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_Adj [hAdj : Cert.Adj.Facts] [hPre_in_range : Cert.Pre_in_range.Facts] : Prop :=
  ∀ (m : (ℓ : Loc Cert.Adj.nD Cert.Adj.τ Cert.Adj.sig) → Buf (Elt Bits) ℓ) (g : Dev Cert.Adj.nD → PrngReg), Pre_Adj m →
    θ_run (Cert.Adj.defs (F := Bits)) (Cert.Adj.threads (F := Bits)) ⟨m, fun _ => 0, g⟩ (fun r => (∀ c : Dev Cert.Adj.nD,
      r.2.mem ((c.tc : Thread Cert.Adj.nD Cert.Adj.τ).loc Cert.Adj.main_arg0) = m ((c.tc : Thread Cert.Adj.nD Cert.Adj.τ).loc Cert.Adj.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_TopK_TopKIdeal : Prop :=
  IdealRules.named_const.Statement Cert.TopKIdeal.κ "mask" .f32 0xF149F2CA#32 ⊥

def Claim : Prop :=
  ∃ (hKernelIdeal : Cert.KernelIdeal.Facts) (hReferenceIdeal : Cert.ReferenceIdeal.Facts) (hTopK : Cert.TopK.Facts) (hTopKIdeal : Cert.TopKIdeal.Facts) (hAdj : Cert.Adj.Facts) (hPre_in_range : Cert.Pre_in_range.Facts),
    quiescent_KernelIdeal (hKernelIdeal := hKernelIdeal)
    ∧ quiescent_ReferenceIdeal (hReferenceIdeal := hReferenceIdeal)
    ∧ quiescent_TopK (hTopK := hTopK)
    ∧ quiescent_TopKIdeal (hTopKIdeal := hTopKIdeal)
    ∧ quiescent_Adj (hAdj := hAdj) (hPre_in_range := hPre_in_range)
    ∧ algebraic_KernelIdeal_ReferenceIdeal (hKernelIdeal := hKernelIdeal) (hReferenceIdeal := hReferenceIdeal)
    ∧ preserves_TopK_TopKIdeal
-- ==== Pre_in_range.lean ====
abbrev S4x16384 : Shape := ⟨2, ![4, 16384]⟩
abbrev S_ : Shape := ⟨0, ![]⟩

class Facts : Prop where
  bcast_S_S4x16384 : S_.BroadcastsInDim S4x16384 (![] : Fin 0 → Fin S4x16384.rank)

variable [Facts]

def fn {F : FTy → Type} [FloatOps F] (main_arg0 : IVec S4x16384 32) : IVec S4x16384 1 :=
  let main_c : IVec S_ 32 := constantI S_ 32 0#32
  let main_v0 : IVec S4x16384 32 := broadcastInDim S4x16384 ![] bcast_S_S4x16384 main_c
  let main_v1 : IVec S4x16384 1 := cmpi .sge main_arg0 main_v0
  let main_c_0 : IVec S_ 32 := constantI S_ 32 2048#32
  let main_v2 : IVec S4x16384 32 := broadcastInDim S4x16384 ![] bcast_S_S4x16384 main_c_0
  let main_v3 : IVec S4x16384 1 := cmpi .slt main_arg0 main_v2
  let main_v4 : IVec S4x16384 1 := andi main_v1 main_v3
  main_v4
-- ==== KernelIdeal.lean ====
abbrev S4x2048x128 : Shape := ⟨3, ![4, 2048, 128]⟩
abbrev S4x2048x8 : Shape := ⟨3, ![4, 2048, 8]⟩
abbrev S1x256x128 : Shape := ⟨3, ![1, 256, 128]⟩
abbrev S1x2048x128 : Shape := ⟨3, ![1, 2048, 128]⟩
abbrev S1x256x8 : Shape := ⟨3, ![1, 256, 8]⟩
abbrev S256x128 : Shape := ⟨2, ![256, 128]⟩
abbrev S2048x128 : Shape := ⟨2, ![2048, 128]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S256x2048 : Shape := ⟨2, ![256, 2048]⟩
abbrev S256x8 : Shape := ⟨2, ![256, 8]⟩
abbrev S4x16384 : Shape := ⟨2, ![4, 16384]⟩
abbrev S16777216 : Shape := ⟨1, ![16777216]⟩
abbrev S16384 : Shape := ⟨1, ![16384]⟩
abbrev S32768 : Shape := ⟨1, ![32768]⟩
abbrev S_ : Shape := ⟨0, ![]⟩
abbrev S1x16384 : Shape := ⟨2, ![1, 16384]⟩
abbrev S16 : Shape := ⟨1, ![16]⟩
abbrev S4x2048x2048 : Shape := ⟨3, ![4, 2048, 2048]⟩

abbrev nBuf : Table → Nat
  | .hbm => 5
  | .local .tc .vmem => 6
  | .local .scVector .vmem => 2
  | _ => 0

abbrev bufTy : (tb : Table) → Fin (nBuf tb) → BufTy
  | .hbm, ⟨0, _⟩ => ⟨S4x2048x128, .f32⟩
  | .hbm, ⟨1, _⟩ => ⟨S4x2048x8, .i32⟩
  | .hbm, ⟨2, _⟩ => ⟨S4x16384, .i32⟩
  | .hbm, ⟨3, _⟩ => ⟨S16777216, .f32⟩
  | .hbm, ⟨4, _⟩ => ⟨S4x2048x2048, .f32⟩
  | .local .tc .vmem, ⟨0, _⟩ => ⟨S1x256x128, .f32⟩
  | .local .tc .vmem, ⟨1, _⟩ => ⟨S1x256x128, .f32⟩
  | .local .tc .vmem, ⟨2, _⟩ => ⟨S1x2048x128, .f32⟩
  | .local .tc .vmem, ⟨3, _⟩ => ⟨S1x2048x128, .f32⟩
  | .local .tc .vmem, ⟨4, _⟩ => ⟨S1x256x8, .i32⟩
  | .local .tc .vmem, ⟨5, _⟩ => ⟨S1x256x8, .i32⟩
  | .local .scVector .vmem, ⟨0, _⟩ => ⟨S16384, .i32⟩
  | .local .scVector .vmem, ⟨1, _⟩ => ⟨S32768, .f32⟩
  | _, _ => ⟨S4x2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v1_scv : Ref sig .scVector := ⟨.hbm, 2, rfl⟩
abbrev main_v2_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "mask" => some ⊥
  | _ => none

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_20_r0 : BitVec 32 := 0#32
  ![v18.toNat, 0]
@[reducible] def k1_t1_loop : Scf.Loop 32 :=
  let c0_i32_11 : BitVec 32 := 0#32
  let c2048_i32 : BitVec 32 := 2048#32
  let v31 : BitVec 32 := Scalar.addi c0_i32_11 c2048_i32
  let c1_i32_12 : BitVec 32 := 1#32
  ⟨c0_i32_11, v31, c1_i32_12⟩
def k1_off2 (k1_t1 : Fin k1_t1_loop.trips) : Fin 1 → Nat :=
  let c0_i32_11 : BitVec 32 := 0#32
  let c1_i32_12 : BitVec 32 := 1#32
  let arg6 : BitVec 32 := Scf.iv c0_i32_11 c1_i32_12 k1_t1
  let c16_i32_20 : BitVec 32 := 16#32
  let v38 : BitVec 32 := Scalar.muli arg6 c16_i32_20
  let v39 : Index := Scalar.indexCast v38
  ![v39.toNat]
@[reducible] def k1_t2_loop : Scf.Loop 32 :=
  let c0_i32_17 : BitVec 32 := 0#32
  let c16_i32 : BitVec 32 := 16#32
  let v37 : BitVec 32 := Scalar.addi c0_i32_17 c16_i32
  let c1_i32_18 : BitVec 32 := 1#32
  ⟨c0_i32_17, v37, c1_i32_18⟩
def k1_off3 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c0_i32_21 : BitVec 32 := 0#32
  let v40 : BitVec 32 := Scalar.addi v39 c0_i32_21
  let c8_i32_22 : BitVec 32 := 8#32
  let v41 : BitVec 32 := Scalar.muli v40 c8_i32_22
  let v42 : Index := Scalar.indexCast v41
  ![v42.toNat]

def k1_chk1 (v51 : IVec S16 32) : Prop :=
  (∀ a x, ((![v51] : Fin 1 → IVec S16 32) a x).toNat < S16384.size a)
theorem k1_idx1_inb : ∀ (v51 : IVec S16 32) (k1_hw1 : k1_chk1 v51), ∀ a x, ((![v51] : Fin 1 → IVec S16 32) a x).toNat < S16384.size a := fun v51 k1_hw1 => k1_hw1

def k1_chk2 (v58 : IVec S16 32) : Prop :=
  (∀ a x, ((![v58] : Fin 1 → IVec S16 32) a x).toNat < S16384.size a)
theorem k1_idx2_inb : ∀ (v58 : IVec S16 32) (k1_hw2 : k1_chk2 v58), ∀ a x, ((![v58] : Fin 1 → IVec S16 32) a x).toNat < S16384.size a := fun v58 k1_hw2 => k1_hw2

def k1_chk3 (v65 : IVec S16 32) : Prop :=
  (∀ a x, ((![v65] : Fin 1 → IVec S16 32) a x).toNat < S16384.size a)
theorem k1_idx3_inb : ∀ (v65 : IVec S16 32) (k1_hw3 : k1_chk3 v65), ∀ a x, ((![v65] : Fin 1 → IVec S16 32) a x).toNat < S16384.size a := fun v65 k1_hw3 => k1_hw3

def k1_chk4 (v72 : IVec S16 32) : Prop :=
  (∀ a x, ((![v72] : Fin 1 → IVec S16 32) a x).toNat < S16384.size a)
theorem k1_idx4_inb : ∀ (v72 : IVec S16 32) (k1_hw4 : k1_chk4 v72), ∀ a x, ((![v72] : Fin 1 → IVec S16 32) a x).toNat < S16384.size a := fun v72 k1_hw4 => k1_hw4

def k1_chk5 (v79 : IVec S16 32) : Prop :=
  (∀ a x, ((![v79] : Fin 1 → IVec S16 32) a x).toNat < S16384.size a)
theorem k1_idx5_inb : ∀ (v79 : IVec S16 32) (k1_hw5 : k1_chk5 v79), ∀ a x, ((![v79] : Fin 1 → IVec S16 32) a x).toNat < S16384.size a := fun v79 k1_hw5 => k1_hw5

def k1_chk6 (v86 : IVec S16 32) : Prop :=
  (∀ a x, ((![v86] : Fin 1 → IVec S16 32) a x).toNat < S16384.size a)
theorem k1_idx6_inb : ∀ (v86 : IVec S16 32) (k1_hw6 : k1_chk6 v86), ∀ a x, ((![v86] : Fin 1 → IVec S16 32) a x).toNat < S16384.size a := fun v86 k1_hw6 => k1_hw6

def k1_chk7 (v93 : IVec S16 32) : Prop :=
  (∀ a x, ((![v93] : Fin 1 → IVec S16 32) a x).toNat < S16384.size a)
theorem k1_idx7_inb : ∀ (v93 : IVec S16 32) (k1_hw7 : k1_chk7 v93), ∀ a x, ((![v93] : Fin 1 → IVec S16 32) a x).toNat < S16384.size a := fun v93 k1_hw7 => k1_hw7

def k1_chk8 (v100 : IVec S16 32) : Prop :=
  (∀ a x, ((![v100] : Fin 1 → IVec S16 32) a x).toNat < S16384.size a)
theorem k1_idx8_inb : ∀ (v100 : IVec S16 32) (k1_hw8 : k1_chk8 v100), ∀ a x, ((![v100] : Fin 1 → IVec S16 32) a x).toNat < S16384.size a := fun v100 k1_hw8 => k1_hw8

def k1_chk9 (v108 : IVec S16 32) : Prop :=
  (∀ a x, ((![v108] : Fin 1 → IVec S16 32) a x).toNat < S32768.size a)
theorem k1_idx9_inb : ∀ (v108 : IVec S16 32) (k1_hw9 : k1_chk9 v108), ∀ a x, ((![v108] : Fin 1 → IVec S16 32) a x).toNat < S32768.size a := fun v108 k1_hw9 => k1_hw9
def k1_off4 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c2_i32_37 : BitVec 32 := 2#32
  let v109 : BitVec 32 := Scalar.addi v39 c2_i32_37
  let c8_i32_38 : BitVec 32 := 8#32
  let v110 : BitVec 32 := Scalar.muli v109 c8_i32_38
  let v111 : Index := Scalar.indexCast v110
  ![v111.toNat]

def k1_chk10 (v120 : IVec S16 32) : Prop :=
  (∀ a x, ((![v120] : Fin 1 → IVec S16 32) a x).toNat < S16384.size a)
theorem k1_idx10_inb : ∀ (v120 : IVec S16 32) (k1_hw10 : k1_chk10 v120), ∀ a x, ((![v120] : Fin 1 → IVec S16 32) a x).toNat < S16384.size a := fun v120 k1_hw10 => k1_hw10

def k1_chk11 (v127 : IVec S16 32) : Prop :=
  (∀ a x, ((![v127] : Fin 1 → IVec S16 32) a x).toNat < S16384.size a)
theorem k1_idx11_inb : ∀ (v127 : IVec S16 32) (k1_hw11 : k1_chk11 v127), ∀ a x, ((![v127] : Fin 1 → IVec S16 32) a x).toNat < S16384.size a := fun v127 k1_hw11 => k1_hw11

def k1_chk12 (v134 : IVec S16 32) : Prop :=
  (∀ a x, ((![v134] : Fin 1 → IVec S16 32) a x).toNat < S16384.size a)
theorem k1_idx12_inb : ∀ (v134 : IVec S16 32) (k1_hw12 : k1_chk12 v134), ∀ a x, ((![v134] : Fin 1 → IVec S16 32) a x).toNat < S16384.size a := fun v134 k1_hw12 => k1_hw12

def k1_chk13 (v141 : IVec S16 32) : Prop :=
  (∀ a x, ((![v141] : Fin 1 → IVec S16 32) a x).toNat < S16384.size a)
theorem k1_idx13_inb : ∀ (v141 : IVec S16 32) (k1_hw13 : k1_chk13 v141), ∀ a x, ((![v141] : Fin 1 → IVec S16 32) a x).toNat < S16384.size a := fun v141 k1_hw13 => k1_hw13

def k1_chk14 (v148 : IVec S16 32) : Prop :=
  (∀ a x, ((![v148] : Fin 1 → IVec S16 32) a x).toNat < S16384.size a)
theorem k1_idx14_inb : ∀ (v148 : IVec S16 32) (k1_hw14 : k1_chk14 v148), ∀ a x, ((![v148] : Fin 1 → IVec S16 32) a x).toNat < S16384.size a := fun v148 k1_hw14 => k1_hw14

def k1_chk15 (v155 : IVec S16 32) : Prop :=
  (∀ a x, ((![v155] : Fin 1 → IVec S16 32) a x).toNat < S16384.size a)
theorem k1_idx15_inb : ∀ (v155 : IVec S16 32) (k1_hw15 : k1_chk15 v155), ∀ a x, ((![v155] : Fin 1 → IVec S16 32) a x).toNat < S16384.size a := fun v155 k1_hw15 => k1_hw15

def k1_chk16 (v162 : IVec S16 32) : Prop :=
  (∀ a x, ((![v162] : Fin 1 → IVec S16 32) a x).toNat < S16384.size a)
theorem k1_idx16_inb : ∀ (v162 : IVec S16 32) (k1_hw16 : k1_chk16 v162), ∀ a x, ((![v162] : Fin 1 → IVec S16 32) a x).toNat < S16384.size a := fun v162 k1_hw16 => k1_hw16

def k1_chk17 (v169 : IVec S16 32) : Prop :=
  (∀ a x, ((![v169] : Fin 1 → IVec S16 32) a x).toNat < S16384.size a)
theorem k1_idx17_inb : ∀ (v169 : IVec S16 32) (k1_hw17 : k1_chk17 v169), ∀ a x, ((![v169] : Fin 1 → IVec S16 32) a x).toNat < S16384.size a := fun v169 k1_hw17 => k1_hw17

def k1_chk18 (v177 : IVec S16 32) : Prop :=
  (∀ a x, ((![v177] : Fin 1 → IVec S16 32) a x).toNat < S32768.size a)
theorem k1_idx18_inb : ∀ (v177 : IVec S16 32) (k1_hw18 : k1_chk18 v177), ∀ a x, ((![v177] : Fin 1 → IVec S16 32) a x).toNat < S32768.size a := fun v177 k1_hw18 => k1_hw18
def k1_off5 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c4_i32_58 : BitVec 32 := 4#32
  let v178 : BitVec 32 := Scalar.addi v39 c4_i32_58
  let c8_i32_59 : BitVec 32 := 8#32
  let v179 : BitVec 32 := Scalar.muli v178 c8_i32_59
  let v180 : Index := Scalar.indexCast v179
  ![v180.toNat]

def k1_chk19 (v189 : IVec S16 32) : Prop :=
  (∀ a x, ((![v189] : Fin 1 → IVec S16 32) a x).toNat < S16384.size a)
theorem k1_idx19_inb : ∀ (v189 : IVec S16 32) (k1_hw19 : k1_chk19 v189), ∀ a x, ((![v189] : Fin 1 → IVec S16 32) a x).toNat < S16384.size a := fun v189 k1_hw19 => k1_hw19

def k1_chk20 (v196 : IVec S16 32) : Prop :=
  (∀ a x, ((![v196] : Fin 1 → IVec S16 32) a x).toNat < S16384.size a)
theorem k1_idx20_inb : ∀ (v196 : IVec S16 32) (k1_hw20 : k1_chk20 v196), ∀ a x, ((![v196] : Fin 1 → IVec S16 32) a x).toNat < S16384.size a := fun v196 k1_hw20 => k1_hw20

def k1_chk21 (v203 : IVec S16 32) : Prop :=
  (∀ a x, ((![v203] : Fin 1 → IVec S16 32) a x).toNat < S16384.size a)
theorem k1_idx21_inb : ∀ (v203 : IVec S16 32) (k1_hw21 : k1_chk21 v203), ∀ a x, ((![v203] : Fin 1 → IVec S16 32) a x).toNat < S16384.size a := fun v203 k1_hw21 => k1_hw21

def k1_chk22 (v210 : IVec S16 32) : Prop :=
  (∀ a x, ((![v210] : Fin 1 → IVec S16 32) a x).toNat < S16384.size a)
theorem k1_idx22_inb : ∀ (v210 : IVec S16 32) (k1_hw22 : k1_chk22 v210), ∀ a x, ((![v210] : Fin 1 → IVec S16 32) a x).toNat < S16384.size a := fun v210 k1_hw22 => k1_hw22

def k1_chk23 (v217 : IVec S16 32) : Prop :=
  (∀ a x, ((![v217] : Fin 1 → IVec S16 32) a x).toNat < S16384.size a)
theorem k1_idx23_inb : ∀ (v217 : IVec S16 32) (k1_hw23 : k1_chk23 v217), ∀ a x, ((![v217] : Fin 1 → IVec S16 32) a x).toNat < S16384.size a := fun v217 k1_hw23 => k1_hw23

def k1_chk24 (v224 : IVec S16 32) : Prop :=
  (∀ a x, ((![v224] : Fin 1 → IVec S16 32) a x).toNat < S16384.size a)
theorem k1_idx24_inb : ∀ (v224 : IVec S16 32) (k1_hw24 : k1_chk24 v224), ∀ a x, ((![v224] : Fin 1 → IVec S16 32) a x).toNat < S16384.size a := fun v224 k1_hw24 => k1_hw24

def k1_chk25 (v231 : IVec S16 32) : Prop :=
  (∀ a x, ((![v231] : Fin 1 → IVec S16 32) a x).toNat < S16384.size a)
theorem k1_idx25_inb : ∀ (v231 : IVec S16 32) (k1_hw25 : k1_chk25 v231), ∀ a x, ((![v231] : Fin 1 → IVec S16 32) a x).toNat < S16384.size a := fun v231 k1_hw25 => k1_hw25

def k1_chk26 (v238 : IVec S16 32) : Prop :=
  (∀ a x, ((![v238] : Fin 1 → IVec S16 32) a x).toNat < S16384.size a)
theorem k1_idx26_inb : ∀ (v238 : IVec S16 32) (k1_hw26 : k1_chk26 v238), ∀ a x, ((![v238] : Fin 1 → IVec S16 32) a x).toNat < S16384.size a := fun v238 k1_hw26 => k1_hw26

def k1_chk27 (v246 : IVec S16 32) : Prop :=
  (∀ a x, ((![v246] : Fin 1 → IVec S16 32) a x).toNat < S32768.size a)
theorem k1_idx27_inb : ∀ (v246 : IVec S16 32) (k1_hw27 : k1_chk27 v246), ∀ a x, ((![v246] : Fin 1 → IVec S16 32) a x).toNat < S32768.size a := fun v246 k1_hw27 => k1_hw27
def k1_off6 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c6_i32_79 : BitVec 32 := 6#32
  let v247 : BitVec 32 := Scalar.addi v39 c6_i32_79
  let c8_i32_80 : BitVec 32 := 8#32
  let v248 : BitVec 32 := Scalar.muli v247 c8_i32_80
  let v249 : Index := Scalar.indexCast v248
  ![v249.toNat]

def k1_chk28 (v258 : IVec S16 32) : Prop :=
  (∀ a x, ((![v258] : Fin 1 → IVec S16 32) a x).toNat < S16384.size a)
theorem k1_idx28_inb : ∀ (v258 : IVec S16 32) (k1_hw28 : k1_chk28 v258), ∀ a x, ((![v258] : Fin 1 → IVec S16 32) a x).toNat < S16384.size a := fun v258 k1_hw28 => k1_hw28

def k1_chk29 (v265 : IVec S16 32) : Prop :=
  (∀ a x, ((![v265] : Fin 1 → IVec S16 32) a x).toNat < S16384.size a)
theorem k1_idx29_inb : ∀ (v265 : IVec S16 32) (k1_hw29 : k1_chk29 v265), ∀ a x, ((![v265] : Fin 1 → IVec S16 32) a x).toNat < S16384.size a := fun v265 k1_hw29 => k1_hw29

def k1_chk30 (v272 : IVec S16 32) : Prop :=
  (∀ a x, ((![v272] : Fin 1 → IVec S16 32) a x).toNat < S16384.size a)
theorem k1_idx30_inb : ∀ (v272 : IVec S16 32) (k1_hw30 : k1_chk30 v272), ∀ a x, ((![v272] : Fin 1 → IVec S16 32) a x).toNat < S16384.size a := fun v272 k1_hw30 => k1_hw30

def k1_chk31 (v279 : IVec S16 32) : Prop :=
  (∀ a x, ((![v279] : Fin 1 → IVec S16 32) a x).toNat < S16384.size a)
theorem k1_idx31_inb : ∀ (v279 : IVec S16 32) (k1_hw31 : k1_chk31 v279), ∀ a x, ((![v279] : Fin 1 → IVec S16 32) a x).toNat < S16384.size a := fun v279 k1_hw31 => k1_hw31

def k1_chk32 (v286 : IVec S16 32) : Prop :=
  (∀ a x, ((![v286] : Fin 1 → IVec S16 32) a x).toNat < S16384.size a)
theorem k1_idx32_inb : ∀ (v286 : IVec S16 32) (k1_hw32 : k1_chk32 v286), ∀ a x, ((![v286] : Fin 1 → IVec S16 32) a x).toNat < S16384.size a := fun v286 k1_hw32 => k1_hw32

def k1_chk33 (v293 : IVec S16 32) : Prop :=
  (∀ a x, ((![v293] : Fin 1 → IVec S16 32) a x).toNat < S16384.size a)
theorem k1_idx33_inb : ∀ (v293 : IVec S16 32) (k1_hw33 : k1_chk33 v293), ∀ a x, ((![v293] : Fin 1 → IVec S16 32) a x).toNat < S16384.size a := fun v293 k1_hw33 => k1_hw33

def k1_chk34 (v300 : IVec S16 32) : Prop :=
  (∀ a x, ((![v300] : Fin 1 → IVec S16 32) a x).toNat < S16384.size a)
theorem k1_idx34_inb : ∀ (v300 : IVec S16 32) (k1_hw34 : k1_chk34 v300), ∀ a x, ((![v300] : Fin 1 → IVec S16 32) a x).toNat < S16384.size a := fun v300 k1_hw34 => k1_hw34

def k1_chk35 (v307 : IVec S16 32) : Prop :=
  (∀ a x, ((![v307] : Fin 1 → IVec S16 32) a x).toNat < S16384.size a)
theorem k1_idx35_inb : ∀ (v307 : IVec S16 32) (k1_hw35 : k1_chk35 v307), ∀ a x, ((![v307] : Fin 1 → IVec S16 32) a x).toNat < S16384.size a := fun v307 k1_hw35 => k1_hw35

def k1_chk36 (v315 : IVec S16 32) : Prop :=
  (∀ a x, ((![v315] : Fin 1 → IVec S16 32) a x).toNat < S32768.size a)
theorem k1_idx36_inb : ∀ (v315 : IVec S16 32) (k1_hw36 : k1_chk36 v315), ∀ a x, ((![v315] : Fin 1 → IVec S16 32) a x).toNat < S32768.size a := fun v315 k1_hw36 => k1_hw36
def k1_off7 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c8_i32_100 : BitVec 32 := 8#32
  let v316 : BitVec 32 := Scalar.addi v39 c8_i32_100
  let c8_i32_101 : BitVec 32 := 8#32
  let v317 : BitVec 32 := Scalar.muli v316 c8_i32_101
  let v318 : Index := Scalar.indexCast v317
  ![v318.toNat]

def k1_chk37 (v327 : IVec S16 32) : Prop :=
  (∀ a x, ((![v327] : Fin 1 → IVec S16 32) a x).toNat < S16384.size a)
theorem k1_idx37_inb : ∀ (v327 : IVec S16 32) (k1_hw37 : k1_chk37 v327), ∀ a x, ((![v327] : Fin 1 → IVec S16 32) a x).toNat < S16384.size a := fun v327 k1_hw37 => k1_hw37

def k1_chk38 (v334 : IVec S16 32) : Prop :=
  (∀ a x, ((![v334] : Fin 1 → IVec S16 32) a x).toNat < S16384.size a)
theorem k1_idx38_inb : ∀ (v334 : IVec S16 32) (k1_hw38 : k1_chk38 v334), ∀ a x, ((![v334] : Fin 1 → IVec S16 32) a x).toNat < S16384.size a := fun v334 k1_hw38 => k1_hw38

def k1_chk39 (v341 : IVec S16 32) : Prop :=
  (∀ a x, ((![v341] : Fin 1 → IVec S16 32) a x).toNat < S16384.size a)
theorem k1_idx39_inb : ∀ (v341 : IVec S16 32) (k1_hw39 : k1_chk39 v341), ∀ a x, ((![v341] : Fin 1 → IVec S16 32) a x).toNat < S16384.size a := fun v341 k1_hw39 => k1_hw39

def k1_chk40 (v348 : IVec S16 32) : Prop :=
  (∀ a x, ((![v348] : Fin 1 → IVec S16 32) a x).toNat < S16384.size a)
theorem k1_idx40_inb : ∀ (v348 : IVec S16 32) (k1_hw40 : k1_chk40 v348), ∀ a x, ((![v348] : Fin 1 → IVec S16 32) a x).toNat < S16384.size a := fun v348 k1_hw40 => k1_hw40

def k1_chk41 (v355 : IVec S16 32) : Prop :=
  (∀ a x, ((![v355] : Fin 1 → IVec S16 32) a x).toNat < S16384.size a)
theorem k1_idx41_inb : ∀ (v355 : IVec S16 32) (k1_hw41 : k1_chk41 v355), ∀ a x, ((![v355] : Fin 1 → IVec S16 32) a x).toNat < S16384.size a := fun v355 k1_hw41 => k1_hw41

def k1_chk42 (v362 : IVec S16 32) : Prop :=
  (∀ a x, ((![v362] : Fin 1 → IVec S16 32) a x).toNat < S16384.size a)
theorem k1_idx42_inb : ∀ (v362 : IVec S16 32) (k1_hw42 : k1_chk42 v362), ∀ a x, ((![v362] : Fin 1 → IVec S16 32) a x).toNat < S16384.size a := fun v362 k1_hw42 => k1_hw42

def k1_chk43 (v369 : IVec S16 32) : Prop :=
  (∀ a x, ((![v369] : Fin 1 → IVec S16 32) a x).toNat < S16384.size a)
theorem k1_idx43_inb : ∀ (v369 : IVec S16 32) (k1_hw43 : k1_chk43 v369), ∀ a x, ((![v369] : Fin 1 → IVec S16 32) a x).toNat < S16384.size a := fun v369 k1_hw43 => k1_hw43

def k1_chk44 (v376 : IVec S16 32) : Prop :=
  (∀ a x, ((![v376] : Fin 1 → IVec S16 32) a x).toNat < S16384.size a)
theorem k1_idx44_inb : ∀ (v376 : IVec S16 32) (k1_hw44 : k1_chk44 v376), ∀ a x, ((![v376] : Fin 1 → IVec S16 32) a x).toNat < S16384.size a := fun v376 k1_hw44 => k1_hw44

def k1_chk45 (v384 : IVec S16 32) : Prop :=
  (∀ a x, ((![v384] : Fin 1 → IVec S16 32) a x).toNat < S32768.size a)
theorem k1_idx45_inb : ∀ (v384 : IVec S16 32) (k1_hw45 : k1_chk45 v384), ∀ a x, ((![v384] : Fin 1 → IVec S16 32) a x).toNat < S32768.size a := fun v384 k1_hw45 => k1_hw45
def k1_off8 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c10_i32 : BitVec 32 := 10#32
  let v385 : BitVec 32 := Scalar.addi v39 c10_i32
  let c8_i32_121 : BitVec 32 := 8#32
  let v386 : BitVec 32 := Scalar.muli v385 c8_i32_121
  let v387 : Index := Scalar.indexCast v386
  ![v387.toNat]

def k1_chk46 (v396 : IVec S16 32) : Prop :=
  (∀ a x, ((![v396] : Fin 1 → IVec S16 32) a x).toNat < S16384.size a)
theorem k1_idx46_inb : ∀ (v396 : IVec S16 32) (k1_hw46 : k1_chk46 v396), ∀ a x, ((![v396] : Fin 1 → IVec S16 32) a x).toNat < S16384.size a := fun v396 k1_hw46 => k1_hw46

def k1_chk47 (v403 : IVec S16 32) : Prop :=
  (∀ a x, ((![v403] : Fin 1 → IVec S16 32) a x).toNat < S16384.size a)
theorem k1_idx47_inb : ∀ (v403 : IVec S16 32) (k1_hw47 : k1_chk47 v403), ∀ a x, ((![v403] : Fin 1 → IVec S16 32) a x).toNat < S16384.size a := fun v403 k1_hw47 => k1_hw47

def k1_chk48 (v410 : IVec S16 32) : Prop :=
  (∀ a x, ((![v410] : Fin 1 → IVec S16 32) a x).toNat < S16384.size a)
theorem k1_idx48_inb : ∀ (v410 : IVec S16 32) (k1_hw48 : k1_chk48 v410), ∀ a x, ((![v410] : Fin 1 → IVec S16 32) a x).toNat < S16384.size a := fun v410 k1_hw48 => k1_hw48

def k1_chk49 (v417 : IVec S16 32) : Prop :=
  (∀ a x, ((![v417] : Fin 1 → IVec S16 32) a x).toNat < S16384.size a)
theorem k1_idx49_inb : ∀ (v417 : IVec S16 32) (k1_hw49 : k1_chk49 v417), ∀ a x, ((![v417] : Fin 1 → IVec S16 32) a x).toNat < S16384.size a := fun v417 k1_hw49 => k1_hw49

def k1_chk50 (v424 : IVec S16 32) : Prop :=
  (∀ a x, ((![v424] : Fin 1 → IVec S16 32) a x).toNat < S16384.size a)
theorem k1_idx50_inb : ∀ (v424 : IVec S16 32) (k1_hw50 : k1_chk50 v424), ∀ a x, ((![v424] : Fin 1 → IVec S16 32) a x).toNat < S16384.size a := fun v424 k1_hw50 => k1_hw50

def k1_chk51 (v431 : IVec S16 32) : Prop :=
  (∀ a x, ((![v431] : Fin 1 → IVec S16 32) a x).toNat < S16384.size a)
theorem k1_idx51_inb : ∀ (v431 : IVec S16 32) (k1_hw51 : k1_chk51 v431), ∀ a x, ((![v431] : Fin 1 → IVec S16 32) a x).toNat < S16384.size a := fun v431 k1_hw51 => k1_hw51

def k1_chk52 (v438 : IVec S16 32) : Prop :=
  (∀ a x, ((![v438] : Fin 1 → IVec S16 32) a x).toNat < S16384.size a)
theorem k1_idx52_inb : ∀ (v438 : IVec S16 32) (k1_hw52 : k1_chk52 v438), ∀ a x, ((![v438] : Fin 1 → IVec S16 32) a x).toNat < S16384.size a := fun v438 k1_hw52 => k1_hw52

def k1_chk53 (v445 : IVec S16 32) : Prop :=
  (∀ a x, ((![v445] : Fin 1 → IVec S16 32) a x).toNat < S16384.size a)
theorem k1_idx53_inb : ∀ (v445 : IVec S16 32) (k1_hw53 : k1_chk53 v445), ∀ a x, ((![v445] : Fin 1 → IVec S16 32) a x).toNat < S16384.size a := fun v445 k1_hw53 => k1_hw53

def k1_chk54 (v453 : IVec S16 32) : Prop :=
  (∀ a x, ((![v453] : Fin 1 → IVec S16 32) a x).toNat < S32768.size a)
theorem k1_idx54_inb : ∀ (v453 : IVec S16 32) (k1_hw54 : k1_chk54 v453), ∀ a x, ((![v453] : Fin 1 → IVec S16 32) a x).toNat < S32768.size a := fun v453 k1_hw54 => k1_hw54
def k1_off9 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c12_i32 : BitVec 32 := 12#32
  let v454 : BitVec 32 := Scalar.addi v39 c12_i32
  let c8_i32_141 : BitVec 32 := 8#32
  let v455 : BitVec 32 := Scalar.muli v454 c8_i32_141
  let v456 : Index := Scalar.indexCast v455
  ![v456.toNat]

def k1_chk55 (v465 : IVec S16 32) : Prop :=
  (∀ a x, ((![v465] : Fin 1 → IVec S16 32) a x).toNat < S16384.size a)
theorem k1_idx55_inb : ∀ (v465 : IVec S16 32) (k1_hw55 : k1_chk55 v465), ∀ a x, ((![v465] : Fin 1 → IVec S16 32) a x).toNat < S16384.size a := fun v465 k1_hw55 => k1_hw55

def k1_chk56 (v472 : IVec S16 32) : Prop :=
  (∀ a x, ((![v472] : Fin 1 → IVec S16 32) a x).toNat < S16384.size a)
theorem k1_idx56_inb : ∀ (v472 : IVec S16 32) (k1_hw56 : k1_chk56 v472), ∀ a x, ((![v472] : Fin 1 → IVec S16 32) a x).toNat < S16384.size a := fun v472 k1_hw56 => k1_hw56

def k1_chk57 (v479 : IVec S16 32) : Prop :=
  (∀ a x, ((![v479] : Fin 1 → IVec S16 32) a x).toNat < S16384.size a)
theorem k1_idx57_inb : ∀ (v479 : IVec S16 32) (k1_hw57 : k1_chk57 v479), ∀ a x, ((![v479] : Fin 1 → IVec S16 32) a x).toNat < S16384.size a := fun v479 k1_hw57 => k1_hw57

def k1_chk58 (v486 : IVec S16 32) : Prop :=
  (∀ a x, ((![v486] : Fin 1 → IVec S16 32) a x).toNat < S16384.size a)
theorem k1_idx58_inb : ∀ (v486 : IVec S16 32) (k1_hw58 : k1_chk58 v486), ∀ a x, ((![v486] : Fin 1 → IVec S16 32) a x).toNat < S16384.size a := fun v486 k1_hw58 => k1_hw58

def k1_chk59 (v493 : IVec S16 32) : Prop :=
  (∀ a x, ((![v493] : Fin 1 → IVec S16 32) a x).toNat < S16384.size a)
theorem k1_idx59_inb : ∀ (v493 : IVec S16 32) (k1_hw59 : k1_chk59 v493), ∀ a x, ((![v493] : Fin 1 → IVec S16 32) a x).toNat < S16384.size a := fun v493 k1_hw59 => k1_hw59

def k1_chk60 (v500 : IVec S16 32) : Prop :=
  (∀ a x, ((![v500] : Fin 1 → IVec S16 32) a x).toNat < S16384.size a)
theorem k1_idx60_inb : ∀ (v500 : IVec S16 32) (k1_hw60 : k1_chk60 v500), ∀ a x, ((![v500] : Fin 1 → IVec S16 32) a x).toNat < S16384.size a := fun v500 k1_hw60 => k1_hw60

def k1_chk61 (v507 : IVec S16 32) : Prop :=
  (∀ a x, ((![v507] : Fin 1 → IVec S16 32) a x).toNat < S16384.size a)
theorem k1_idx61_inb : ∀ (v507 : IVec S16 32) (k1_hw61 : k1_chk61 v507), ∀ a x, ((![v507] : Fin 1 → IVec S16 32) a x).toNat < S16384.size a := fun v507 k1_hw61 => k1_hw61

def k1_chk62 (v514 : IVec S16 32) : Prop :=
  (∀ a x, ((![v514] : Fin 1 → IVec S16 32) a x).toNat < S16384.size a)
theorem k1_idx62_inb : ∀ (v514 : IVec S16 32) (k1_hw62 : k1_chk62 v514), ∀ a x, ((![v514] : Fin 1 → IVec S16 32) a x).toNat < S16384.size a := fun v514 k1_hw62 => k1_hw62

def k1_chk63 (v522 : IVec S16 32) : Prop :=
  (∀ a x, ((![v522] : Fin 1 → IVec S16 32) a x).toNat < S32768.size a)
theorem k1_idx63_inb : ∀ (v522 : IVec S16 32) (k1_hw63 : k1_chk63 v522), ∀ a x, ((![v522] : Fin 1 → IVec S16 32) a x).toNat < S32768.size a := fun v522 k1_hw63 => k1_hw63
def k1_off10 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c14_i32 : BitVec 32 := 14#32
  let v523 : BitVec 32 := Scalar.addi v39 c14_i32
  let c8_i32_161 : BitVec 32 := 8#32
  let v524 : BitVec 32 := Scalar.muli v523 c8_i32_161
  let v525 : Index := Scalar.indexCast v524
  ![v525.toNat]

def k1_chk64 (v534 : IVec S16 32) : Prop :=
  (∀ a x, ((![v534] : Fin 1 → IVec S16 32) a x).toNat < S16384.size a)
theorem k1_idx64_inb : ∀ (v534 : IVec S16 32) (k1_hw64 : k1_chk64 v534), ∀ a x, ((![v534] : Fin 1 → IVec S16 32) a x).toNat < S16384.size a := fun v534 k1_hw64 => k1_hw64

def k1_chk65 (v541 : IVec S16 32) : Prop :=
  (∀ a x, ((![v541] : Fin 1 → IVec S16 32) a x).toNat < S16384.size a)
theorem k1_idx65_inb : ∀ (v541 : IVec S16 32) (k1_hw65 : k1_chk65 v541), ∀ a x, ((![v541] : Fin 1 → IVec S16 32) a x).toNat < S16384.size a := fun v541 k1_hw65 => k1_hw65

def k1_chk66 (v548 : IVec S16 32) : Prop :=
  (∀ a x, ((![v548] : Fin 1 → IVec S16 32) a x).toNat < S16384.size a)
theorem k1_idx66_inb : ∀ (v548 : IVec S16 32) (k1_hw66 : k1_chk66 v548), ∀ a x, ((![v548] : Fin 1 → IVec S16 32) a x).toNat < S16384.size a := fun v548 k1_hw66 => k1_hw66

def k1_chk67 (v555 : IVec S16 32) : Prop :=
  (∀ a x, ((![v555] : Fin 1 → IVec S16 32) a x).toNat < S16384.size a)
theorem k1_idx67_inb : ∀ (v555 : IVec S16 32) (k1_hw67 : k1_chk67 v555), ∀ a x, ((![v555] : Fin 1 → IVec S16 32) a x).toNat < S16384.size a := fun v555 k1_hw67 => k1_hw67

def k1_chk68 (v562 : IVec S16 32) : Prop :=
  (∀ a x, ((![v562] : Fin 1 → IVec S16 32) a x).toNat < S16384.size a)
theorem k1_idx68_inb : ∀ (v562 : IVec S16 32) (k1_hw68 : k1_chk68 v562), ∀ a x, ((![v562] : Fin 1 → IVec S16 32) a x).toNat < S16384.size a := fun v562 k1_hw68 => k1_hw68

def k1_chk69 (v569 : IVec S16 32) : Prop :=
  (∀ a x, ((![v569] : Fin 1 → IVec S16 32) a x).toNat < S16384.size a)
theorem k1_idx69_inb : ∀ (v569 : IVec S16 32) (k1_hw69 : k1_chk69 v569), ∀ a x, ((![v569] : Fin 1 → IVec S16 32) a x).toNat < S16384.size a := fun v569 k1_hw69 => k1_hw69

def k1_chk70 (v576 : IVec S16 32) : Prop :=
  (∀ a x, ((![v576] : Fin 1 → IVec S16 32) a x).toNat < S16384.size a)
theorem k1_idx70_inb : ∀ (v576 : IVec S16 32) (k1_hw70 : k1_chk70 v576), ∀ a x, ((![v576] : Fin 1 → IVec S16 32) a x).toNat < S16384.size a := fun v576 k1_hw70 => k1_hw70

def k1_chk71 (v583 : IVec S16 32) : Prop :=
  (∀ a x, ((![v583] : Fin 1 → IVec S16 32) a x).toNat < S16384.size a)
theorem k1_idx71_inb : ∀ (v583 : IVec S16 32) (k1_hw71 : k1_chk71 v583), ∀ a x, ((![v583] : Fin 1 → IVec S16 32) a x).toNat < S16384.size a := fun v583 k1_hw71 => k1_hw71

def k1_chk72 (v591 : IVec S16 32) : Prop :=
  (∀ a x, ((![v591] : Fin 1 → IVec S16 32) a x).toNat < S32768.size a)
theorem k1_idx72_inb : ∀ (v591 : IVec S16 32) (k1_hw72 : k1_chk72 v591), ∀ a x, ((![v591] : Fin 1 → IVec S16 32) a x).toNat < S32768.size a := fun v591 k1_hw72 => k1_hw72
def k1_off11 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2048_i32_181 : BitVec 32 := 2048#32
  let v592 : BitVec 32 := Scalar.muli v18 c2048_i32_181
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let v593 : BitVec 32 := Scalar.addi v592 v39
  let c2048_i32_182 : BitVec 32 := 2048#32
  let v594 : BitVec 32 := Scalar.muli v593 c2048_i32_182
  ![v594.toNat]
def k1_off12 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c0_i32_183 : BitVec 32 := 0#32
  let v595 : BitVec 32 := Scalar.addi v39 c0_i32_183
  let c8_i32_184 : BitVec 32 := 8#32
  let v596 : BitVec 32 := Scalar.muli v595 c8_i32_184
  let v597 : Index := Scalar.indexCast v596
  ![v597.toNat]

def k1_chk73 (v603 : IVec S16 32) : Prop :=
  (∀ a x, ((![v603] : Fin 1 → IVec S16 32) a x).toNat < S32768.size a)
theorem k1_idx73_inb : ∀ (v603 : IVec S16 32) (k1_hw73 : k1_chk73 v603), ∀ a x, ((![v603] : Fin 1 → IVec S16 32) a x).toNat < S32768.size a := fun v603 k1_hw73 => k1_hw73
def k1_off13 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c2_i32_187 : BitVec 32 := 2#32
  let v604 : BitVec 32 := Scalar.addi v39 c2_i32_187
  let c8_i32_188 : BitVec 32 := 8#32
  let v605 : BitVec 32 := Scalar.muli v604 c8_i32_188
  let v606 : Index := Scalar.indexCast v605
  ![v606.toNat]

def k1_chk74 (v612 : IVec S16 32) : Prop :=
  (∀ a x, ((![v612] : Fin 1 → IVec S16 32) a x).toNat < S32768.size a)
theorem k1_idx74_inb : ∀ (v612 : IVec S16 32) (k1_hw74 : k1_chk74 v612), ∀ a x, ((![v612] : Fin 1 → IVec S16 32) a x).toNat < S32768.size a := fun v612 k1_hw74 => k1_hw74
def k1_off14 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c4_i32_191 : BitVec 32 := 4#32
  let v613 : BitVec 32 := Scalar.addi v39 c4_i32_191
  let c8_i32_192 : BitVec 32 := 8#32
  let v614 : BitVec 32 := Scalar.muli v613 c8_i32_192
  let v615 : Index := Scalar.indexCast v614
  ![v615.toNat]

def k1_chk75 (v621 : IVec S16 32) : Prop :=
  (∀ a x, ((![v621] : Fin 1 → IVec S16 32) a x).toNat < S32768.size a)
theorem k1_idx75_inb : ∀ (v621 : IVec S16 32) (k1_hw75 : k1_chk75 v621), ∀ a x, ((![v621] : Fin 1 → IVec S16 32) a x).toNat < S32768.size a := fun v621 k1_hw75 => k1_hw75
def k1_off15 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c6_i32_195 : BitVec 32 := 6#32
  let v622 : BitVec 32 := Scalar.addi v39 c6_i32_195
  let c8_i32_196 : BitVec 32 := 8#32
  let v623 : BitVec 32 := Scalar.muli v622 c8_i32_196
  let v624 : Index := Scalar.indexCast v623
  ![v624.toNat]

def k1_chk76 (v630 : IVec S16 32) : Prop :=
  (∀ a x, ((![v630] : Fin 1 → IVec S16 32) a x).toNat < S32768.size a)
theorem k1_idx76_inb : ∀ (v630 : IVec S16 32) (k1_hw76 : k1_chk76 v630), ∀ a x, ((![v630] : Fin 1 → IVec S16 32) a x).toNat < S32768.size a := fun v630 k1_hw76 => k1_hw76
def k1_off16 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c8_i32_199 : BitVec 32 := 8#32
  let v631 : BitVec 32 := Scalar.addi v39 c8_i32_199
  let c8_i32_200 : BitVec 32 := 8#32
  let v632 : BitVec 32 := Scalar.muli v631 c8_i32_200
  let v633 : Index := Scalar.indexCast v632
  ![v633.toNat]

def k1_chk77 (v639 : IVec S16 32) : Prop :=
  (∀ a x, ((![v639] : Fin 1 → IVec S16 32) a x).toNat < S32768.size a)
theorem k1_idx77_inb : ∀ (v639 : IVec S16 32) (k1_hw77 : k1_chk77 v639), ∀ a x, ((![v639] : Fin 1 → IVec S16 32) a x).toNat < S32768.size a := fun v639 k1_hw77 => k1_hw77
def k1_off17 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c10_i32_203 : BitVec 32 := 10#32
  let v640 : BitVec 32 := Scalar.addi v39 c10_i32_203
  let c8_i32_204 : BitVec 32 := 8#32
  let v641 : BitVec 32 := Scalar.muli v640 c8_i32_204
  let v642 : Index := Scalar.indexCast v641
  ![v642.toNat]

def k1_chk78 (v648 : IVec S16 32) : Prop :=
  (∀ a x, ((![v648] : Fin 1 → IVec S16 32) a x).toNat < S32768.size a)
theorem k1_idx78_inb : ∀ (v648 : IVec S16 32) (k1_hw78 : k1_chk78 v648), ∀ a x, ((![v648] : Fin 1 → IVec S16 32) a x).toNat < S32768.size a := fun v648 k1_hw78 => k1_hw78
def k1_off18 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c12_i32_207 : BitVec 32 := 12#32
  let v649 : BitVec 32 := Scalar.addi v39 c12_i32_207
  let c8_i32_208 : BitVec 32 := 8#32
  let v650 : BitVec 32 := Scalar.muli v649 c8_i32_208
  let v651 : Index := Scalar.indexCast v650
  ![v651.toNat]

def k1_chk79 (v657 : IVec S16 32) : Prop :=
  (∀ a x, ((![v657] : Fin 1 → IVec S16 32) a x).toNat < S32768.size a)
theorem k1_idx79_inb : ∀ (v657 : IVec S16 32) (k1_hw79 : k1_chk79 v657), ∀ a x, ((![v657] : Fin 1 → IVec S16 32) a x).toNat < S32768.size a := fun v657 k1_hw79 => k1_hw79
def k1_off19 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k1_t2
  let c16_i32_20 : BitVec 32 := 16#32
  let v38 : BitVec 32 := Scalar.muli arg6 c16_i32_20
  let v39 : BitVec 32 := Scalar.addi v29 v38
  let c14_i32_211 : BitVec 32 := 14#32
  let v658 : BitVec 32 := Scalar.addi v39 c14_i32_211
  let c8_i32_212 : BitVec 32 := 8#32
  let v659 : BitVec 32 := Scalar.muli v658 c8_i32_212
  let v660 : Index := Scalar.indexCast v659
  ![v660.toNat]

def k1_chk80 (v666 : IVec S16 32) : Prop :=
  (∀ a x, ((![v666] : Fin 1 → IVec S16 32) a x).toNat < S32768.size a)
theorem k1_idx80_inb : ∀ (v666 : IVec S16 32) (k1_hw80 : k1_chk80 v666), ∀ a x, ((![v666] : Fin 1 → IVec S16 32) a x).toNat < S32768.size a := fun v666 k1_hw80 => k1_hw80
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x128 : Shape := ⟨3, ![4, 2048, 128]⟩
abbrev S_ : Shape := ⟨0, ![]⟩
abbrev S4x2048 : Shape := ⟨2, ![4, 2048]⟩
abbrev S4x2048x1 : Shape := ⟨3, ![4, 2048, 1]⟩
abbrev S4x128x2048 : Shape := ⟨3, ![4, 128, 2048]⟩
abbrev S4x2048x2048 : Shape := ⟨3, ![4, 2048, 2048]⟩
abbrev S2048x2048 : Shape := ⟨2, ![2048, 2048]⟩
abbrev S1x2048x2048 : Shape := ⟨3, ![1, 2048, 2048]⟩
abbrev S4x2048x8 : Shape := ⟨3, ![4, 2048, 8]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S4x2048x8x1 : Shape := ⟨4, ![4, 2048, 8, 1]⟩
abbrev S4x2048x8x3 : Shape := ⟨4, ![4, 2048, 8, 3]⟩

abbrev nBuf : Space → Nat
  | .hbm => 65
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S_, .f32⟩
  | .hbm, ⟨3, _⟩ => ⟨S4x2048, .f32⟩
  | .hbm, ⟨4, _⟩ => ⟨S4x2048x1, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S4x2048x128, .f32⟩
  | .hbm, ⟨10, _⟩ => ⟨S4x2048x128, .f32⟩
  | .hbm, ⟨11, _⟩ => ⟨S4x128x2048, .f32⟩
  | .hbm, ⟨12, _⟩ => ⟨S4x2048x2048, .f32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S1x2048x2048, .i1⟩
  | .hbm, ⟨20, _⟩ => ⟨S_, .f32⟩
  | .hbm, ⟨21, _⟩ => ⟨S_, .f32⟩
  | .hbm, ⟨22, _⟩ => ⟨S4x2048x2048, .i1⟩
  | .hbm, ⟨23, _⟩ => ⟨S4x2048x2048, .f32⟩
  | .hbm, ⟨24, _⟩ => ⟨S4x2048x2048, .f32⟩
  | .hbm, ⟨25, _⟩ => ⟨S4x2048x8, .f32⟩
  | .hbm, ⟨26, _⟩ => ⟨S4x2048x8, .i32⟩
  | .hbm, ⟨27, _⟩ => ⟨S_, .f32⟩
  | .hbm, ⟨28, _⟩ => ⟨S4x2048x2048, .f32⟩
  | .hbm, ⟨29, _⟩ => ⟨S4, .i32⟩
  | .hbm, ⟨30, _⟩ => ⟨S4x1x1, .i32⟩
  | .hbm, ⟨31, _⟩ => ⟨S2048, .i32⟩
  | .hbm, ⟨32, _⟩ => ⟨S1x2048x1, .i32⟩
  | .hbm, ⟨33, _⟩ => ⟨S_, .i32⟩
  | .hbm, ⟨34, _⟩ => ⟨S4x1x1, .i32⟩
  | .hbm, ⟨35, _⟩ => ⟨S4x1x1, .i1⟩
  | .hbm, ⟨36, _⟩ => ⟨S_, .i32⟩
  | .hbm, ⟨37, _⟩ => ⟨S4x1x1, .i32⟩
  | .hbm, ⟨38, _⟩ => ⟨S4x1x1, .i32⟩
  | .hbm, ⟨39, _⟩ => ⟨S4x1x1, .i32⟩
  | .hbm, ⟨40, _⟩ => ⟨S_, .i32⟩
  | .hbm, ⟨41, _⟩ => ⟨S1x2048x1, .i32⟩
  | .hbm, ⟨42, _⟩ => ⟨S1x2048x1, .i1⟩
  | .hbm, ⟨43, _⟩ => ⟨S_, .i32⟩
  | .hbm, ⟨44, _⟩ => ⟨S1x2048x1, .i32⟩
  | .hbm, ⟨45, _⟩ => ⟨S1x2048x1, .i32⟩
  | .hbm, ⟨46, _⟩ => ⟨S1x2048x1, .i32⟩
  | .hbm, ⟨47, _⟩ => ⟨S_, .i32⟩
  | .hbm, ⟨48, _⟩ => ⟨S4x2048x8, .i32⟩
  | .hbm, ⟨49, _⟩ => ⟨S4x2048x8, .i1⟩
  | .hbm, ⟨50, _⟩ => ⟨S_, .i32⟩
  | .hbm, ⟨51, _⟩ => ⟨S4x2048x8, .i32⟩
  | .hbm, ⟨52, _⟩ => ⟨S4x2048x8, .i32⟩
  | .hbm, ⟨53, _⟩ => ⟨S4x2048x8, .i32⟩
  | .hbm, ⟨54, _⟩ => ⟨S4x2048x8, .i32⟩
  | .hbm, ⟨55, _⟩ => ⟨S4x2048x8, .i32⟩
  | .hbm, ⟨56, _⟩ => ⟨S4x2048x8x1, .i32⟩
  | .hbm, ⟨57, _⟩ => ⟨S4x2048x8x1, .i32⟩
  | .hbm, ⟨58, _⟩ => ⟨S4x2048x8x1, .i32⟩
  | .hbm, ⟨59, _⟩ => ⟨S4x2048x8x3, .i32⟩
  | .hbm, ⟨60, _⟩ => ⟨S_, .f32⟩
  | .hbm, ⟨61, _⟩ => ⟨S4x2048x8, .f32⟩
  | .hbm, ⟨62, _⟩ => ⟨S4x2048x2048, .f32⟩
  | .hbm, ⟨63, _⟩ => ⟨S4x2048x2048, .f32⟩
  | .hbm, ⟨64, _⟩ => ⟨S4x2048x2048, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v13 : Ref sig .tc := ⟨.hbm, 24, rfl⟩
abbrev main_values : Ref sig .tc := ⟨.hbm, 25, rfl⟩
abbrev main_indices : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== TopK.lean ====
abbrev S4x2048x128 : Shape := ⟨3, ![4, 2048, 128]⟩
abbrev S4x2048x8 : Shape := ⟨3, ![4, 2048, 8]⟩
abbrev S1x256x128 : Shape := ⟨3, ![1, 256, 128]⟩
abbrev S1x2048x128 : Shape := ⟨3, ![1, 2048, 128]⟩
abbrev S1x256x8 : Shape := ⟨3, ![1, 256, 8]⟩
abbrev S256x128 : Shape := ⟨2, ![256, 128]⟩
abbrev S2048x128 : Shape := ⟨2, ![2048, 128]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S256x2048 : Shape := ⟨2, ![256, 2048]⟩
abbrev S256x8 : Shape := ⟨2, ![256, 8]⟩

abbrev nBuf : Space → Nat
  | .hbm => 2
  | .vmem => 6
  | .smem => 0
  | _ => 0

abbrev bufTy : (tb : Table) → Fin (tcTables nBuf tb) → BufTy
  | .hbm, ⟨0, _⟩ => ⟨S4x2048x128, .f32⟩
  | .hbm, ⟨1, _⟩ => ⟨S4x2048x8, .i32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x256x8, .i32⟩
  | .local _ .vmem, ⟨5, _⟩ => ⟨S1x256x8, .i32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TopKIdeal.lean ====
variable {F : FTy → Type} [FloatOps F] [Named F]
def κ : String → Option EReal := fun
  | "mask" => some ⊥
  | _ => none
-- ==== Adj.lean ====
abbrev S4x16384 : Shape := ⟨2, ![4, 16384]⟩
abbrev S16777216 : Shape := ⟨1, ![16777216]⟩
abbrev S16384 : Shape := ⟨1, ![16384]⟩
abbrev S32768 : Shape := ⟨1, ![32768]⟩
abbrev S_ : Shape := ⟨0, ![]⟩
abbrev S1x16384 : Shape := ⟨2, ![1, 16384]⟩
abbrev S16 : Shape := ⟨1, ![16]⟩

abbrev nBuf : Table → Nat
  | .hbm => 2
  | .local .scVector .vmem => 2
  | _ => 0

abbrev bufTy : (tb : Table) → Fin (nBuf tb) → BufTy
  | .hbm, ⟨0, _⟩ => ⟨S4x16384, .i32⟩
  | .hbm, ⟨1, _⟩ => ⟨S16777216, .f32⟩
  | .local .scVector .vmem, ⟨0, _⟩ => ⟨S16384, .i32⟩
  | .local .scVector .vmem, ⟨1, _⟩ => ⟨S32768, .f32⟩
  | _, _ => ⟨S4x16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_20_r0 : BitVec 32 := 0#32
  ![v18.toNat, 0]
@[reducible] def k0_t1_loop : Scf.Loop 32 :=
  let c0_i32_11 : BitVec 32 := 0#32
  let c2048_i32 : BitVec 32 := 2048#32
  let v31 : BitVec 32 := Scalar.addi c0_i32_11 c2048_i32
  let c1_i32_12 : BitVec 32 := 1#32
  ⟨c0_i32_11, v31, c1_i32_12⟩
def k0_off2 (k0_t1 : Fin k0_t1_loop.trips) : Fin 1 → Nat :=
  let c0_i32_11 : BitVec 32 := 0#32
  let c1_i32_12 : BitVec 32 := 1#32
  let arg6 : BitVec 32 := Scf.iv c0_i32_11 c1_i32_12 k0_t1
  let c16_i32_20 : BitVec 32 := 16#32
  let v38 : BitVec 32 := Scalar.muli arg6 c16_i32_20
  let v39 : Index := Scalar.indexCast v38
  ![v39.toNat]
@[reducible] def k0_t2_loop : Scf.Loop 32 :=
  let c0_i32_17 : BitVec 32 := 0#32
  let c16_i32 : BitVec 32 := 16#32
  let v37 : BitVec 32 := Scalar.addi c0_i32_17 c16_i32
  let c1_i32_18 : BitVec 32 := 1#32
  ⟨c0_i32_17, v37, c1_i32_18⟩
def k0_off3 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c0_i32_21 : BitVec 32 := 0#32
  let v40 : BitVec 32 := Scalar.addi v39 c0_i32_21
  let c8_i32_22 : BitVec 32 := 8#32
  let v41 : BitVec 32 := Scalar.muli v40 c8_i32_22
  let v42 : Index := Scalar.indexCast v41
  ![v42.toNat]

def k0_chk1 (v51 : IVec S16 32) : Prop :=
  (∀ a x, ((![v51] : Fin 1 → IVec S16 32) a x).toNat < S16384.size a)
theorem k0_idx1_inb : ∀ (v51 : IVec S16 32) (k0_hw1 : k0_chk1 v51), ∀ a x, ((![v51] : Fin 1 → IVec S16 32) a x).toNat < S16384.size a := fun v51 k0_hw1 => k0_hw1

def k0_chk2 (v58 : IVec S16 32) : Prop :=
  (∀ a x, ((![v58] : Fin 1 → IVec S16 32) a x).toNat < S16384.size a)
theorem k0_idx2_inb : ∀ (v58 : IVec S16 32) (k0_hw2 : k0_chk2 v58), ∀ a x, ((![v58] : Fin 1 → IVec S16 32) a x).toNat < S16384.size a := fun v58 k0_hw2 => k0_hw2

def k0_chk3 (v65 : IVec S16 32) : Prop :=
  (∀ a x, ((![v65] : Fin 1 → IVec S16 32) a x).toNat < S16384.size a)
theorem k0_idx3_inb : ∀ (v65 : IVec S16 32) (k0_hw3 : k0_chk3 v65), ∀ a x, ((![v65] : Fin 1 → IVec S16 32) a x).toNat < S16384.size a := fun v65 k0_hw3 => k0_hw3

def k0_chk4 (v72 : IVec S16 32) : Prop :=
  (∀ a x, ((![v72] : Fin 1 → IVec S16 32) a x).toNat < S16384.size a)
theorem k0_idx4_inb : ∀ (v72 : IVec S16 32) (k0_hw4 : k0_chk4 v72), ∀ a x, ((![v72] : Fin 1 → IVec S16 32) a x).toNat < S16384.size a := fun v72 k0_hw4 => k0_hw4

def k0_chk5 (v79 : IVec S16 32) : Prop :=
  (∀ a x, ((![v79] : Fin 1 → IVec S16 32) a x).toNat < S16384.size a)
theorem k0_idx5_inb : ∀ (v79 : IVec S16 32) (k0_hw5 : k0_chk5 v79), ∀ a x, ((![v79] : Fin 1 → IVec S16 32) a x).toNat < S16384.size a := fun v79 k0_hw5 => k0_hw5

def k0_chk6 (v86 : IVec S16 32) : Prop :=
  (∀ a x, ((![v86] : Fin 1 → IVec S16 32) a x).toNat < S16384.size a)
theorem k0_idx6_inb : ∀ (v86 : IVec S16 32) (k0_hw6 : k0_chk6 v86), ∀ a x, ((![v86] : Fin 1 → IVec S16 32) a x).toNat < S16384.size a := fun v86 k0_hw6 => k0_hw6

def k0_chk7 (v93 : IVec S16 32) : Prop :=
  (∀ a x, ((![v93] : Fin 1 → IVec S16 32) a x).toNat < S16384.size a)
theorem k0_idx7_inb : ∀ (v93 : IVec S16 32) (k0_hw7 : k0_chk7 v93), ∀ a x, ((![v93] : Fin 1 → IVec S16 32) a x).toNat < S16384.size a := fun v93 k0_hw7 => k0_hw7

def k0_chk8 (v100 : IVec S16 32) : Prop :=
  (∀ a x, ((![v100] : Fin 1 → IVec S16 32) a x).toNat < S16384.size a)
theorem k0_idx8_inb : ∀ (v100 : IVec S16 32) (k0_hw8 : k0_chk8 v100), ∀ a x, ((![v100] : Fin 1 → IVec S16 32) a x).toNat < S16384.size a := fun v100 k0_hw8 => k0_hw8

def k0_chk9 (v108 : IVec S16 32) : Prop :=
  (∀ a x, ((![v108] : Fin 1 → IVec S16 32) a x).toNat < S32768.size a)
theorem k0_idx9_inb : ∀ (v108 : IVec S16 32) (k0_hw9 : k0_chk9 v108), ∀ a x, ((![v108] : Fin 1 → IVec S16 32) a x).toNat < S32768.size a := fun v108 k0_hw9 => k0_hw9
def k0_off4 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c2_i32_37 : BitVec 32 := 2#32
  let v109 : BitVec 32 := Scalar.addi v39 c2_i32_37
  let c8_i32_38 : BitVec 32 := 8#32
  let v110 : BitVec 32 := Scalar.muli v109 c8_i32_38
  let v111 : Index := Scalar.indexCast v110
  ![v111.toNat]

def k0_chk10 (v120 : IVec S16 32) : Prop :=
  (∀ a x, ((![v120] : Fin 1 → IVec S16 32) a x).toNat < S16384.size a)
theorem k0_idx10_inb : ∀ (v120 : IVec S16 32) (k0_hw10 : k0_chk10 v120), ∀ a x, ((![v120] : Fin 1 → IVec S16 32) a x).toNat < S16384.size a := fun v120 k0_hw10 => k0_hw10

def k0_chk11 (v127 : IVec S16 32) : Prop :=
  (∀ a x, ((![v127] : Fin 1 → IVec S16 32) a x).toNat < S16384.size a)
theorem k0_idx11_inb : ∀ (v127 : IVec S16 32) (k0_hw11 : k0_chk11 v127), ∀ a x, ((![v127] : Fin 1 → IVec S16 32) a x).toNat < S16384.size a := fun v127 k0_hw11 => k0_hw11

def k0_chk12 (v134 : IVec S16 32) : Prop :=
  (∀ a x, ((![v134] : Fin 1 → IVec S16 32) a x).toNat < S16384.size a)
theorem k0_idx12_inb : ∀ (v134 : IVec S16 32) (k0_hw12 : k0_chk12 v134), ∀ a x, ((![v134] : Fin 1 → IVec S16 32) a x).toNat < S16384.size a := fun v134 k0_hw12 => k0_hw12

def k0_chk13 (v141 : IVec S16 32) : Prop :=
  (∀ a x, ((![v141] : Fin 1 → IVec S16 32) a x).toNat < S16384.size a)
theorem k0_idx13_inb : ∀ (v141 : IVec S16 32) (k0_hw13 : k0_chk13 v141), ∀ a x, ((![v141] : Fin 1 → IVec S16 32) a x).toNat < S16384.size a := fun v141 k0_hw13 => k0_hw13

def k0_chk14 (v148 : IVec S16 32) : Prop :=
  (∀ a x, ((![v148] : Fin 1 → IVec S16 32) a x).toNat < S16384.size a)
theorem k0_idx14_inb : ∀ (v148 : IVec S16 32) (k0_hw14 : k0_chk14 v148), ∀ a x, ((![v148] : Fin 1 → IVec S16 32) a x).toNat < S16384.size a := fun v148 k0_hw14 => k0_hw14

def k0_chk15 (v155 : IVec S16 32) : Prop :=
  (∀ a x, ((![v155] : Fin 1 → IVec S16 32) a x).toNat < S16384.size a)
theorem k0_idx15_inb : ∀ (v155 : IVec S16 32) (k0_hw15 : k0_chk15 v155), ∀ a x, ((![v155] : Fin 1 → IVec S16 32) a x).toNat < S16384.size a := fun v155 k0_hw15 => k0_hw15

def k0_chk16 (v162 : IVec S16 32) : Prop :=
  (∀ a x, ((![v162] : Fin 1 → IVec S16 32) a x).toNat < S16384.size a)
theorem k0_idx16_inb : ∀ (v162 : IVec S16 32) (k0_hw16 : k0_chk16 v162), ∀ a x, ((![v162] : Fin 1 → IVec S16 32) a x).toNat < S16384.size a := fun v162 k0_hw16 => k0_hw16

def k0_chk17 (v169 : IVec S16 32) : Prop :=
  (∀ a x, ((![v169] : Fin 1 → IVec S16 32) a x).toNat < S16384.size a)
theorem k0_idx17_inb : ∀ (v169 : IVec S16 32) (k0_hw17 : k0_chk17 v169), ∀ a x, ((![v169] : Fin 1 → IVec S16 32) a x).toNat < S16384.size a := fun v169 k0_hw17 => k0_hw17

def k0_chk18 (v177 : IVec S16 32) : Prop :=
  (∀ a x, ((![v177] : Fin 1 → IVec S16 32) a x).toNat < S32768.size a)
theorem k0_idx18_inb : ∀ (v177 : IVec S16 32) (k0_hw18 : k0_chk18 v177), ∀ a x, ((![v177] : Fin 1 → IVec S16 32) a x).toNat < S32768.size a := fun v177 k0_hw18 => k0_hw18
def k0_off5 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c4_i32_58 : BitVec 32 := 4#32
  let v178 : BitVec 32 := Scalar.addi v39 c4_i32_58
  let c8_i32_59 : BitVec 32 := 8#32
  let v179 : BitVec 32 := Scalar.muli v178 c8_i32_59
  let v180 : Index := Scalar.indexCast v179
  ![v180.toNat]

def k0_chk19 (v189 : IVec S16 32) : Prop :=
  (∀ a x, ((![v189] : Fin 1 → IVec S16 32) a x).toNat < S16384.size a)
theorem k0_idx19_inb : ∀ (v189 : IVec S16 32) (k0_hw19 : k0_chk19 v189), ∀ a x, ((![v189] : Fin 1 → IVec S16 32) a x).toNat < S16384.size a := fun v189 k0_hw19 => k0_hw19

def k0_chk20 (v196 : IVec S16 32) : Prop :=
  (∀ a x, ((![v196] : Fin 1 → IVec S16 32) a x).toNat < S16384.size a)
theorem k0_idx20_inb : ∀ (v196 : IVec S16 32) (k0_hw20 : k0_chk20 v196), ∀ a x, ((![v196] : Fin 1 → IVec S16 32) a x).toNat < S16384.size a := fun v196 k0_hw20 => k0_hw20

def k0_chk21 (v203 : IVec S16 32) : Prop :=
  (∀ a x, ((![v203] : Fin 1 → IVec S16 32) a x).toNat < S16384.size a)
theorem k0_idx21_inb : ∀ (v203 : IVec S16 32) (k0_hw21 : k0_chk21 v203), ∀ a x, ((![v203] : Fin 1 → IVec S16 32) a x).toNat < S16384.size a := fun v203 k0_hw21 => k0_hw21

def k0_chk22 (v210 : IVec S16 32) : Prop :=
  (∀ a x, ((![v210] : Fin 1 → IVec S16 32) a x).toNat < S16384.size a)
theorem k0_idx22_inb : ∀ (v210 : IVec S16 32) (k0_hw22 : k0_chk22 v210), ∀ a x, ((![v210] : Fin 1 → IVec S16 32) a x).toNat < S16384.size a := fun v210 k0_hw22 => k0_hw22

def k0_chk23 (v217 : IVec S16 32) : Prop :=
  (∀ a x, ((![v217] : Fin 1 → IVec S16 32) a x).toNat < S16384.size a)
theorem k0_idx23_inb : ∀ (v217 : IVec S16 32) (k0_hw23 : k0_chk23 v217), ∀ a x, ((![v217] : Fin 1 → IVec S16 32) a x).toNat < S16384.size a := fun v217 k0_hw23 => k0_hw23

def k0_chk24 (v224 : IVec S16 32) : Prop :=
  (∀ a x, ((![v224] : Fin 1 → IVec S16 32) a x).toNat < S16384.size a)
theorem k0_idx24_inb : ∀ (v224 : IVec S16 32) (k0_hw24 : k0_chk24 v224), ∀ a x, ((![v224] : Fin 1 → IVec S16 32) a x).toNat < S16384.size a := fun v224 k0_hw24 => k0_hw24

def k0_chk25 (v231 : IVec S16 32) : Prop :=
  (∀ a x, ((![v231] : Fin 1 → IVec S16 32) a x).toNat < S16384.size a)
theorem k0_idx25_inb : ∀ (v231 : IVec S16 32) (k0_hw25 : k0_chk25 v231), ∀ a x, ((![v231] : Fin 1 → IVec S16 32) a x).toNat < S16384.size a := fun v231 k0_hw25 => k0_hw25

def k0_chk26 (v238 : IVec S16 32) : Prop :=
  (∀ a x, ((![v238] : Fin 1 → IVec S16 32) a x).toNat < S16384.size a)
theorem k0_idx26_inb : ∀ (v238 : IVec S16 32) (k0_hw26 : k0_chk26 v238), ∀ a x, ((![v238] : Fin 1 → IVec S16 32) a x).toNat < S16384.size a := fun v238 k0_hw26 => k0_hw26

def k0_chk27 (v246 : IVec S16 32) : Prop :=
  (∀ a x, ((![v246] : Fin 1 → IVec S16 32) a x).toNat < S32768.size a)
theorem k0_idx27_inb : ∀ (v246 : IVec S16 32) (k0_hw27 : k0_chk27 v246), ∀ a x, ((![v246] : Fin 1 → IVec S16 32) a x).toNat < S32768.size a := fun v246 k0_hw27 => k0_hw27
def k0_off6 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c6_i32_79 : BitVec 32 := 6#32
  let v247 : BitVec 32 := Scalar.addi v39 c6_i32_79
  let c8_i32_80 : BitVec 32 := 8#32
  let v248 : BitVec 32 := Scalar.muli v247 c8_i32_80
  let v249 : Index := Scalar.indexCast v248
  ![v249.toNat]

def k0_chk28 (v258 : IVec S16 32) : Prop :=
  (∀ a x, ((![v258] : Fin 1 → IVec S16 32) a x).toNat < S16384.size a)
theorem k0_idx28_inb : ∀ (v258 : IVec S16 32) (k0_hw28 : k0_chk28 v258), ∀ a x, ((![v258] : Fin 1 → IVec S16 32) a x).toNat < S16384.size a := fun v258 k0_hw28 => k0_hw28

def k0_chk29 (v265 : IVec S16 32) : Prop :=
  (∀ a x, ((![v265] : Fin 1 → IVec S16 32) a x).toNat < S16384.size a)
theorem k0_idx29_inb : ∀ (v265 : IVec S16 32) (k0_hw29 : k0_chk29 v265), ∀ a x, ((![v265] : Fin 1 → IVec S16 32) a x).toNat < S16384.size a := fun v265 k0_hw29 => k0_hw29

def k0_chk30 (v272 : IVec S16 32) : Prop :=
  (∀ a x, ((![v272] : Fin 1 → IVec S16 32) a x).toNat < S16384.size a)
theorem k0_idx30_inb : ∀ (v272 : IVec S16 32) (k0_hw30 : k0_chk30 v272), ∀ a x, ((![v272] : Fin 1 → IVec S16 32) a x).toNat < S16384.size a := fun v272 k0_hw30 => k0_hw30

def k0_chk31 (v279 : IVec S16 32) : Prop :=
  (∀ a x, ((![v279] : Fin 1 → IVec S16 32) a x).toNat < S16384.size a)
theorem k0_idx31_inb : ∀ (v279 : IVec S16 32) (k0_hw31 : k0_chk31 v279), ∀ a x, ((![v279] : Fin 1 → IVec S16 32) a x).toNat < S16384.size a := fun v279 k0_hw31 => k0_hw31

def k0_chk32 (v286 : IVec S16 32) : Prop :=
  (∀ a x, ((![v286] : Fin 1 → IVec S16 32) a x).toNat < S16384.size a)
theorem k0_idx32_inb : ∀ (v286 : IVec S16 32) (k0_hw32 : k0_chk32 v286), ∀ a x, ((![v286] : Fin 1 → IVec S16 32) a x).toNat < S16384.size a := fun v286 k0_hw32 => k0_hw32

def k0_chk33 (v293 : IVec S16 32) : Prop :=
  (∀ a x, ((![v293] : Fin 1 → IVec S16 32) a x).toNat < S16384.size a)
theorem k0_idx33_inb : ∀ (v293 : IVec S16 32) (k0_hw33 : k0_chk33 v293), ∀ a x, ((![v293] : Fin 1 → IVec S16 32) a x).toNat < S16384.size a := fun v293 k0_hw33 => k0_hw33

def k0_chk34 (v300 : IVec S16 32) : Prop :=
  (∀ a x, ((![v300] : Fin 1 → IVec S16 32) a x).toNat < S16384.size a)
theorem k0_idx34_inb : ∀ (v300 : IVec S16 32) (k0_hw34 : k0_chk34 v300), ∀ a x, ((![v300] : Fin 1 → IVec S16 32) a x).toNat < S16384.size a := fun v300 k0_hw34 => k0_hw34

def k0_chk35 (v307 : IVec S16 32) : Prop :=
  (∀ a x, ((![v307] : Fin 1 → IVec S16 32) a x).toNat < S16384.size a)
theorem k0_idx35_inb : ∀ (v307 : IVec S16 32) (k0_hw35 : k0_chk35 v307), ∀ a x, ((![v307] : Fin 1 → IVec S16 32) a x).toNat < S16384.size a := fun v307 k0_hw35 => k0_hw35

def k0_chk36 (v315 : IVec S16 32) : Prop :=
  (∀ a x, ((![v315] : Fin 1 → IVec S16 32) a x).toNat < S32768.size a)
theorem k0_idx36_inb : ∀ (v315 : IVec S16 32) (k0_hw36 : k0_chk36 v315), ∀ a x, ((![v315] : Fin 1 → IVec S16 32) a x).toNat < S32768.size a := fun v315 k0_hw36 => k0_hw36
def k0_off7 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c8_i32_100 : BitVec 32 := 8#32
  let v316 : BitVec 32 := Scalar.addi v39 c8_i32_100
  let c8_i32_101 : BitVec 32 := 8#32
  let v317 : BitVec 32 := Scalar.muli v316 c8_i32_101
  let v318 : Index := Scalar.indexCast v317
  ![v318.toNat]

def k0_chk37 (v327 : IVec S16 32) : Prop :=
  (∀ a x, ((![v327] : Fin 1 → IVec S16 32) a x).toNat < S16384.size a)
theorem k0_idx37_inb : ∀ (v327 : IVec S16 32) (k0_hw37 : k0_chk37 v327), ∀ a x, ((![v327] : Fin 1 → IVec S16 32) a x).toNat < S16384.size a := fun v327 k0_hw37 => k0_hw37

def k0_chk38 (v334 : IVec S16 32) : Prop :=
  (∀ a x, ((![v334] : Fin 1 → IVec S16 32) a x).toNat < S16384.size a)
theorem k0_idx38_inb : ∀ (v334 : IVec S16 32) (k0_hw38 : k0_chk38 v334), ∀ a x, ((![v334] : Fin 1 → IVec S16 32) a x).toNat < S16384.size a := fun v334 k0_hw38 => k0_hw38

def k0_chk39 (v341 : IVec S16 32) : Prop :=
  (∀ a x, ((![v341] : Fin 1 → IVec S16 32) a x).toNat < S16384.size a)
theorem k0_idx39_inb : ∀ (v341 : IVec S16 32) (k0_hw39 : k0_chk39 v341), ∀ a x, ((![v341] : Fin 1 → IVec S16 32) a x).toNat < S16384.size a := fun v341 k0_hw39 => k0_hw39

def k0_chk40 (v348 : IVec S16 32) : Prop :=
  (∀ a x, ((![v348] : Fin 1 → IVec S16 32) a x).toNat < S16384.size a)
theorem k0_idx40_inb : ∀ (v348 : IVec S16 32) (k0_hw40 : k0_chk40 v348), ∀ a x, ((![v348] : Fin 1 → IVec S16 32) a x).toNat < S16384.size a := fun v348 k0_hw40 => k0_hw40

def k0_chk41 (v355 : IVec S16 32) : Prop :=
  (∀ a x, ((![v355] : Fin 1 → IVec S16 32) a x).toNat < S16384.size a)
theorem k0_idx41_inb : ∀ (v355 : IVec S16 32) (k0_hw41 : k0_chk41 v355), ∀ a x, ((![v355] : Fin 1 → IVec S16 32) a x).toNat < S16384.size a := fun v355 k0_hw41 => k0_hw41

def k0_chk42 (v362 : IVec S16 32) : Prop :=
  (∀ a x, ((![v362] : Fin 1 → IVec S16 32) a x).toNat < S16384.size a)
theorem k0_idx42_inb : ∀ (v362 : IVec S16 32) (k0_hw42 : k0_chk42 v362), ∀ a x, ((![v362] : Fin 1 → IVec S16 32) a x).toNat < S16384.size a := fun v362 k0_hw42 => k0_hw42

def k0_chk43 (v369 : IVec S16 32) : Prop :=
  (∀ a x, ((![v369] : Fin 1 → IVec S16 32) a x).toNat < S16384.size a)
theorem k0_idx43_inb : ∀ (v369 : IVec S16 32) (k0_hw43 : k0_chk43 v369), ∀ a x, ((![v369] : Fin 1 → IVec S16 32) a x).toNat < S16384.size a := fun v369 k0_hw43 => k0_hw43

def k0_chk44 (v376 : IVec S16 32) : Prop :=
  (∀ a x, ((![v376] : Fin 1 → IVec S16 32) a x).toNat < S16384.size a)
theorem k0_idx44_inb : ∀ (v376 : IVec S16 32) (k0_hw44 : k0_chk44 v376), ∀ a x, ((![v376] : Fin 1 → IVec S16 32) a x).toNat < S16384.size a := fun v376 k0_hw44 => k0_hw44

def k0_chk45 (v384 : IVec S16 32) : Prop :=
  (∀ a x, ((![v384] : Fin 1 → IVec S16 32) a x).toNat < S32768.size a)
theorem k0_idx45_inb : ∀ (v384 : IVec S16 32) (k0_hw45 : k0_chk45 v384), ∀ a x, ((![v384] : Fin 1 → IVec S16 32) a x).toNat < S32768.size a := fun v384 k0_hw45 => k0_hw45
def k0_off8 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c10_i32 : BitVec 32 := 10#32
  let v385 : BitVec 32 := Scalar.addi v39 c10_i32
  let c8_i32_121 : BitVec 32 := 8#32
  let v386 : BitVec 32 := Scalar.muli v385 c8_i32_121
  let v387 : Index := Scalar.indexCast v386
  ![v387.toNat]

def k0_chk46 (v396 : IVec S16 32) : Prop :=
  (∀ a x, ((![v396] : Fin 1 → IVec S16 32) a x).toNat < S16384.size a)
theorem k0_idx46_inb : ∀ (v396 : IVec S16 32) (k0_hw46 : k0_chk46 v396), ∀ a x, ((![v396] : Fin 1 → IVec S16 32) a x).toNat < S16384.size a := fun v396 k0_hw46 => k0_hw46

def k0_chk47 (v403 : IVec S16 32) : Prop :=
  (∀ a x, ((![v403] : Fin 1 → IVec S16 32) a x).toNat < S16384.size a)
theorem k0_idx47_inb : ∀ (v403 : IVec S16 32) (k0_hw47 : k0_chk47 v403), ∀ a x, ((![v403] : Fin 1 → IVec S16 32) a x).toNat < S16384.size a := fun v403 k0_hw47 => k0_hw47

def k0_chk48 (v410 : IVec S16 32) : Prop :=
  (∀ a x, ((![v410] : Fin 1 → IVec S16 32) a x).toNat < S16384.size a)
theorem k0_idx48_inb : ∀ (v410 : IVec S16 32) (k0_hw48 : k0_chk48 v410), ∀ a x, ((![v410] : Fin 1 → IVec S16 32) a x).toNat < S16384.size a := fun v410 k0_hw48 => k0_hw48

def k0_chk49 (v417 : IVec S16 32) : Prop :=
  (∀ a x, ((![v417] : Fin 1 → IVec S16 32) a x).toNat < S16384.size a)
theorem k0_idx49_inb : ∀ (v417 : IVec S16 32) (k0_hw49 : k0_chk49 v417), ∀ a x, ((![v417] : Fin 1 → IVec S16 32) a x).toNat < S16384.size a := fun v417 k0_hw49 => k0_hw49

def k0_chk50 (v424 : IVec S16 32) : Prop :=
  (∀ a x, ((![v424] : Fin 1 → IVec S16 32) a x).toNat < S16384.size a)
theorem k0_idx50_inb : ∀ (v424 : IVec S16 32) (k0_hw50 : k0_chk50 v424), ∀ a x, ((![v424] : Fin 1 → IVec S16 32) a x).toNat < S16384.size a := fun v424 k0_hw50 => k0_hw50

def k0_chk51 (v431 : IVec S16 32) : Prop :=
  (∀ a x, ((![v431] : Fin 1 → IVec S16 32) a x).toNat < S16384.size a)
theorem k0_idx51_inb : ∀ (v431 : IVec S16 32) (k0_hw51 : k0_chk51 v431), ∀ a x, ((![v431] : Fin 1 → IVec S16 32) a x).toNat < S16384.size a := fun v431 k0_hw51 => k0_hw51

def k0_chk52 (v438 : IVec S16 32) : Prop :=
  (∀ a x, ((![v438] : Fin 1 → IVec S16 32) a x).toNat < S16384.size a)
theorem k0_idx52_inb : ∀ (v438 : IVec S16 32) (k0_hw52 : k0_chk52 v438), ∀ a x, ((![v438] : Fin 1 → IVec S16 32) a x).toNat < S16384.size a := fun v438 k0_hw52 => k0_hw52

def k0_chk53 (v445 : IVec S16 32) : Prop :=
  (∀ a x, ((![v445] : Fin 1 → IVec S16 32) a x).toNat < S16384.size a)
theorem k0_idx53_inb : ∀ (v445 : IVec S16 32) (k0_hw53 : k0_chk53 v445), ∀ a x, ((![v445] : Fin 1 → IVec S16 32) a x).toNat < S16384.size a := fun v445 k0_hw53 => k0_hw53

def k0_chk54 (v453 : IVec S16 32) : Prop :=
  (∀ a x, ((![v453] : Fin 1 → IVec S16 32) a x).toNat < S32768.size a)
theorem k0_idx54_inb : ∀ (v453 : IVec S16 32) (k0_hw54 : k0_chk54 v453), ∀ a x, ((![v453] : Fin 1 → IVec S16 32) a x).toNat < S32768.size a := fun v453 k0_hw54 => k0_hw54
def k0_off9 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c12_i32 : BitVec 32 := 12#32
  let v454 : BitVec 32 := Scalar.addi v39 c12_i32
  let c8_i32_141 : BitVec 32 := 8#32
  let v455 : BitVec 32 := Scalar.muli v454 c8_i32_141
  let v456 : Index := Scalar.indexCast v455
  ![v456.toNat]

def k0_chk55 (v465 : IVec S16 32) : Prop :=
  (∀ a x, ((![v465] : Fin 1 → IVec S16 32) a x).toNat < S16384.size a)
theorem k0_idx55_inb : ∀ (v465 : IVec S16 32) (k0_hw55 : k0_chk55 v465), ∀ a x, ((![v465] : Fin 1 → IVec S16 32) a x).toNat < S16384.size a := fun v465 k0_hw55 => k0_hw55

def k0_chk56 (v472 : IVec S16 32) : Prop :=
  (∀ a x, ((![v472] : Fin 1 → IVec S16 32) a x).toNat < S16384.size a)
theorem k0_idx56_inb : ∀ (v472 : IVec S16 32) (k0_hw56 : k0_chk56 v472), ∀ a x, ((![v472] : Fin 1 → IVec S16 32) a x).toNat < S16384.size a := fun v472 k0_hw56 => k0_hw56

def k0_chk57 (v479 : IVec S16 32) : Prop :=
  (∀ a x, ((![v479] : Fin 1 → IVec S16 32) a x).toNat < S16384.size a)
theorem k0_idx57_inb : ∀ (v479 : IVec S16 32) (k0_hw57 : k0_chk57 v479), ∀ a x, ((![v479] : Fin 1 → IVec S16 32) a x).toNat < S16384.size a := fun v479 k0_hw57 => k0_hw57

def k0_chk58 (v486 : IVec S16 32) : Prop :=
  (∀ a x, ((![v486] : Fin 1 → IVec S16 32) a x).toNat < S16384.size a)
theorem k0_idx58_inb : ∀ (v486 : IVec S16 32) (k0_hw58 : k0_chk58 v486), ∀ a x, ((![v486] : Fin 1 → IVec S16 32) a x).toNat < S16384.size a := fun v486 k0_hw58 => k0_hw58

def k0_chk59 (v493 : IVec S16 32) : Prop :=
  (∀ a x, ((![v493] : Fin 1 → IVec S16 32) a x).toNat < S16384.size a)
theorem k0_idx59_inb : ∀ (v493 : IVec S16 32) (k0_hw59 : k0_chk59 v493), ∀ a x, ((![v493] : Fin 1 → IVec S16 32) a x).toNat < S16384.size a := fun v493 k0_hw59 => k0_hw59

def k0_chk60 (v500 : IVec S16 32) : Prop :=
  (∀ a x, ((![v500] : Fin 1 → IVec S16 32) a x).toNat < S16384.size a)
theorem k0_idx60_inb : ∀ (v500 : IVec S16 32) (k0_hw60 : k0_chk60 v500), ∀ a x, ((![v500] : Fin 1 → IVec S16 32) a x).toNat < S16384.size a := fun v500 k0_hw60 => k0_hw60

def k0_chk61 (v507 : IVec S16 32) : Prop :=
  (∀ a x, ((![v507] : Fin 1 → IVec S16 32) a x).toNat < S16384.size a)
theorem k0_idx61_inb : ∀ (v507 : IVec S16 32) (k0_hw61 : k0_chk61 v507), ∀ a x, ((![v507] : Fin 1 → IVec S16 32) a x).toNat < S16384.size a := fun v507 k0_hw61 => k0_hw61

def k0_chk62 (v514 : IVec S16 32) : Prop :=
  (∀ a x, ((![v514] : Fin 1 → IVec S16 32) a x).toNat < S16384.size a)
theorem k0_idx62_inb : ∀ (v514 : IVec S16 32) (k0_hw62 : k0_chk62 v514), ∀ a x, ((![v514] : Fin 1 → IVec S16 32) a x).toNat < S16384.size a := fun v514 k0_hw62 => k0_hw62

def k0_chk63 (v522 : IVec S16 32) : Prop :=
  (∀ a x, ((![v522] : Fin 1 → IVec S16 32) a x).toNat < S32768.size a)
theorem k0_idx63_inb : ∀ (v522 : IVec S16 32) (k0_hw63 : k0_chk63 v522), ∀ a x, ((![v522] : Fin 1 → IVec S16 32) a x).toNat < S32768.size a := fun v522 k0_hw63 => k0_hw63
def k0_off10 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c14_i32 : BitVec 32 := 14#32
  let v523 : BitVec 32 := Scalar.addi v39 c14_i32
  let c8_i32_161 : BitVec 32 := 8#32
  let v524 : BitVec 32 := Scalar.muli v523 c8_i32_161
  let v525 : Index := Scalar.indexCast v524
  ![v525.toNat]

def k0_chk64 (v534 : IVec S16 32) : Prop :=
  (∀ a x, ((![v534] : Fin 1 → IVec S16 32) a x).toNat < S16384.size a)
theorem k0_idx64_inb : ∀ (v534 : IVec S16 32) (k0_hw64 : k0_chk64 v534), ∀ a x, ((![v534] : Fin 1 → IVec S16 32) a x).toNat < S16384.size a := fun v534 k0_hw64 => k0_hw64

def k0_chk65 (v541 : IVec S16 32) : Prop :=
  (∀ a x, ((![v541] : Fin 1 → IVec S16 32) a x).toNat < S16384.size a)
theorem k0_idx65_inb : ∀ (v541 : IVec S16 32) (k0_hw65 : k0_chk65 v541), ∀ a x, ((![v541] : Fin 1 → IVec S16 32) a x).toNat < S16384.size a := fun v541 k0_hw65 => k0_hw65

def k0_chk66 (v548 : IVec S16 32) : Prop :=
  (∀ a x, ((![v548] : Fin 1 → IVec S16 32) a x).toNat < S16384.size a)
theorem k0_idx66_inb : ∀ (v548 : IVec S16 32) (k0_hw66 : k0_chk66 v548), ∀ a x, ((![v548] : Fin 1 → IVec S16 32) a x).toNat < S16384.size a := fun v548 k0_hw66 => k0_hw66

def k0_chk67 (v555 : IVec S16 32) : Prop :=
  (∀ a x, ((![v555] : Fin 1 → IVec S16 32) a x).toNat < S16384.size a)
theorem k0_idx67_inb : ∀ (v555 : IVec S16 32) (k0_hw67 : k0_chk67 v555), ∀ a x, ((![v555] : Fin 1 → IVec S16 32) a x).toNat < S16384.size a := fun v555 k0_hw67 => k0_hw67

def k0_chk68 (v562 : IVec S16 32) : Prop :=
  (∀ a x, ((![v562] : Fin 1 → IVec S16 32) a x).toNat < S16384.size a)
theorem k0_idx68_inb : ∀ (v562 : IVec S16 32) (k0_hw68 : k0_chk68 v562), ∀ a x, ((![v562] : Fin 1 → IVec S16 32) a x).toNat < S16384.size a := fun v562 k0_hw68 => k0_hw68

def k0_chk69 (v569 : IVec S16 32) : Prop :=
  (∀ a x, ((![v569] : Fin 1 → IVec S16 32) a x).toNat < S16384.size a)
theorem k0_idx69_inb : ∀ (v569 : IVec S16 32) (k0_hw69 : k0_chk69 v569), ∀ a x, ((![v569] : Fin 1 → IVec S16 32) a x).toNat < S16384.size a := fun v569 k0_hw69 => k0_hw69

def k0_chk70 (v576 : IVec S16 32) : Prop :=
  (∀ a x, ((![v576] : Fin 1 → IVec S16 32) a x).toNat < S16384.size a)
theorem k0_idx70_inb : ∀ (v576 : IVec S16 32) (k0_hw70 : k0_chk70 v576), ∀ a x, ((![v576] : Fin 1 → IVec S16 32) a x).toNat < S16384.size a := fun v576 k0_hw70 => k0_hw70

def k0_chk71 (v583 : IVec S16 32) : Prop :=
  (∀ a x, ((![v583] : Fin 1 → IVec S16 32) a x).toNat < S16384.size a)
theorem k0_idx71_inb : ∀ (v583 : IVec S16 32) (k0_hw71 : k0_chk71 v583), ∀ a x, ((![v583] : Fin 1 → IVec S16 32) a x).toNat < S16384.size a := fun v583 k0_hw71 => k0_hw71

def k0_chk72 (v591 : IVec S16 32) : Prop :=
  (∀ a x, ((![v591] : Fin 1 → IVec S16 32) a x).toNat < S32768.size a)
theorem k0_idx72_inb : ∀ (v591 : IVec S16 32) (k0_hw72 : k0_chk72 v591), ∀ a x, ((![v591] : Fin 1 → IVec S16 32) a x).toNat < S32768.size a := fun v591 k0_hw72 => k0_hw72
def k0_off11 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2048_i32_181 : BitVec 32 := 2048#32
  let v592 : BitVec 32 := Scalar.muli v18 c2048_i32_181
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let v593 : BitVec 32 := Scalar.addi v592 v39
  let c2048_i32_182 : BitVec 32 := 2048#32
  let v594 : BitVec 32 := Scalar.muli v593 c2048_i32_182
  ![v594.toNat]
def k0_off12 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c0_i32_183 : BitVec 32 := 0#32
  let v595 : BitVec 32 := Scalar.addi v39 c0_i32_183
  let c8_i32_184 : BitVec 32 := 8#32
  let v596 : BitVec 32 := Scalar.muli v595 c8_i32_184
  let v597 : Index := Scalar.indexCast v596
  ![v597.toNat]

def k0_chk73 (v603 : IVec S16 32) : Prop :=
  (∀ a x, ((![v603] : Fin 1 → IVec S16 32) a x).toNat < S32768.size a)
theorem k0_idx73_inb : ∀ (v603 : IVec S16 32) (k0_hw73 : k0_chk73 v603), ∀ a x, ((![v603] : Fin 1 → IVec S16 32) a x).toNat < S32768.size a := fun v603 k0_hw73 => k0_hw73
def k0_off13 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c2_i32_187 : BitVec 32 := 2#32
  let v604 : BitVec 32 := Scalar.addi v39 c2_i32_187
  let c8_i32_188 : BitVec 32 := 8#32
  let v605 : BitVec 32 := Scalar.muli v604 c8_i32_188
  let v606 : Index := Scalar.indexCast v605
  ![v606.toNat]

def k0_chk74 (v612 : IVec S16 32) : Prop :=
  (∀ a x, ((![v612] : Fin 1 → IVec S16 32) a x).toNat < S32768.size a)
theorem k0_idx74_inb : ∀ (v612 : IVec S16 32) (k0_hw74 : k0_chk74 v612), ∀ a x, ((![v612] : Fin 1 → IVec S16 32) a x).toNat < S32768.size a := fun v612 k0_hw74 => k0_hw74
def k0_off14 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c4_i32_191 : BitVec 32 := 4#32
  let v613 : BitVec 32 := Scalar.addi v39 c4_i32_191
  let c8_i32_192 : BitVec 32 := 8#32
  let v614 : BitVec 32 := Scalar.muli v613 c8_i32_192
  let v615 : Index := Scalar.indexCast v614
  ![v615.toNat]

def k0_chk75 (v621 : IVec S16 32) : Prop :=
  (∀ a x, ((![v621] : Fin 1 → IVec S16 32) a x).toNat < S32768.size a)
theorem k0_idx75_inb : ∀ (v621 : IVec S16 32) (k0_hw75 : k0_chk75 v621), ∀ a x, ((![v621] : Fin 1 → IVec S16 32) a x).toNat < S32768.size a := fun v621 k0_hw75 => k0_hw75
def k0_off15 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c6_i32_195 : BitVec 32 := 6#32
  let v622 : BitVec 32 := Scalar.addi v39 c6_i32_195
  let c8_i32_196 : BitVec 32 := 8#32
  let v623 : BitVec 32 := Scalar.muli v622 c8_i32_196
  let v624 : Index := Scalar.indexCast v623
  ![v624.toNat]

def k0_chk76 (v630 : IVec S16 32) : Prop :=
  (∀ a x, ((![v630] : Fin 1 → IVec S16 32) a x).toNat < S32768.size a)
theorem k0_idx76_inb : ∀ (v630 : IVec S16 32) (k0_hw76 : k0_chk76 v630), ∀ a x, ((![v630] : Fin 1 → IVec S16 32) a x).toNat < S32768.size a := fun v630 k0_hw76 => k0_hw76
def k0_off16 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c8_i32_199 : BitVec 32 := 8#32
  let v631 : BitVec 32 := Scalar.addi v39 c8_i32_199
  let c8_i32_200 : BitVec 32 := 8#32
  let v632 : BitVec 32 := Scalar.muli v631 c8_i32_200
  let v633 : Index := Scalar.indexCast v632
  ![v633.toNat]

def k0_chk77 (v639 : IVec S16 32) : Prop :=
  (∀ a x, ((![v639] : Fin 1 → IVec S16 32) a x).toNat < S32768.size a)
theorem k0_idx77_inb : ∀ (v639 : IVec S16 32) (k0_hw77 : k0_chk77 v639), ∀ a x, ((![v639] : Fin 1 → IVec S16 32) a x).toNat < S32768.size a := fun v639 k0_hw77 => k0_hw77
def k0_off17 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c10_i32_203 : BitVec 32 := 10#32
  let v640 : BitVec 32 := Scalar.addi v39 c10_i32_203
  let c8_i32_204 : BitVec 32 := 8#32
  let v641 : BitVec 32 := Scalar.muli v640 c8_i32_204
  let v642 : Index := Scalar.indexCast v641
  ![v642.toNat]

def k0_chk78 (v648 : IVec S16 32) : Prop :=
  (∀ a x, ((![v648] : Fin 1 → IVec S16 32) a x).toNat < S32768.size a)
theorem k0_idx78_inb : ∀ (v648 : IVec S16 32) (k0_hw78 : k0_chk78 v648), ∀ a x, ((![v648] : Fin 1 → IVec S16 32) a x).toNat < S32768.size a := fun v648 k0_hw78 => k0_hw78
def k0_off18 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c12_i32_207 : BitVec 32 := 12#32
  let v649 : BitVec 32 := Scalar.addi v39 c12_i32_207
  let c8_i32_208 : BitVec 32 := 8#32
  let v650 : BitVec 32 := Scalar.muli v649 c8_i32_208
  let v651 : Index := Scalar.indexCast v650
  ![v651.toNat]

def k0_chk79 (v657 : IVec S16 32) : Prop :=
  (∀ a x, ((![v657] : Fin 1 → IVec S16 32) a x).toNat < S32768.size a)
theorem k0_idx79_inb : ∀ (v657 : IVec S16 32) (k0_hw79 : k0_chk79 v657), ∀ a x, ((![v657] : Fin 1 → IVec S16 32) a x).toNat < S32768.size a := fun v657 k0_hw79 => k0_hw79
def k0_off19 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_17 : BitVec 32 := 0#32
  let c1_i32_18 : BitVec 32 := 1#32
  let arg6 : BitVec 32 := Scf.iv c0_i32_17 c1_i32_18 k0_t2
  let c16_i32_20 : BitVec 32 := 16#32
  let v38 : BitVec 32 := Scalar.muli arg6 c16_i32_20
  let v39 : BitVec 32 := Scalar.addi v29 v38
  let c14_i32_211 : BitVec 32 := 14#32
  let v658 : BitVec 32 := Scalar.addi v39 c14_i32_211
  let c8_i32_212 : BitVec 32 := 8#32
  let v659 : BitVec 32 := Scalar.muli v658 c8_i32_212
  let v660 : Index := Scalar.indexCast v659
  ![v660.toNat]

def k0_chk80 (v666 : IVec S16 32) : Prop :=
  (∀ a x, ((![v666] : Fin 1 → IVec S16 32) a x).toNat < S32768.size a)
theorem k0_idx80_inb : ∀ (v666 : IVec S16 32) (k0_hw80 : k0_chk80 v666), ∀ a x, ((![v666] : Fin 1 → IVec S16 32) a x).toNat < S32768.size a := fun v666 k0_hw80 => k0_hw80
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.ABody.lean ====
/-
  The SparseCore kernel's chunk as a sequence of row-pair steps. The printed loop body is one long list of statements cut
  at fixed counts; here the same list is cut where the kernel's own Python loops cut it: eight row pairs that scatter
  ones, the copy of the finished rows to HBM, eight row pairs that scatter zeros back. One row pair is one definition
  over its offset and its row number, so the proof runs a row pair once.
-/
module

public import proofs.«01_k».proof.Defs
public import proofs.«01_k».proof.Proof.Gen.Adj
public import proofs.«01_k».proof.Proof.Gen.Adj.Skeleton

@[expose] public section

noncomputable section

namespace Cert.Proof.AD

open Cert.Adj Cert.Adj.Gen
open Idealize.ShloMosaic Idealize.SL.Sem

variable {F : FTy → Type} [FloatOps F]

/-- The effects of a tile's program at grid coordinates `i`. -/
abbrev TE (F : FTy → Type) (i : grid0.Coords) := TpuEff nD τ sig (Elt F) Λ₀ (.scVector ((i 0).castLE hcore0) ((i 1).castLE hsub0))

/-- The second half of the lanes: 1 on lanes 8 to 15 (the pair's second row), 0 on lanes 0 to 7. -/
abbrev second : IVec S16 32 := k0_pay2

/-- The words the gather of neighbour number `l` reads: eight times the row named, plus `l`. -/
def gIdx (nb : IVec S16 32) (l : BitVec 32) : IVec S16 32 := addi (muli nb (broadcast S16 8#32)) (broadcast S16 l)

/-- The words of the row buffer a pair's scatter names: the row in the chunk times 2048, plus the neighbour. -/
def sIdx (c : BitVec 32) (nb : IVec S16 32) : IVec S16 32 :=
  addi (muli (addi (broadcast S16 c) second) (broadcast S16 2048#32)) nb

/-- One gather of a row pair: neighbour `l` of every named row, compared with the rows of the pair. -/
def gStep (i : grid0.Coords) (arg4 : Memref sig .scVector .vmem S16384 .i32) (nb : Vec F S16 .i32) (row : IVec S16 32) (l : BitVec 32)
    (acc : IVec S16 1) : Prog (TE F i) (IVec S16 1) := do
  have v : IVec S16 32 := gIdx nb l
  have hw : k0_chk1 v := (← Prog.lift (TpuEff.assume (k0_chk1 v) (k0_chk1.dec v))).down
  let g : Vec F S16 .i32 ← SparseCore.vectorLoadIdx arg4 ![v] (k0_idx1_inb v hw) (View.loads_vmem h_S16384)
  pure (ori acc (cmpi .eq g row))

/-- The row numbers of a pair, lane by lane. -/
def rowVec (row : BitVec 32) : IVec S16 32 := addi (broadcast S16 row) second

/-- One row pair: its sixteen neighbours, the eight gathers that ask which of them name the row back, and the scatter of
    ones at those that do. -/
def pairUp (i : grid0.Coords) (arg4 : Memref sig .scVector .vmem S16384 .i32) (arg5 : Memref sig .scVector .vmem S32768 .f32)
    (off : Fin 1 → ℕ) (hoff : ∀ a, off a + S16.size a ≤ S16384.size a) (v39 c : BitVec 32) : Prog (TE F i) PUnit := do
  let nb : Vec F S16 .i32 ← Prog.lift (.load arg4 (Rect.unit (s := S16384) off S16.size hoff).toLoadRect (View.loadsAt_vmem h_S16))
  have row : IVec S16 32 := rowVec (Scalar.addi v39 c)
  let a0 ← gStep i arg4 nb row 0#32 (cmpi .slt (iota .scVector S16 32 [0] iota_S16_d0_w32_scVector) (broadcast S16 0#32))
  let a1 ← gStep i arg4 nb row 1#32 a0
  let a2 ← gStep i arg4 nb row 2#32 a1
  let a3 ← gStep i arg4 nb row 3#32 a2
  let a4 ← gStep i arg4 nb row 4#32 a3
  let a5 ← gStep i arg4 nb row 5#32 a4
  let a6 ← gStep i arg4 nb row 6#32 a5
  let a7 ← gStep i arg4 nb row 7#32 a6
  have v : IVec S16 32 := sIdx c nb
  have hw : k0_chk9 v := (← Prog.lift (TpuEff.assume (k0_chk9 v) (k0_chk9.dec v))).down
  SparseCore.vectorStoreIdx arg5 ![v] (k0_pay3 (F := F)) a7 false (k0_idx9_inb v hw) (View.stores_vmem_bits_univ h_S32768 rfl)

/-- One row pair of the clearing half: the same sixteen neighbours, zeros at all of them. -/
def pairDown (i : grid0.Coords) (arg4 : Memref sig .scVector .vmem S16384 .i32) (arg5 : Memref sig .scVector .vmem S32768 .f32)
    (off : Fin 1 → ℕ) (hoff : ∀ a, off a + S16.size a ≤ S16384.size a) (c : BitVec 32) : Prog (TE F i) PUnit := do
  let nb : Vec F S16 .i32 ← Prog.lift (.load arg4 (Rect.unit (s := S16384) off S16.size hoff).toLoadRect (View.loadsAt_vmem h_S16))
  have v : IVec S16 32 := sIdx c nb
  have hw : k0_chk9 v := (← Prog.lift (TpuEff.assume (k0_chk9 v) (k0_chk9.dec v))).down
  SparseCore.vectorStoreIdx arg5 ![v] (k0_pay1 (F := F)) (fun _ => 1#1) false (k0_idx9_inb v hw) (View.stores_vmem_bits_univ h_S32768 rfl)

/-- The chunk, cut as the kernel's Python loops cut it. -/
def chunk (i : grid0.Coords) (arg3 : Memref sig .scVector .hbm S16777216 .f32)
    (arg4 : Memref sig .scVector .vmem S16384 .i32) (arg5 : Memref sig .scVector .vmem S32768 .f32) (harg5 : arg5.IsWhole)
    (r1 : DmaSems sig S_) (v39 : BitVec 32) (k : Fin k0_t2_loop.trips) : Prog (TE F i) PUnit := do
  pairUp i arg4 arg5 (k0_off3 i k) (k0_off3_inb i k) v39 0#32
  pairUp i arg4 arg5 (k0_off4 i k) (k0_off4_inb i k) v39 2#32
  pairUp i arg4 arg5 (k0_off5 i k) (k0_off5_inb i k) v39 4#32
  pairUp i arg4 arg5 (k0_off6 i k) (k0_off6_inb i k) v39 6#32
  pairUp i arg4 arg5 (k0_off7 i k) (k0_off7_inb i k) v39 8#32
  pairUp i arg4 arg5 (k0_off8 i k) (k0_off8_inb i k) v39 10#32
  pairUp i arg4 arg5 (k0_off9 i k) (k0_off9_inb i k) v39 12#32
  pairUp i arg4 arg5 (k0_off10 i k) (k0_off10_inb i k) v39 14#32
  Prog.lift (.enqueueDma arg5 (.here (arg3.slice (Rect.unit (s := S16777216) (k0_off11 i k) S32768.size (k0_off11_inb i k)) (fun _ => rfl))) (.dma r1.sem) harg5.wordExact (View.wordExact_bits rfl) ⟨Or.inl rfl, trivial⟩)
  Prog.lift (.waitDma2 r1.sem arg5 (arg3.slice (Rect.unit (s := S16777216) (k0_off11 i k) S32768.size (k0_off11_inb i k)) (fun _ => rfl)) harg5.wordExact (View.wordExact_bits rfl))
  pairDown i arg4 arg5 (k0_off12 i k) (k0_off12_inb i k) 0#32
  pairDown i arg4 arg5 (k0_off13 i k) (k0_off13_inb i k) 2#32
  pairDown i arg4 arg5 (k0_off14 i k) (k0_off14_inb i k) 4#32
  pairDown i arg4 arg5 (k0_off15 i k) (k0_off15_inb i k) 6#32
  pairDown i arg4 arg5 (k0_off16 i k) (k0_off16_inb i k) 8#32
  pairDown i arg4 arg5 (k0_off17 i k) (k0_off17_inb i k) 10#32
  pairDown i arg4 arg5 (k0_off18 i k) (k0_off18_inb i k) 12#32
  pairDown i arg4 arg5 (k0_off19 i k) (k0_off19_inb i k) 14#32

set_option maxRecDepth 65536 in
set_option maxHeartbeats 4000000 in
/-- The printed body is the chunk: both unfold to the same list of statements. -/
theorem body_eq_chunk (i : grid0.Coords) (arg2 : Memref sig .scVector .hbm S4x16384 .i32) (harg2 : arg2.IsWhole) (arg3 : Memref sig .scVector .hbm S16777216 .f32) (harg3 : arg3.IsWhole) (arg4 : Memref sig .scVector .vmem S16384 .i32) (harg4 : arg4.IsWhole) (arg5 : Memref sig .scVector .vmem S32768 .f32) (harg5 : arg5.IsWhole) (r0 r1 : DmaSems sig S_) (v18 v29 : BitVec 32) (k : Fin k0_t2_loop.trips) (u : Unit) :
    k0_t2_body (F := F) i arg2 harg2 arg3 harg3 arg4 harg4 arg5 harg5 r0 r1 v18 v29 (iota .scVector S16 32 [0] iota_S16_d0_w32_scVector) k u
      = chunk i arg3 arg4 arg5 harg5 r1 (Scalar.addi v29 (Scalar.muli (Scf.iv 0#32 1#32 k) 16#32)) k := by
  rfl

end Cert.Proof.AD

end
-- ==== Proof.ATile.lean ====
/-
  The row pairs of the SparseCore kernel, run: each takes the tile's table and row buffer from one state of
  `bufUp`/`bufDown` to the next.
-/
module

public import proofs.«01_k».proof.Proof.APure
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.AD

open Cert.Adj Cert.Adj.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.Tactic
open SparseCore (S V T)
open SparseCore.Cfg (HIx Pay)

variable {F : FTy → Type} [FloatOps F]

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev 𝒱₀ : Variants := Variants.none

local notation "inW" => (Memref.whole Cert.Adj.main_arg0_scv : Memref Cert.Adj.sig Kind.scVector Space.hbm Cert.Adj.S4x16384 EltTy.i32)
local notation "outW" => (Memref.whole Cert.Adj.main_v0_scv : Memref Cert.Adj.sig Kind.scVector Space.hbm Cert.Adj.S16777216 EltTy.f32)
local notation "tblW" => (Memref.whole Cert.Adj.cc0_scratch0 : Memref Cert.Adj.sig Kind.scVector Space.vmem Cert.Adj.S16384 EltTy.i32)
local notation "bufW" => (Memref.whole Cert.Adj.cc0_scratch1 : Memref Cert.Adj.sig Kind.scVector Space.vmem Cert.Adj.S32768 EltTy.f32)

abbrev cV (i : grid0.Coords) : Fin τ.nSC := (i 0).castLE hcore0
abbrev sV (i : grid0.Coords) : Fin τ.nSub := (i 1).castLE hsub0

section Pair

variable (d : Dev nD) (i : grid0.Coords)

abbrev thr : Thread nD τ := V d (cV i) (sV i)

/-- The tile's table whole at `f`, its row buffer whole at `f`. -/
abbrev tblPts (f : Buf (Elt F) ((thr d i).loc cc0_scratch0)) : sProp 𝕄 := (tblW).view.loc (thr d i) ↦{fullShare} f
abbrev bufPts (f : Buf (Elt F) ((thr d i).loc cc0_scratch1)) : sProp 𝕄 := (bufW).view.loc (thr d i) ↦{fullShare} f

/-- The table's word number `n`. -/
def tabOf (f : Vec F S16384 .i32) : Tab := fun n => if h : n < 16384 then f (Shape.ofLane (d := ![16384]) ⟨n, h⟩) else 0#32

omit [FloatOps F] in
theorem tabOf_idx (f : Vec F S16384 .i32) (j : S16384.Idx) : f j = tabOf f (j 0).val := by
  have h : (j 0).val < 16384 := (j 0).isLt
  unfold tabOf
  rw [dif_pos h]
  congr 1
  funext a; obtain rfl : a = 0 := Subsingleton.elim _ _; rfl

omit [FloatOps F] in
theorem tabOf_lt {f : Vec F S16384 .i32} (h : ∀ j, (f j).toNat < 2048) (n : ℕ) : (tabOf f n).toNat < 2048 := by
  unfold tabOf; split
  · exact h _
  · decide

omit [FloatOps F] in
theorem read_tbl (f : Vec F S16384 .i32) : ((tblW).access (.whole S16384)).read (Elt F) f = f := Memref.read_access_whole (Elt F) cc0_scratch0 f
omit [FloatOps F] in
theorem read_buf (f : Vec F S32768 .f32) : ((bufW).access (.whole S32768)).read (Elt F) f = f := Memref.read_access_whole (Elt F) cc0_scratch1 f
omit [FloatOps F] in
theorem write_buf (f w : Vec F S32768 .f32) : ((bufW).access (.whole S32768)).write (Elt F) f w Finset.univ = w :=
  Memref.write_access_whole_univ (Elt F) cc0_scratch1 f w

/-- The sixteen words a pair loads. -/
theorem load_tbl (f : Vec F S16384 .i32) (off : Fin 1 → ℕ) (hoff : ∀ a, off a + S16.size a ≤ S16384.size a) (x : S16.Idx) :
    (tblW).view.readAt (Elt F) (Rect.unit (s := S16384) off S16.size hoff).toLoadRect f x = tabOf f (off 0 + (x 0).val) := by
  rw [View.readAt_apply]
  simp only [Memref.view_whole, View.read_whole]
  refine (tabOf_idx (F := F) f _).trans ?_
  congr 1
  rw [LoadRect.idx_apply]
  show off 0 + 1 * (x 0).val = _
  omega

theorem wp_gStep {α : Type} {Q : α → sProp 𝕄} {k : IVec S16 1 → Prog (TE F i) α}
    {f : Vec F S16384 .i32} {nb row : IVec S16 32} (hnb : ∀ x, (nb x).toNat < 2048) {l : ℕ} (hl : l < 8) {acc : IVec S16 1} :
    (tblPts (F := F) d i f)
      ⊢ iprop((tblPts (F := F) d i f -∗ wp frame (wpE (defs₀ (F := F)) 𝒱₀ (thr d i) none) Set.univ (k (gAcc (tabOf f) nb row l acc)) Q)
        -∗ wp frame (wpE (defs₀ (F := F)) 𝒱₀ (thr d i) none) Set.univ (gStep i tblW nb row (BitVec.ofNat 32 l) acc >>= k) Q) := by
  have hw : k0_chk1 (gIdx nb (BitVec.ofNat 32 l)) := by
    intro a x
    obtain rfl : a = 0 := Subsingleton.elim _ _
    show (gIdx nb (BitVec.ofNat 32 l) x).toNat < 16384
    rw [gIdx_toNat hl x (hnb x)]
    have := hnb x; omega
  unfold gStep
  simp only [Prog.lift, Prog.bind_op, Prog.bind_ret, Prog.pure_eq_ret, bind_assoc]
  rw [wp_assume_of _ _ _ _ hw]
  iintro H Hk
  iapply (SparseCore.wp_vectorLoadIdx 𝒱₀ (thr d i) none Set.univ (base := tblW) (S := Finset.univ) (q := fullShare) (Finset.subset_univ _)) $$ H
  iintro H
  have e : ori acc (cmpi .eq (loadIdx (((tblW).access (.whole S16384)).read (Elt F) f) ![gIdx nb (BitVec.ofNat 32 l)] (k0_idx1_inb _ hw)) row)
      = gAcc (tabOf f) nb row l acc := by
    funext x
    show acc x ||| BitVec.ofBool (_ == row x) = acc x ||| BitVec.ofBool (_ == row x)
    congr 3
    rw [read_tbl]
    show f _ = _
    refine (tabOf_idx (F := F) f _).trans ?_
    congr 1
    show (gIdx nb (BitVec.ofNat 32 l) x).toNat = _
    exact gIdx_toNat hl x (hnb x)
  rw [← e]
  iapply Hk; iexact H

/-- What a scatter leaves in the row buffer, at the value the pure lemma gives it. -/
theorem stored {f g : Vec F S32768 .f32} {idxs : IVec S16 32} {w : Vec F S16 .f32} {mask : IVec S16 1}
    (h : ∀ a x, ((![idxs] : Fin 1 → IVec S16 32) a x).toNat < S32768.size a) (e : storeIdx f ![idxs] w mask false h = g) :
    (((bufW).access (.whole S32768)).loc (thr d i) ↦[((bufW).access (.whole S32768)).set]{fullShare}
        ((bufW).access (.whole S32768)).write (Elt F) f
          (storeIdx (((bufW).access (.whole S32768)).read (Elt F) f) ![idxs] w mask false h) Finset.univ : sProp 𝕄)
      = bufPts (F := F) d i g := by
  have hset : ((bufW).access (.whole S32768)).set = Finset.univ := Memref.set_access_whole cc0_scratch1
  rw [write_buf, read_buf, hset, e]

theorem wp_pairUp {α : Type} {Q : α → sProp 𝕄} {k' : PUnit → Prog (TE F i) α}
    {f : Vec F S16384 .i32} (hf : ∀ j, (f j).toNat < 2048) {R v : ℕ} (hv : v < 8) (hR : R + 16 ≤ 2048)
    {off : Fin 1 → ℕ} {hoff : ∀ a, off a + S16.size a ≤ S16384.size a} (hoffv : off 0 = 8 * (R + 2 * v)) :
    iprop(tblPts (F := F) d i f ∗ bufPts (F := F) d i (bufUp (tabOf f) R v))
      ⊢ iprop((iprop(tblPts (F := F) d i f ∗ bufPts (F := F) d i (bufUp (tabOf f) R (v + 1)))
            -∗ wp frame (wpE (defs₀ (F := F)) 𝒱₀ (thr d i) none) Set.univ (k' ⟨⟩) Q)
        -∗ wp frame (wpE (defs₀ (F := F)) 𝒱₀ (thr d i) none) Set.univ
          (pairUp i tblW bufW off hoff (BitVec.ofNat 32 R) (BitVec.ofNat 32 (2 * v)) >>= k') Q) := by
  unfold pairUp
  simp only [Prog.lift, Prog.bind_op, Prog.bind_ret, bind_assoc]
  iintro ⟨Ht, Hb⟩ Hk
  iapply (wp_load 𝒱₀ (thr d i) none Set.univ (m := tblW) (S := Finset.univ) (Finset.subset_univ _)) $$ Ht
  iintro Ht
  have hnb : ∀ x : S16.Idx, (tblW).view.readAt (Elt F) (Rect.unit (s := S16384) off S16.size hoff).toLoadRect f x
      = tabOf f (8 * (R + 2 * v) + (x 0).val) := fun x => by rw [load_tbl, hoffv]
  have hlt : ∀ x : S16.Idx, ((tblW).view.readAt (Elt F) (Rect.unit (s := S16384) off S16.size hoff).toLoadRect f x).toNat < 2048 :=
    fun x => by rw [hnb]; exact tabOf_lt hf _
  generalize (tblW).view.readAt (Elt F) (Rect.unit (s := S16384) off S16.size hoff).toLoadRect f = nb at hnb hlt ⊢
  have hrow : Scalar.addi (BitVec.ofNat 32 R) (BitVec.ofNat 32 (2 * v)) = BitVec.ofNat 32 (R + 2 * v) :=
    (BitVec.ofNat_add R (2 * v)).symm
  rw [hrow]
  iapply (wp_gStep d i hlt (l := 0) (by omega)) $$ Ht; iintro Ht
  iapply (wp_gStep d i hlt (l := 1) (by omega)) $$ Ht; iintro Ht
  iapply (wp_gStep d i hlt (l := 2) (by omega)) $$ Ht; iintro Ht
  iapply (wp_gStep d i hlt (l := 3) (by omega)) $$ Ht; iintro Ht
  iapply (wp_gStep d i hlt (l := 4) (by omega)) $$ Ht; iintro Ht
  iapply (wp_gStep d i hlt (l := 5) (by omega)) $$ Ht; iintro Ht
  iapply (wp_gStep d i hlt (l := 6) (by omega)) $$ Ht; iintro Ht
  iapply (wp_gStep d i hlt (l := 7) (by omega)) $$ Ht; iintro Ht
  have hw : k0_chk9 (sIdx (BitVec.ofNat 32 (2 * v)) nb) := by
    intro a x
    obtain rfl : a = 0 := Subsingleton.elim _ _
    show (sIdx (BitVec.ofNat 32 (2 * v)) nb x).toNat < 32768
    rw [sIdx_toNat (by omega) x (hlt x)]
    have := hlt x; have := x_lt x; omega
  rw [wp_assume_of _ _ _ _ hw]
  have hset : ((bufW).access (.whole S32768)).set = Finset.univ := Memref.set_access_whole cc0_scratch1
  have hb0 : (bufPts (F := F) d i (bufUp (tabOf f) R v)) = (((bufW).access (.whole S32768)).loc (thr d i) ↦[((bufW).access (.whole S32768)).set]{fullShare} bufUp (tabOf f) R v : sProp 𝕄) := by
    rw [hset]
  ihave Hb := (Entails.of_eq hb0) $$ Hb
  iapply (SparseCore.wp_vectorStoreIdx 𝒱₀ (thr d i) none Set.univ (base := bufW)) $$ Hb
  iintro Hb
  have hmask : ∀ x, accAll (tabOf f) nb (rowVec (BitVec.ofNat 32 (R + 2 * v))) x = 1 ↔ nbr (tabOf f) (nb x).toNat (R + 2 * v + (x 0).val / 8) :=
    fun x => accAll_one (tabOf_lt hf) (by omega) x
  have hs := scatter_up (F := F) (tb := tabOf f) (R := R) hv hlt hnb hmask (k0_idx9_inb _ hw)
  unfold accAll acc0 at hs
  ihave Hb := (Entails.of_eq (stored (F := F) d i (k0_idx9_inb _ hw) hs)) $$ Hb
  iapply Hk
  isplitl [Ht]; · iexact Ht
  iexact Hb

theorem wp_pairDown {α : Type} {Q : α → sProp 𝕄} {k' : PUnit → Prog (TE F i) α}
    {f : Vec F S16384 .i32} (hf : ∀ j, (f j).toNat < 2048) {R v : ℕ} (hv : v < 8) (hR : R + 16 ≤ 2048)
    {off : Fin 1 → ℕ} {hoff : ∀ a, off a + S16.size a ≤ S16384.size a} (hoffv : off 0 = 8 * (R + 2 * v)) :
    iprop(tblPts (F := F) d i f ∗ bufPts (F := F) d i (bufDown (tabOf f) R v))
      ⊢ iprop((iprop(tblPts (F := F) d i f ∗ bufPts (F := F) d i (bufDown (tabOf f) R (v + 1)))
            -∗ wp frame (wpE (defs₀ (F := F)) 𝒱₀ (thr d i) none) Set.univ (k' ⟨⟩) Q)
        -∗ wp frame (wpE (defs₀ (F := F)) 𝒱₀ (thr d i) none) Set.univ
          (pairDown i tblW bufW off hoff (BitVec.ofNat 32 (2 * v)) >>= k') Q) := by
  unfold pairDown
  simp only [Prog.lift, Prog.bind_op, Prog.bind_ret, bind_assoc]
  iintro ⟨Ht, Hb⟩ Hk
  iapply (wp_load 𝒱₀ (thr d i) none Set.univ (m := tblW) (S := Finset.univ) (Finset.subset_univ _)) $$ Ht
  iintro Ht
  have hnb : ∀ x : S16.Idx, (tblW).view.readAt (Elt F) (Rect.unit (s := S16384) off S16.size hoff).toLoadRect f x
      = tabOf f (8 * (R + 2 * v) + (x 0).val) := fun x => by rw [load_tbl, hoffv]
  have hlt : ∀ x : S16.Idx, ((tblW).view.readAt (Elt F) (Rect.unit (s := S16384) off S16.size hoff).toLoadRect f x).toNat < 2048 :=
    fun x => by rw [hnb]; exact tabOf_lt hf _
  generalize (tblW).view.readAt (Elt F) (Rect.unit (s := S16384) off S16.size hoff).toLoadRect f = nb at hnb hlt ⊢
  have hw : k0_chk9 (sIdx (BitVec.ofNat 32 (2 * v)) nb) := by
    intro a x
    obtain rfl : a = 0 := Subsingleton.elim _ _
    show (sIdx (BitVec.ofNat 32 (2 * v)) nb x).toNat < 32768
    rw [sIdx_toNat (by omega) x (hlt x)]
    have := hlt x; have := x_lt x; omega
  rw [wp_assume_of _ _ _ _ hw]
  have hset : ((bufW).access (.whole S32768)).set = Finset.univ := Memref.set_access_whole cc0_scratch1
  have hb0 : (bufPts (F := F) d i (bufDown (tabOf f) R v)) = (((bufW).access (.whole S32768)).loc (thr d i) ↦[((bufW).access (.whole S32768)).set]{fullShare} bufDown (tabOf f) R v : sProp 𝕄) := by
    rw [hset]
  ihave Hb := (Entails.of_eq hb0) $$ Hb
  iapply (SparseCore.wp_vectorStoreIdx 𝒱₀ (thr d i) none Set.univ (base := bufW)) $$ Hb
  iintro Hb
  ihave Hb := (Entails.of_eq (stored (F := F) d i (k0_idx9_inb _ hw)
    (scatter_down (F := F) (tb := tabOf f) (R := R) hv hlt hnb (k0_idx9_inb _ hw)))) $$ Hb
  iapply Hk
  isplitl [Ht]; · iexact Ht
  iexact Hb

end Pair

end Cert.Proof.AD

end
-- ==== Proof.ARun.lean ====
/-
  The SparseCore kernel on one tile: the table's copy in, the row buffer's clearing, the sixteen chunks. Tile number
  `wid` fills the 256 rows from `row0` on of batch `bat`, that is the words `[524288 * wid, 524288 * (wid + 1))` of the
  flat output.
-/
module

public import proofs.«01_k».proof.Proof.ATile

@[expose] public section

noncomputable section

namespace Cert.Proof.AD

open Cert.Adj Cert.Adj.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.Tactic
open SparseCore (S V T)
open SparseCore.Cfg (HIx Pay)

variable {F : FTy → Type} [FloatOps F]

local notation "𝕄" => MT nD τ sig (HIx 1) (Elt F) ℕ UU ℕ

local notation "inW" => (Memref.whole Cert.Adj.main_arg0_scv : Memref Cert.Adj.sig Kind.scVector Space.hbm Cert.Adj.S4x16384 EltTy.i32)
local notation "outW" => (Memref.whole Cert.Adj.main_v0_scv : Memref Cert.Adj.sig Kind.scVector Space.hbm Cert.Adj.S16777216 EltTy.f32)
local notation "tblW" => (Memref.whole Cert.Adj.cc0_scratch0 : Memref Cert.Adj.sig Kind.scVector Space.vmem Cert.Adj.S16384 EltTy.i32)
local notation "bufW" => (Memref.whole Cert.Adj.cc0_scratch1 : Memref Cert.Adj.sig Kind.scVector Space.vmem Cert.Adj.S32768 EltTy.f32)

/-! ## Where a tile works -/

/-- A tile's number, its batch, the first of its rows. -/
def wid (i : grid0.Coords) : ℕ := 2 * (i 1).val + (i 0).val
def bat (i : grid0.Coords) : ℕ := wid i / 8
def row0 (i : grid0.Coords) : ℕ := wid i % 8 * 256

theorem wid_lt (i : grid0.Coords) : wid i < 32 := by
  have h0 : (i 0).val < 2 := (i 0).isLt
  have h1 : (i 1).val < 16 := (i 1).isLt
  unfold wid; omega

theorem off1_eq (i : grid0.Coords) : k0_off1 i = ![bat i, 0] := by revert i; decide +kernel
theorem off3_eq (i : grid0.Coords) (k : Fin k0_t2_loop.trips) : k0_off3 i k 0 = 8 * (row0 i + 16 * k.val + 2 * 0) := by revert i k; decide +kernel
theorem off4_eq (i : grid0.Coords) (k : Fin k0_t2_loop.trips) : k0_off4 i k 0 = 8 * (row0 i + 16 * k.val + 2 * 1) := by revert i k; decide +kernel
theorem off5_eq (i : grid0.Coords) (k : Fin k0_t2_loop.trips) : k0_off5 i k 0 = 8 * (row0 i + 16 * k.val + 2 * 2) := by revert i k; decide +kernel
theorem off6_eq (i : grid0.Coords) (k : Fin k0_t2_loop.trips) : k0_off6 i k 0 = 8 * (row0 i + 16 * k.val + 2 * 3) := by revert i k; decide +kernel
theorem off7_eq (i : grid0.Coords) (k : Fin k0_t2_loop.trips) : k0_off7 i k 0 = 8 * (row0 i + 16 * k.val + 2 * 4) := by revert i k; decide +kernel
theorem off8_eq (i : grid0.Coords) (k : Fin k0_t2_loop.trips) : k0_off8 i k 0 = 8 * (row0 i + 16 * k.val + 2 * 5) := by revert i k; decide +kernel
theorem off9_eq (i : grid0.Coords) (k : Fin k0_t2_loop.trips) : k0_off9 i k 0 = 8 * (row0 i + 16 * k.val + 2 * 6) := by revert i k; decide +kernel
theorem off10_eq (i : grid0.Coords) (k : Fin k0_t2_loop.trips) : k0_off10 i k 0 = 8 * (row0 i + 16 * k.val + 2 * 7) := by revert i k; decide +kernel
theorem off11_eq (i : grid0.Coords) (k : Fin k0_t2_loop.trips) : k0_off11 i k = ![524288 * wid i + 32768 * k.val] := by revert i k; decide +kernel
theorem off12_eq (i : grid0.Coords) (k : Fin k0_t2_loop.trips) : k0_off12 i k 0 = 8 * (row0 i + 16 * k.val + 2 * 0) := by revert i k; decide +kernel
theorem off13_eq (i : grid0.Coords) (k : Fin k0_t2_loop.trips) : k0_off13 i k 0 = 8 * (row0 i + 16 * k.val + 2 * 1) := by revert i k; decide +kernel
theorem off14_eq (i : grid0.Coords) (k : Fin k0_t2_loop.trips) : k0_off14 i k 0 = 8 * (row0 i + 16 * k.val + 2 * 2) := by revert i k; decide +kernel
theorem off15_eq (i : grid0.Coords) (k : Fin k0_t2_loop.trips) : k0_off15 i k 0 = 8 * (row0 i + 16 * k.val + 2 * 3) := by revert i k; decide +kernel
theorem off16_eq (i : grid0.Coords) (k : Fin k0_t2_loop.trips) : k0_off16 i k 0 = 8 * (row0 i + 16 * k.val + 2 * 4) := by revert i k; decide +kernel
theorem off17_eq (i : grid0.Coords) (k : Fin k0_t2_loop.trips) : k0_off17 i k 0 = 8 * (row0 i + 16 * k.val + 2 * 5) := by revert i k; decide +kernel
theorem off18_eq (i : grid0.Coords) (k : Fin k0_t2_loop.trips) : k0_off18 i k 0 = 8 * (row0 i + 16 * k.val + 2 * 6) := by revert i k; decide +kernel
theorem off19_eq (i : grid0.Coords) (k : Fin k0_t2_loop.trips) : k0_off19 i k 0 = 8 * (row0 i + 16 * k.val + 2 * 7) := by revert i k; decide +kernel

/-- The first row as the kernel computes it: its number's remainder by 8 (Python's, from the machine's), times 256. -/
def rowW (i : grid0.Coords) : BitVec 32 :=
  let v1 := Scalar.addi (Scalar.muli (BitVec.ofNat 32 (i 1).val) 2#32) (BitVec.ofNat 32 (i 0).val)
  let v20 := Scalar.select (Scalar.cmpi .eq 8#32 0#32) 1#32 8#32
  let v21 := Scalar.remsi v1 v20
  let v26 := Scalar.andi (Scalar.xori (Scalar.cmpi .slt v21 0#32) (Scalar.cmpi .slt v20 0#32)) (Scalar.cmpi .ne v21 0#32)
  Scalar.muli (Scalar.select v26 (Scalar.addi v21 v20) v21) 256#32

theorem rowW_eq (i : grid0.Coords) (k : Fin k0_t2_loop.trips) :
    Scalar.addi (rowW i) (Scalar.muli (Scf.iv 0#32 1#32 k) 16#32) = BitVec.ofNat 32 (row0 i + 16 * k.val) := by
  revert i k; decide +kernel

/-- The tile's row of the table in HBM. -/
abbrev srcRow (i : grid0.Coords) : Memref sig .scVector .hbm S16384 .i32 :=
  ((inW).slice (Rect.unit (s := S4x16384) (k0_off1 i) S1x16384.size (k0_off1_inb i)) (fun _ => rfl)).squeeze S16384 squeezes_S1x16384_S16384

/-- The kernel on the tile's buffers, its chunks as the row pairs. -/
def kern (i : grid0.Coords) : Prog (TE F i) PUnit := do
  Prog.lift (.enqueueDma (srcRow i) (.here tblW) (.dma cc0_scoped0.sem) ((View.wordExact_bits rfl).reshape _ _) (Memref.isWhole_whole _).wordExact ⟨Or.inl rfl, trivial⟩)
  Prog.lift (.waitDma2 cc0_scoped0.sem (srcRow i) tblW ((View.wordExact_bits rfl).reshape _ _) (Memref.isWhole_whole _).wordExact)
  Scf.Loop.for k0_t1_loop k0_t1_ok ⟨⟩ (k0_t1_body i inW (Memref.isWhole_whole _) outW (Memref.isWhole_whole _) tblW (Memref.isWhole_whole _) bufW (Memref.isWhole_whole _) cc0_scoped0 cc0_scoped1)
  Scf.Loop.for k0_t2_loop k0_t2_ok ⟨⟩ (fun k _ => chunk i outW tblW bufW (Memref.isWhole_whole _) cc0_scoped1 (Scalar.addi (rowW i) (Scalar.muli (Scf.iv 0#32 1#32 k) 16#32)) k)
  pure ⟨⟩

set_option maxRecDepth 65536 in
set_option maxHeartbeats 4000000 in
theorem kern_eq (i : grid0.Coords) :
    cc0_adj_kernel (F := F) i inW (Memref.isWhole_whole _) outW (Memref.isWhole_whole _) tblW (Memref.isWhole_whole _) bufW (Memref.isWhole_whole _) cc0_scoped0 cc0_scoped1
      = kern i := by
  rw [cc0_adj_kernel_eq_skeleton]; unfold cc0_adj_kernel_skel
  rw [k0_part16_eq_skeleton]
  have h : ∀ v18 v29, k0_t2_body (F := F) i inW (Memref.isWhole_whole _) outW (Memref.isWhole_whole _) tblW (Memref.isWhole_whole _) bufW (Memref.isWhole_whole _) cc0_scoped0 cc0_scoped1 v18 v29 (iota .scVector S16 32 [0] iota_S16_d0_w32_scVector)
      = fun (k : Fin k0_t2_loop.trips) (_ : PUnit) => chunk i outW tblW bufW (Memref.isWhole_whole _) cc0_scoped1 (Scalar.addi v29 (Scalar.muli (Scf.iv 0#32 1#32 k) 16#32)) k :=
    fun v18 v29 => funext fun k => funext fun u => body_eq_chunk i _ _ _ _ _ _ _ _ _ _ v18 v29 k u
  simp only [h]
  rfl

/-! ## What it computes -/

/-- The index `(b, n)` of the table. -/
def ix2 (b : Fin 4) (n : Fin 16384) : S4x16384.Idx := fun
  | ⟨0, _⟩ => b
  | ⟨1, _⟩ => n
  | ⟨_ + 2, h⟩ => absurd h (Nat.not_lt.2 (Nat.le_add_left _ _))

/-- Row `b` of the table of neighbours, by word number. -/
def tabRow (tab : Vec F S4x16384 .i32) (b : ℕ) : Tab := fun n =>
  if h : b < 4 ∧ n < 16384 then tab (ix2 ⟨b, h.1⟩ ⟨n, h.2⟩) else 0#32

/-- The flat adjacency: word `(b, p, q)` is one where `p` and `q` name each other in batch `b`, zero elsewhere. -/
def outF (tab : Vec F S4x16384 .i32) : Vec F S16777216 .f32 := fun p =>
  if bothNbr (tabRow tab ((p 0).val / 4194304)) ((p 0).val / 2048 % 2048) ((p 0).val % 2048) then f1 else f0

/-- The words tile number `w` fills. -/
def part (w : ℕ) : Finset S16777216.Idx := Finset.univ.filter fun p => (p 0).val / 524288 = w

omit [FloatOps F] in
theorem tabRow_lt {tab : Vec F S4x16384 .i32} (h : ∀ j, (tab j).toNat < 2048) (b n : ℕ) : (tabRow tab b n).toNat < 2048 := by
  unfold tabRow; split
  · exact h _
  · decide

/-- The tile's row of the table, as its buffer holds it. -/
def tblOf (i : grid0.Coords) (tab : Vec F S4x16384 .i32) : Vec F S16384 .i32 := fun j => tabRow tab (bat i) (j 0).val

/-- The tile's output after `k` chunks over `g`. -/
def stage (i : grid0.Coords) (tab : Vec F S4x16384 .i32) (g : Vec F S16777216 .f32) (k : ℕ) : Vec F S16777216 .f32 := fun p =>
  if (p 0).val < 524288 * wid i + 32768 * k then outF tab p else g p

/-- The row buffer after `k` trips of the clearing loop over `g`. -/
def cleared (g : Vec F S32768 .f32) (k : ℕ) : Vec F S32768 .f32 := fun j => if (j 0).val < 16 * k then f0 else g j

section Run

variable (d : Dev nD) (i : grid0.Coords) (q : PosShare TreeShare)

abbrev inPts (f : Vec F S4x16384 .i32) : sProp 𝕄 := (inW).view.loc (thr d i) ↦{q} f
abbrev outPts (f : Vec F S16777216 .f32) : sProp 𝕄 := (outW).view.loc (thr d i) ↦[part (wid i)]{fullShare} f

omit [FloatOps F] in
/-- What the table's copy lands: the tile's row. -/
theorem copy_in (tab : Vec F S4x16384 .i32) (f X : Vec F S16384 .i32) (hX : X = (srcRow i).view.read (Elt F) tab) :
    (tblW).view.write (Elt F) f X Finset.univ = tblOf i tab := by
  subst hX
  simp only [Memref.view_whole]
  rw [View.write_whole_univ]
  funext x
  have hb : bat i < 4 := by have := wid_lt i; unfold bat; omega
  have hx : (x 0).val < 16384 := (x 0).isLt
  rw [View.read_apply]
  unfold tblOf tabRow
  rw [dif_pos ⟨hb, hx⟩]
  refine (cast_eq rfl _).trans (congrArg tab ?_)
  rw [View.emb_reshape]
  show ((View.whole main_arg0_scv).slice (Rect.unit (s := S4x16384) (k0_off1 i) S1x16384.size (k0_off1_inb i))).emb (Shape.reshapeEquiv _ x) = _
  rw [show Shape.reshapeEquiv (s := S1x16384) (s' := S16384) squeezes_S1x16384_S16384.numel_eq x = Fin.cons ⟨0, Nat.one_pos⟩ x from
    Shape.reshapeEquiv_cons_one (d := ![16384]) _ x]
  rw [View.emb_slice]
  funext a
  apply Fin.ext
  have h0 : k0_off1 i 0 = bat i := by rw [off1_eq]; rfl
  have h1 : k0_off1 i 1 = 0 := by rw [off1_eq]; rfl
  match a with
  | ⟨0, _⟩ => show k0_off1 i 0 + 1 * 0 = bat i; omega
  | ⟨1, _⟩ => show k0_off1 i 1 + 1 * (x 0).val = (x 0).val; omega
  | ⟨_ + 2, h⟩ => exact absurd h (Nat.not_lt.2 (Nat.le_add_left _ _))

theorem off2_eq (k : Fin k0_t1_loop.trips) : k0_off2 k 0 = 16 * k.val := by rw [k0_off2_eq]; rfl

/-- One store of zeros clears sixteen more words. -/
theorem clear_step (g : Vec F S32768 .f32) (k : Fin k0_t1_loop.trips) :
    (bufW).view.writes (Elt F) (cleared g k.val) [⟨Rect.unit (s := S32768) (k0_off2 k) S16.size (k0_off2_inb k), k0_pay1⟩] = cleared g (k.val + 1) := by
  funext j
  rw [View.writes_singleton]
  by_cases hj : j ∈ ((View.whole cc0_scratch1).slice (Rect.unit (s := S32768) (k0_off2 k) S16.size (k0_off2_inb k))).set
  · obtain ⟨x, -, rfl⟩ := Finset.mem_map.mp hj
    refine (View.write_emb_of_mem (v := (View.whole cc0_scratch1).slice (Rect.unit (s := S32768) (k0_off2 k) S16.size (k0_off2_inb k))) _ _ (Finset.mem_univ x)).trans ?_
    have hx : (x 0).val < 16 := (x 0).isLt
    have he : ((((View.whole cc0_scratch1).slice (Rect.unit (s := S32768) (k0_off2 k) S16.size (k0_off2_inb k))).emb x : S32768.Idx) 0).val = 16 * k.val + (x 0).val := by
      show k0_off2 k 0 + 1 * (x 0).val = _
      rw [off2_eq]; omega
    unfold cleared
    rw [if_pos (by rw [he]; omega)]
    rfl
  · refine (View.write_of_not_mem (v := (View.whole cc0_scratch1).slice (Rect.unit (s := S32768) (k0_off2 k) S16.size (k0_off2_inb k))) _ _ Finset.univ ?_).trans ?_
    · rw [View.setOn_univ]; exact hj
    · rw [View.set_slice_whole] at hj
      replace hj := fun h => hj (Rect.mem_set_unit.mpr h)
      have hn : ¬ (16 * k.val ≤ (j 0).val ∧ (j 0).val < 16 * k.val + 16) := fun h => hj fun (a : Fin 1) => by
        obtain rfl : a = 0 := Subsingleton.elim _ _
        rw [off2_eq]; exact h
      unfold cleared
      by_cases h1 : (j 0).val < 16 * k.val
      · rw [if_pos h1, if_pos (by omega)]
      · rw [if_neg h1, if_neg (by omega)]

theorem cleared_zero (g : Vec F S32768 .f32) : cleared g 0 = g := by
  funext j; unfold cleared; rw [if_neg (by omega)]
theorem cleared_all (g : Vec F S32768 .f32) : cleared g (Scf.trips k0_t1_loop.lb k0_t1_loop.ub k0_t1_loop.st) = fun _ => f0 := by
  rw [show Scf.trips k0_t1_loop.lb k0_t1_loop.ub k0_t1_loop.st = 2048 by decide]
  funext j; unfold cleared; rw [if_pos (by have := j_lt j; omega)]

/-- The clearing loop's trip. -/
theorem wp_clear (g : Vec F S32768 .f32) (k : Fin k0_t1_loop.trips) (u : PUnit) :
    bufPts (F := F) d i (cleared g k.val) ⊢ wp frame (wpE (defs₀ (F := F)) 𝒱₀ (thr d i) none) Set.univ
      (k0_t1_body (F := F) i inW (Memref.isWhole_whole _) outW (Memref.isWhole_whole _) tblW (Memref.isWhole_whole _) bufW (Memref.isWhole_whole _) cc0_scoped0 cc0_scoped1 k u)
      fun _ => bufPts (F := F) d i (cleared g (k.val + 1)) := by
  unfold k0_t1_body
  iintro Hb
  sl_exec
  sl_step
  rw [clear_step]
  iexact Hb

/-- The words of chunk `k`, as the kernel's slice of the output addresses them. -/
abbrev dstChunk (k : Fin k0_t2_loop.trips) : Memref sig .scVector .hbm S32768 .f32 :=
  (outW).slice (Rect.unit (s := S16777216) (k0_off11 i k) S32768.size (k0_off11_inb i k)) (fun _ => rfl)

theorem mem_dstChunk (k : Fin k0_t2_loop.trips) (p : S16777216.Idx) :
    p ∈ (dstChunk i k).view.set ↔ 524288 * wid i + 32768 * k.val ≤ (p 0).val ∧ (p 0).val < 524288 * wid i + 32768 * k.val + 32768 := by
  have h0 : (dstChunk i k).view.set = (Rect.unit (s := S16777216) (k0_off11 i k) S32768.size (k0_off11_inb i k)).set := View.set_slice_whole main_v0_scv _
  rw [h0]
  refine Rect.mem_set_unit.trans ?_
  rw [off11_eq]
  constructor
  · intro h; exact h 0
  · intro h a; obtain rfl : a = 0 := Subsingleton.elim _ _; exact h

theorem dstChunk_sub (k : Fin k0_t2_loop.trips) : (dstChunk i k).view.set ⊆ part (wid i) := by
  intro p hp
  have h := (mem_dstChunk i k p).mp hp
  have hk : k.val < 16 := k.isLt
  unfold part
  rw [Finset.mem_filter]
  exact ⟨Finset.mem_univ _, by omega⟩

theorem emb_dstChunk (k : Fin k0_t2_loop.trips) (x : S32768.Idx) : ((dstChunk i k).view.emb x 0).val = 524288 * wid i + 32768 * k.val + (x 0).val := by
  show k0_off11 i k 0 + 1 * (x 0).val = _
  rw [off11_eq]; show 524288 * wid i + 32768 * k.val + 1 * (x 0).val = _; omega

theorem stage_zero (tab : Vec F S4x16384 .i32) (g : Vec F S16777216 .f32) (p : S16777216.Idx) (hp : p ∈ part (wid i)) : stage i tab g 0 p = g p := by
  unfold part at hp
  have h := (Finset.mem_filter.mp hp).2
  unfold stage
  rw [if_neg (by omega)]

theorem stage_all (tab : Vec F S4x16384 .i32) (g : Vec F S16777216 .f32) (p : S16777216.Idx) (hp : p ∈ part (wid i)) :
    stage i tab g (Scf.trips k0_t2_loop.lb k0_t2_loop.ub k0_t2_loop.st) p = outF tab p := by
  rw [show Scf.trips k0_t2_loop.lb k0_t2_loop.ub k0_t2_loop.st = 16 by decide]
  unfold part at hp
  have h := (Finset.mem_filter.mp hp).2
  unfold stage
  rw [if_pos (by omega)]

theorem tabOf_tblOf (tab : Vec F S4x16384 .i32) : ∀ n, n < 16384 → tabOf (tblOf i tab) n = tabRow tab (bat i) n := by
  intro n hn
  unfold tabOf
  rw [dif_pos hn]
  rfl

omit [FloatOps F] in
theorem bothNbr_congr {t t' : Tab} (h : ∀ n, n < 16384 → t n = t' n) {a b : ℕ} (ha : a < 2048) (hb : b < 2048) : bothNbr t a b ↔ bothNbr t' a b := by
  have h1 : ∀ c e, c < 2048 → (nbr t c e ↔ nbr t' c e) := fun c e hc =>
    ⟨fun ⟨l, hl, hq⟩ => ⟨l, hl, by rw [← h _ (by omega)]; exact hq⟩, fun ⟨l, hl, hq⟩ => ⟨l, hl, by rw [h _ (by omega)]; exact hq⟩⟩
  unfold bothNbr
  rw [h1 a b ha, h1 b a hb]

/-- The finished row buffer of chunk `k` is the chunk's words of the output. -/
theorem buf_out (tab : Vec F S4x16384 .i32) (k : Fin k0_t2_loop.trips) (x : S32768.Idx) :
    bufUp (F := F) (tabOf (tblOf i tab)) (row0 i + 16 * k.val) 8 x = outF tab ((dstChunk i k).view.emb x) := by
  have hx := j_lt x
  have hw := wid_lt i
  have hk : k.val < 16 := k.isLt
  unfold bufUp outF
  rw [emb_dstChunk]
  have e1 : (524288 * wid i + 32768 * k.val + (x 0).val) / 4194304 = bat i := by unfold bat; omega
  have e2 : (524288 * wid i + 32768 * k.val + (x 0).val) / 2048 % 2048 = row0 i + 16 * k.val + (x 0).val / 2048 := by unfold row0; omega
  have e3 : (524288 * wid i + 32768 * k.val + (x 0).val) % 2048 = (x 0).val % 2048 := by omega
  have e4 : (x 0).val / 2048 < 2 * 8 := by omega
  have e5 : row0 i + 16 * k.val + (x 0).val / 2048 < 2048 := by unfold row0; omega
  rw [e1, e2, e3]
  simp only [e4, true_and, bothNbr_congr (tabOf_tblOf i tab) e5 (Nat.mod_lt (x 0).val (show 0 < 2048 by decide))]

/-- The output's words before a chunk's copy: the chunk's, and the rest, which the copy leaves. -/
theorem out_split (k : Fin k0_t2_loop.trips) (f : Vec F S16777216 .f32) :
    outPts (F := F) d i f ⊣⊢ iprop(((dstChunk i k).view.loc (thr d i) ↦[(dstChunk i k).view.set]{fullShare} f)
      ∗ ((outW).view.loc (thr d i) ↦[part (wid i) \ (dstChunk i k).view.set]{fullShare} f)) :=
  pointsTo_split_subset (dstChunk_sub i k)

theorem out_join (tab : Vec F S4x16384 .i32) (g : Vec F S16777216 .f32) (k : Fin k0_t2_loop.trips) (X : Vec F S32768 .f32)
    (hX : ∀ x, X x = outF tab ((dstChunk i k).view.emb x)) :
    iprop(((dstChunk i k).view.loc (thr d i) ↦[(dstChunk i k).view.set]{fullShare}
        (dstChunk i k).view.writes (Elt F) (stage i tab g k.val) [⟨Rect.whole S32768, X⟩])
      ∗ ((outW).view.loc (thr d i) ↦[part (wid i) \ (dstChunk i k).view.set]{fullShare} stage i tab g k.val))
      ⊢ outPts (F := F) d i (stage i tab g (k.val + 1)) := by
  have e1 : (((dstChunk i k).view.loc (thr d i) ↦[(dstChunk i k).view.set]{fullShare}
        (dstChunk i k).view.writes (Elt F) (stage i tab g k.val) [⟨Rect.whole S32768, X⟩]) : sProp 𝕄)
      = ((dstChunk i k).view.loc (thr d i) ↦[(dstChunk i k).view.set]{fullShare} stage i tab g (k.val + 1)) := by
    refine pointsTo_congr fun p hp => ?_
    have hp' := (mem_dstChunk i k p).mp hp
    obtain ⟨x, -, rfl⟩ := Finset.mem_map.mp hp
    rw [View.writes_singleton]
    have hx : ((dstChunk i k).view.slice (Rect.whole S32768)).emb x = (dstChunk i k).view.emb x := by
      rw [View.emb_slice]
      show (dstChunk i k).view.emb ((Rect.whole S32768).emb x) = _
      rw [Rect.emb_whole_apply]
    refine (congrArg _ hx.symm).trans ?_
    refine (View.write_emb_of_mem (v := (dstChunk i k).view.slice (Rect.whole S32768)) _ _ (Finset.mem_univ x)).trans ?_
    refine (cast_eq rfl _).trans ?_
    unfold stage
    rw [if_pos (by omega), hX]
  have e2 : ((outW).view.loc (thr d i) ↦[part (wid i) \ (dstChunk i k).view.set]{fullShare} stage i tab g k.val : sProp 𝕄)
      = ((outW).view.loc (thr d i) ↦[part (wid i) \ (dstChunk i k).view.set]{fullShare} stage i tab g (k.val + 1)) := by
    refine pointsTo_congr fun p hp => ?_
    have h1 := (Finset.mem_sdiff.mp hp).1
    have h2 : ¬ (524288 * wid i + 32768 * k.val ≤ ((p : S16777216.Idx) 0).val ∧ ((p : S16777216.Idx) 0).val < 524288 * wid i + 32768 * k.val + 32768) :=
      fun h => (Finset.mem_sdiff.mp hp).2 ((mem_dstChunk i k p).mpr h)
    unfold part at h1
    have h3 := (Finset.mem_filter.mp h1).2
    have hk : k.val < 16 := k.isLt
    unfold stage
    by_cases h : ((p : S16777216.Idx) 0).val < 524288 * wid i + 32768 * k.val
    · rw [if_pos h, if_pos (by omega)]
    · rw [if_neg h, if_neg (by omega)]
  rw [e1, e2]
  exact (out_split d i k _).2

/-- A chunk's copy out and the wait for it. -/
theorem wp_copyOut {tab : Vec F S4x16384 .i32} (g : Vec F S16777216 .f32) (O : CellTallies nD τ sig (HIx 1)) (W : Waits sig (HIx 1)) (k : Fin k0_t2_loop.trips)
    {α : Type} {Q : α → sProp 𝕄} {k' : PUnit → Prog (TE F i) α} :
    iprop(Transfers.MayWaits (thr d i) (none : HIx 1) O ∗ bufPts (F := F) d i (bufUp (tabOf (tblOf i tab)) (row0 i + 16 * k.val) 8)
        ∗ outPts (F := F) d i (stage i tab g k.val) ∗ semVal (thr d i, SemLoc.dma cc0_scoped1.sem) 0 ∗ owes (thr d i) O W)
      ⊢ iprop((iprop(Transfers.MayWaits (thr d i) (none : HIx 1) O ∗ bufPts (F := F) d i (bufUp (tabOf (tblOf i tab)) (row0 i + 16 * k.val) 8)
            ∗ outPts (F := F) d i (stage i tab g (k.val + 1)) ∗ semVal (thr d i, SemLoc.dma cc0_scoped1.sem) 0
            ∗ owes (thr d i) O (insert (SemLoc.dma cc0_scoped1.sem, (default : HIx 1)) W))
          -∗ wp frame (wpE (defs₀ (F := F)) 𝒱₀ (thr d i) none) Set.univ (k' ⟨⟩) Q)
        -∗ wp frame (wpE (defs₀ (F := F)) 𝒱₀ (thr d i) none) Set.univ
          (Prog.lift (.enqueueDma bufW (.here (dstChunk i k)) (.dma cc0_scoped1.sem) (Memref.isWhole_whole _).wordExact (View.wordExact_bits rfl) ⟨Or.inl rfl, trivial⟩)
            >>= fun _ => Prog.lift (.waitDma2 cc0_scoped1.sem bufW (dstChunk i k) (Memref.isWhole_whole _).wordExact (View.wordExact_bits rfl)) >>= k') Q) := by
  iintro ⟨Hmw, Hb, Ho, Hs, HO⟩ Hk
  ihave Ho' := (out_split (F := F) d i k _).1 $$ Ho
  icases Ho' with ⟨Hc, Hr⟩
  sl_exec (disch := exact View.amount_pos _ _ (show 0 < S32768.numel by decide))
  iapply Hk
  isplitl [Hmw]; · iexact Hmw
  isplitl [Hb]; · iexact Hb
  isplitl [Hc Hr]
  · iapply (out_join (F := F) d i tab g k _ (fun x => buf_out (F := F) i tab k x))
    isplitl [Hc]; · iexact Hc
    iexact Hr
  isplitl [Hs]; · iexact Hs
  iexact HO

/-- The last clearing pair, at the end of the chunk. -/
theorem wp_pairDown_last {Q : PUnit → sProp 𝕄}
    {f : Vec F S16384 .i32} (hf : ∀ j, (f j).toNat < 2048) {R v : ℕ} (hv : v < 8) (hR : R + 16 ≤ 2048)
    {off : Fin 1 → ℕ} {hoff : ∀ a, off a + S16.size a ≤ S16384.size a} (hoffv : off 0 = 8 * (R + 2 * v)) :
    iprop(tblPts (F := F) d i f ∗ bufPts (F := F) d i (bufDown (tabOf f) R v))
      ⊢ iprop((iprop(tblPts (F := F) d i f ∗ bufPts (F := F) d i (bufDown (tabOf f) R (v + 1)))
            -∗ wp frame (wpE (defs₀ (F := F)) 𝒱₀ (thr d i) none) Set.univ (Prog.ret ⟨⟩) Q)
        -∗ wp frame (wpE (defs₀ (F := F)) 𝒱₀ (thr d i) none) Set.univ
          (pairDown i tblW bufW off hoff (BitVec.ofNat 32 (2 * v))) Q) := by
  have h := wp_pairDown (F := F) d i (k' := fun u => Prog.ret u) (Q := Q) hf hv hR (hoff := hoff) hoffv
  rwa [show (pairDown (F := F) i tblW bufW off hoff (BitVec.ofNat 32 (2 * v)) >>= fun u => Prog.ret u)
    = pairDown (F := F) i tblW bufW off hoff (BitVec.ofNat 32 (2 * v)) from Prog.bind_pure _] at h

/-- The chunk loop's invariant: the table in place, the row buffer clear, the output's words filled up to here. -/
def inv (tab : Vec F S4x16384 .i32) (g : Vec F S16777216 .f32) (O : CellTallies nD τ sig (HIx 1)) (W : Waits sig (HIx 1)) (k : ℕ) (_ : PUnit) : sProp 𝕄 :=
  iprop(Transfers.MayWaits (thr d i) (none : HIx 1) O
    ∗ tblPts (F := F) d i (tblOf i tab) ∗ bufPts (F := F) d i (fun _ => f0) ∗ outPts (F := F) d i (stage i tab g k)
    ∗ semVal (thr d i, SemLoc.dma cc0_scoped1.sem) 0
    ∗ ∃ W', ⌜∀ p ∈ W', p ∈ W ∨ p.2 = none⌝ ∗ owes (thr d i) O W')

theorem wp_chunk {tab : Vec F S4x16384 .i32} (htab : ∀ j, (tab j).toNat < 2048) (g : Vec F S16777216 .f32) (O : CellTallies nD τ sig (HIx 1)) (W : Waits sig (HIx 1)) (k : Fin k0_t2_loop.trips) (u : PUnit) :
    inv (F := F) d i tab g O W k.val u ⊢ wp frame (wpE (defs₀ (F := F)) 𝒱₀ (thr d i) none) Set.univ
      (chunk (F := F) i outW tblW bufW (Memref.isWhole_whole _) cc0_scoped1 (Scalar.addi (rowW i) (Scalar.muli (Scf.iv 0#32 1#32 k) 16#32)) k)
      fun u => inv (F := F) d i tab g O W (k.val + 1) u := by
  have hk : k.val < 16 := k.isLt
  have hf : ∀ j, (tblOf (F := F) i tab j).toNat < 2048 := fun j => tabRow_lt htab _ _
  have hR : row0 i + 16 * k.val + 16 ≤ 2048 := by unfold row0; omega
  rw [rowW_eq]
  unfold chunk inv
  iintro ⟨Hmw, Ht, Hb, Ho, Hs, %W', %hW', HO⟩
  ihave Hb := (Entails.of_eq (congrArg (bufPts (F := F) d i) (bufUp_zero (F := F) (tabOf (tblOf i tab)) (row0 i + 16 * k.val)).symm)) $$ Hb
  iapply (wp_pairUp d i hf (v := 0) (by decide) hR (off3_eq i k)) $$ [Ht Hb]
  · isplitl [Ht] <;> iassumption
  iintro ⟨Ht, Hb⟩
  iapply (wp_pairUp d i hf (v := 1) (by decide) hR (off4_eq i k)) $$ [Ht Hb]
  · isplitl [Ht] <;> iassumption
  iintro ⟨Ht, Hb⟩
  iapply (wp_pairUp d i hf (v := 2) (by decide) hR (off5_eq i k)) $$ [Ht Hb]
  · isplitl [Ht] <;> iassumption
  iintro ⟨Ht, Hb⟩
  iapply (wp_pairUp d i hf (v := 3) (by decide) hR (off6_eq i k)) $$ [Ht Hb]
  · isplitl [Ht] <;> iassumption
  iintro ⟨Ht, Hb⟩
  iapply (wp_pairUp d i hf (v := 4) (by decide) hR (off7_eq i k)) $$ [Ht Hb]
  · isplitl [Ht] <;> iassumption
  iintro ⟨Ht, Hb⟩
  iapply (wp_pairUp d i hf (v := 5) (by decide) hR (off8_eq i k)) $$ [Ht Hb]
  · isplitl [Ht] <;> iassumption
  iintro ⟨Ht, Hb⟩
  iapply (wp_pairUp d i hf (v := 6) (by decide) hR (off9_eq i k)) $$ [Ht Hb]
  · isplitl [Ht] <;> iassumption
  iintro ⟨Ht, Hb⟩
  iapply (wp_pairUp d i hf (v := 7) (by decide) hR (off10_eq i k)) $$ [Ht Hb]
  · isplitl [Ht] <;> iassumption
  iintro ⟨Ht, Hb⟩
  iapply (wp_copyOut (F := F) d i g O W' k) $$ [Hmw Hb Ho Hs HO]
  · isplitl [Hmw]; · iexact Hmw
    isplitl [Hb]; · iexact Hb
    isplitl [Ho]; · iexact Ho
    isplitl [Hs] <;> iassumption
  iintro ⟨Hmw, Hb, Ho, Hs, HO⟩
  ihave Hb := (Entails.of_eq (congrArg (bufPts (F := F) d i) (bufUp_eight (F := F) (tabOf (tblOf i tab)) (row0 i + 16 * k.val)))) $$ Hb
  iapply (wp_pairDown d i hf (v := 0) (by decide) hR (off12_eq i k)) $$ [Ht Hb]
  · isplitl [Ht] <;> iassumption
  iintro ⟨Ht, Hb⟩
  iapply (wp_pairDown d i hf (v := 1) (by decide) hR (off13_eq i k)) $$ [Ht Hb]
  · isplitl [Ht] <;> iassumption
  iintro ⟨Ht, Hb⟩
  iapply (wp_pairDown d i hf (v := 2) (by decide) hR (off14_eq i k)) $$ [Ht Hb]
  · isplitl [Ht] <;> iassumption
  iintro ⟨Ht, Hb⟩
  iapply (wp_pairDown d i hf (v := 3) (by decide) hR (off15_eq i k)) $$ [Ht Hb]
  · isplitl [Ht] <;> iassumption
  iintro ⟨Ht, Hb⟩
  iapply (wp_pairDown d i hf (v := 4) (by decide) hR (off16_eq i k)) $$ [Ht Hb]
  · isplitl [Ht] <;> iassumption
  iintro ⟨Ht, Hb⟩
  iapply (wp_pairDown d i hf (v := 5) (by decide) hR (off17_eq i k)) $$ [Ht Hb]
  · isplitl [Ht] <;> iassumption
  iintro ⟨Ht, Hb⟩
  iapply (wp_pairDown d i hf (v := 6) (by decide) hR (off18_eq i k)) $$ [Ht Hb]
  · isplitl [Ht] <;> iassumption
  iintro ⟨Ht, Hb⟩
  iapply (wp_pairDown_last d i hf (v := 7) (by decide) hR (off19_eq i k)) $$ [Ht Hb]
  · isplitl [Ht] <;> iassumption
  iintro ⟨Ht, Hb⟩
  ihave Hb := (Entails.of_eq (congrArg (bufPts (F := F) d i) (bufDown_eight (F := F) (tabOf (tblOf i tab)) (row0 i + 16 * k.val)))) $$ Hb
  rw [wp_ret]; imodintro
  isplitl [Hmw]; · iexact Hmw
  isplitl [Ht]; · iexact Ht
  isplitl [Hb]; · iexact Hb
  isplitl [Ho]; · iexact Ho
  isplitl [Hs]; · iexact Hs
  iexists (insert (SemLoc.dma cc0_scoped1.sem, (default : HIx 1)) W'); isplitr
  · ipureintro; intro p hp
    rcases Finset.mem_insert.mp hp with hp | hp
    · exact .inr (hp ▸ rfl)
    · exact hW' p hp
  · iexact HO

/-- The tile's run: from a read share of the table of neighbours (its entries row numbers) and the tile's words of the
    output at anything, to the same share and the words at the adjacency's. -/
theorem wp_kern {tab : Vec F S4x16384 .i32} (htab : ∀ j, (tab j).toNat < 2048) (g : Vec F S16777216 .f32) (t0 : Vec F S16384 .i32) (b0 : Vec F S32768 .f32)
    (O : CellTallies nD τ sig (HIx 1)) (W : Waits sig (HIx 1)) :
    iprop(Transfers.MayWaits (thr d i) (none : HIx 1) O ∗ inPts (F := F) d i q tab ∗ outPts (F := F) d i g
        ∗ tblPts (F := F) d i t0 ∗ bufPts (F := F) d i b0
        ∗ semVal (thr d i, SemLoc.dma cc0_scoped0.sem) 0 ∗ semVal (thr d i, SemLoc.dma cc0_scoped1.sem) 0 ∗ owes (thr d i) O W)
      ⊢ wp frame (wpE (defs₀ (F := F)) 𝒱₀ (thr d i) none) Set.univ (kern (F := F) i)
        fun _ => iprop(inPts (F := F) d i q tab ∗ outPts (F := F) d i (outF tab) ∗ tblPts (F := F) d i (tblOf i tab) ∗ bufPts (F := F) d i (fun _ => f0)
          ∗ semVal (thr d i, SemLoc.dma cc0_scoped0.sem) 0 ∗ semVal (thr d i, SemLoc.dma cc0_scoped1.sem) 0
          ∗ ∃ W', ⌜∀ p ∈ W', p ∈ W ∨ p.2 = none⌝ ∗ owes (thr d i) O W') := by
  unfold kern
  iintro ⟨Hmw, Hi, Ho, Ht, Hb, Hs0, Hs1, HO⟩
  sl_exec
  unfold wp_kern.sl.dma0
  ihave Ht := (Entails.of_eq (congrArg (tblPts (F := F) d i) (copy_in (F := F) i tab t0 _ rfl))) $$ Ht
  ihave Hb := (Entails.of_eq (congrArg (bufPts (F := F) d i) (cleared_zero (F := F) b0).symm)) $$ Hb
  sl_for (fun k (_ : PUnit) => bufPts (F := F) d i (cleared b0 k)) $$ [Hb]
  case region => exact fun k u => wp_clear (F := F) d i b0 k u
  · iexact Hb
  iintro %_ Hb
  ihave Hb := (Entails.of_eq (congrArg (bufPts (F := F) d i) (cleared_all (F := F) b0))) $$ Hb
  ihave Ho := (Entails.of_eq (pointsTo_congr (fun p hp => (stage_zero (F := F) i tab g p hp).symm))) $$ Ho
  sl_for (inv (F := F) d i tab g O (insert (SemLoc.dma cc0_scoped0.sem, (default : HIx 1)) W)) $$ [Hmw Ht Hb Ho Hs1 HO]
  case region => exact fun k u => wp_chunk (F := F) d i htab g O _ k u
  · unfold inv
    isplitl [Hmw]; · iexact Hmw
    isplitl [Ht]; · iexact Ht
    isplitl [Hb]; · iexact Hb
    isplitl [Ho]; · iexact Ho
    isplitl [Hs1]; · iexact Hs1
    iexists _; isplitr
    · ipureintro; exact fun p hp => .inl hp
    · iexact HO
  iintro %_ HI
  unfold inv
  icases HI with ⟨-, Ht, Hb, Ho, Hs1, %W', %hW', HO⟩
  ihave Ho := (Entails.of_eq (pointsTo_congr (fun p hp => stage_all (F := F) i tab g p hp))) $$ Ho
  sl_step
  isplitl [Hi]; · iexact Hi
  isplitl [Ho]; · iexact Ho
  isplitl [Ht]; · iexact Ht
  isplitl [Hb]; · iexact Hb
  isplitl [Hs0]; · iexact Hs0
  isplitl [Hs1]; · iexact Hs1
  iexists W'; isplitr
  · ipureintro; intro p hp
    rcases hW' p hp with h | h
    · rcases Finset.mem_insert.mp h with h | h
      · exact .inr (h ▸ rfl)
      · exact .inl h
    · exact .inr h
  · iexact HO

end Run

end Cert.Proof.AD

end
-- ==== Proof.ALaunch.lean ====
/-
  The SparseCore call's side of the launch: what a call hands its SparseCores and tiles and takes back, the tile's
  run under it, and the split of a SparseCore's share among its tiles. The call is stated at any table `tab` whose
  words are below 2048 and any first contents `g` of the output.
-/
module

public import proofs.«01_k».proof.Proof.ARun

@[expose] public section

noncomputable section

namespace Cert.Proof.AD

open Cert.Adj Cert.Adj.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.Tactic
open SparseCore (S V T)
open SparseCore.Cfg (HIx Pay ownBufs ownSems0 ownRefs ownCells mem_ownCells)

variable {F : FTy → Type} [FloatOps F]

local notation "𝕄" => MT nD τ sig (HIx 1) (Elt F) ℕ UU ℕ

local notation "inW" => (Memref.whole Cert.Adj.main_arg0_scv : Memref Cert.Adj.sig Kind.scVector Space.hbm Cert.Adj.S4x16384 EltTy.i32)
local notation "outW" => (Memref.whole Cert.Adj.main_v0_scv : Memref Cert.Adj.sig Kind.scVector Space.hbm Cert.Adj.S16777216 EltTy.f32)
local notation "tblW" => (Memref.whole Cert.Adj.cc0_scratch0 : Memref Cert.Adj.sig Kind.scVector Space.vmem Cert.Adj.S16384 EltTy.i32)
local notation "bufW" => (Memref.whole Cert.Adj.cc0_scratch1 : Memref Cert.Adj.sig Kind.scVector Space.vmem Cert.Adj.S32768 EltTy.f32)

/-! ## The configuration -/

abbrev K : SparseCore.Cfg τ sig (Pipeline.Sig Λ₀ (Fin 0) fun p => (pcfgs (F := F) p).Adm) 1 := sc (F := F)
abbrev D : Defs nD τ sig (Elt F) (Pipeline.Sig Λ₀ (Fin 0) fun p => (pcfgs (F := F) p).Adm) := Pipeline.defs pcfgs defs₀
abbrev 𝒱 : Variants := 𝒱₀.lift
abbrev v₀ : 𝒱.V := Sum.inl none

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-- The ghost state of the handshakes, and of the TensorCore's pipeline. -/
def EH : Emb UH (MT nD τ sig (HIx 1) (Elt F) ℕ UU ℕ) := embL
def EP : Emb UP (MT nD τ sig (HIx 1) (Elt F) ℕ UU ℕ) := (Emb.inl : Emb UP (UP × Counters)).trans embR

instance EH_landsIn : (EH : Emb UH 𝕄).LandsIn (upEmb : UEmb _ 𝕄) := by unfold EH; infer_instance
instance EP_landsIn : (EP : Emb UP 𝕄).LandsIn (upEmb : UEmb _ 𝕄) := by unfold EP embR; infer_instance

/-! ## What the call moves -/

/-- The table's and the output's places in the main memory. -/
abbrev inLoc (d : Dev nD) : Loc nD τ sig := (SparseCore.T d).loc main_arg0
abbrev outLoc (d : Dev nD) : Loc nD τ sig := (SparseCore.T d).loc main_v0

/-- The read shares of the table: a SparseCore's, and a tile's of it. -/
def coreShare (c : Fin 2) : PosShare TreeShare := Transfers.dealOf fullShare Finset.univ c
def tileShare (c : Fin 2) (s : Fin 16) : PosShare TreeShare := Transfers.dealOf (coreShare c) Finset.univ s

theorem nCore_zero : (K (F := F)).nCore 0 = 2 := rfl
theorem nSub_zero : (K (F := F)).nSub 0 = 16 := rfl

abbrev corePay (d : Dev nD) (c : Fin 2) (tab : Vec F S4x16384 .i32) (g : Vec F S16777216 .f32) : sProp 𝕄 :=
  iprop((inLoc d ↦{coreShare c} tab) ∗ bigSep Finset.univ fun s : Fin 16 => outLoc d ↦[part (2 * s.val + c.val)]{fullShare} g)
abbrev tilePay (d : Dev nD) (c : Fin 2) (s : Fin 16) (tab : Vec F S4x16384 .i32) (g : Vec F S16777216 .f32) : sProp 𝕄 :=
  iprop((inLoc d ↦{tileShare c s} tab) ∗ outLoc d ↦[part (2 * s.val + c.val)]{fullShare} g)

/-- Each SparseCore takes a read share of the table and its tiles' parts of the output, each tile a share of that share
    and its part; they bring them back, the output at the adjacency of the table. -/
def P (tab : Dev nD → Vec F S4x16384 .i32) (g : Dev nD → Vec F S16777216 .f32) : (K (F := F)).Pay (nD := nD) (Val := Elt F) (Name := ℕ) (U := UU) where
  st := fun q d c => match q with | 0 => corePay d (Fin.cast nCore_zero c) (tab d) (g d)
  dn := fun q d c => match q with | 0 => corePay d (Fin.cast nCore_zero c) (tab d) (outF (tab d))
  go := fun q d c i => match q with | 0 => tilePay d (Fin.cast nCore_zero c) (Fin.cast nSub_zero i) (tab d) (g d)
  td := fun q d c i => match q with | 0 => tilePay d (Fin.cast nCore_zero c) (Fin.cast nSub_zero i) (tab d) (outF (tab d))
  x := fun _ _ => iprop(emp)

variable (tab : Dev nD → Vec F S4x16384 .i32) (g : Dev nD → Vec F S16777216 .f32)

instance P_storable : (P (F := F) tab g).IsStorable where
  st q d c := match q with
    | 0 => (inferInstance : BI.Storable (upEmb : UEmb _ 𝕄) (corePay d (Fin.cast nCore_zero c) (tab d) (g d)))
  dn q d c := match q with
    | 0 => (inferInstance : BI.Storable (upEmb : UEmb _ 𝕄) (corePay d (Fin.cast nCore_zero c) (tab d) (outF (tab d))))
  go q d c i := match q with
    | 0 => (inferInstance : BI.Storable (upEmb : UEmb _ 𝕄) (tilePay d (Fin.cast nCore_zero c) (Fin.cast nSub_zero i) (tab d) (g d)))
  td q d c i := match q with
    | 0 => (inferInstance : BI.Storable (upEmb : UEmb _ 𝕄) (tilePay d (Fin.cast nCore_zero c) (Fin.cast nSub_zero i) (tab d) (outF (tab d))))

/-! ## The tile under its storage -/

section Tile

variable (d : Dev nD) (i : grid0.Coords)

/-- The tile's cells are its two copies' and the rest. -/
theorem ownSems0_V :
    (ownSems0 (thr d i) : sProp 𝕄)
      = iprop(semVal (thr d i, SemLoc.dma cc0_scoped0.sem) 0 ∗ semVal (thr d i, SemLoc.dma cc0_scoped1.sem) 0
          ∗ bigSep (((ownCells (thr d i)).erase (thr d i, SemLoc.dma cc0_scoped0.sem)).erase (thr d i, SemLoc.dma cc0_scoped1.sem)) fun g => semVal g 0) := by
  have h0 : (SemLoc.dma cc0_scoped0.sem : SemLoc sig).isScoped .scVector = true := by decide
  have h1 : (SemLoc.dma cc0_scoped1.sem : SemLoc sig).isScoped .scVector = true := by decide
  have hne : (SemLoc.dma cc0_scoped1.sem : SemLoc sig) ≠ SemLoc.dma cc0_scoped0.sem := by decide
  unfold SparseCore.Cfg.ownSems0
  rw [SparseCore.bigSep_erase' ((mem_ownCells (g := (thr d i, SemLoc.dma cc0_scoped0.sem))).mpr ⟨rfl, h0⟩),
    SparseCore.bigSep_erase' (Finset.mem_erase.mpr ⟨fun e => hne (Prod.mk.inj e).2,
      (mem_ownCells (g := (thr d i, SemLoc.dma cc0_scoped1.sem))).mpr ⟨rfl, h1⟩⟩)]

/-- The tile's buffers are the two scratch buffers and the rest. -/
theorem ownBufs_V :
    (ownBufs (thr d i) : sProp 𝕄)
      = iprop((∃ f, (thr d i).loc cc0_scratch0 ↦{fullShare} f) ∗ (∃ f, (thr d i).loc cc0_scratch1 ↦{fullShare} f)
          ∗ bigSep (((ownRefs (τ := τ) (.scVector (cV i) (sV i))).erase ((Proc.scVector (cV i) (sV i)).devRef cc0_scratch0)).erase
              ((Proc.scVector (cV i) (sV i)).devRef cc0_scratch1))
              fun b => iprop(∃ f, ((d, b) : Loc nD τ sig) ↦{fullShare} f)) := by
  have hne : (cc0_scratch1 : Ref sig .scVector) ≠ cc0_scratch0 := by decide
  unfold SparseCore.Cfg.ownBufs
  refine (SparseCore.bigSep_erase' (SparseCore.Cfg.mem_ownRefs_of_owner (p := Proc.scVector (cV i) (sV i))
    (b := (Proc.scVector (cV i) (sV i)).devRef cc0_scratch0) rfl)).trans ?_
  rw [SparseCore.bigSep_erase' (Finset.mem_erase.mpr ⟨fun e => absurd (Proc.devRef_injective _ e) hne,
    SparseCore.Cfg.mem_ownRefs_of_owner (p := Proc.scVector (cV i) (sV i)) (b := (Proc.scVector (cV i) (sV i)).devRef cc0_scratch1) rfl⟩)]

/-- The kernel on a tile, from its scoped storage and its share of the call. -/
theorem tile_body (htab : ∀ d j, (tab d j).toNat < 2048) (q : PosShare TreeShare) (O : CellTallies nD τ sig (HIx 1)) (W : Waits sig (HIx 1)) (hO : ∀ g, O g none = 0) :
    (iprop(levAts (K (F := F)).L (K (F := F)).lev ∗ emp
        ∗ ((inLoc d ↦{q} tab d) ∗ outLoc d ↦[part (wid i)]{fullShare} g d)
        ∗ scopedBufs (thr d i) ∗ scopedSems0 (thr d i) ∗ owes (thr d i) O W) : sProp 𝕄)
      ⊢ wp frame (wpE (defs₀ (F := F)) 𝒱₀ (thr d i) none) Set.univ
          (cc0_adj_kernel (F := F) i inW (Memref.isWhole_whole _) outW (Memref.isWhole_whole _) tblW (Memref.isWhole_whole _) bufW (Memref.isWhole_whole _) cc0_scoped0 cc0_scoped1)
          fun _ => iprop(((inLoc d ↦{q} tab d) ∗ outLoc d ↦[part (wid i)]{fullShare} outF (tab d))
            ∗ scopedBufs (thr d i) ∗ scopedSems0 (thr d i)
            ∗ ∃ W', ⌜∀ p ∈ W', p ∈ W ∨ p.2 = none⌝ ∗ owes (thr d i) O W') := by
  rw [kern_eq, (K (F := F)).scopedBufs_V facts d (cV i) (sV i), SparseCore.Cfg.scopedSems0_V (Val := Elt F) d (cV i) (sV i), ownSems0_V, ownBufs_V]
  iintro ⟨#Hlv, -, ⟨Hin, Hout⟩, ⟨⟨%t0, Ht⟩, ⟨%b0, Hb⟩, Hbufs⟩, ⟨Hs0, Hs1, Hsems⟩, HO⟩
  ihave Hmw := ((K (F := F)).mayWaits_none (thr := thr d i) hO) $$ Hlv
  iapply (wp_wand_r frame _ _)
  isplitr [Hbufs Hsems]
  · iapply (wp_kern (F := F) d i q (htab d) (g d) t0 b0 O W)
    isplitl [Hmw]; · iexact Hmw
    isplitl [Hin]; · iexact Hin
    isplitl [Hout]; · iexact Hout
    isplitl [Ht]; · iexact Ht
    isplitl [Hb]; · iexact Hb
    isplitl [Hs0]; · iexact Hs0
    isplitl [Hs1]; · iexact Hs1
    iexact HO
  iintro %_ ⟨Hin, Hout, Ht, Hb, Hs0, Hs1, HW⟩
  isplitl [Hin Hout]
  · isplitl [Hin]; · iexact Hin
    iexact Hout
  isplitl [Ht Hb Hbufs]
  · isplitl [Ht]; · iexists _; iexact Ht
    isplitl [Hb]; · iexists _; iexact Hb
    iexact Hbufs
  isplitl [Hs0 Hs1 Hsems]
  · isplitl [Hs0]; · iexact Hs0
    isplitl [Hs1]; · iexact Hs1
    iexact Hsems
  iexact HW

end Tile

/-! ## The launch theorem's obligations -/

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_adj_kernel (F := F) (coordsV c s)
          inW (Memref.isWhole_whole _) outW (Memref.isWhole_whole _) tblW (Memref.isWhole_whole _) bufW (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr; · ipureintro; exact fun p hp => (h p hp).imp_right Or.inl
  iexact HO

theorem tileObl (htab : ∀ d j, (tab d j).toNat < 2048) : (K (F := F)).TileObl (D (F := F)) 𝒱 (P tab g) v₀ 0 := by
  intro d c i O W hO _ _
  simp only [show (P (F := F) tab g).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body tab g d (coordsV ⟨_, hc.1⟩ ⟨_, hc.2⟩) htab (tileShare (Fin.cast nCore_zero c) (Fin.cast nSub_zero i)) O W hO).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share of the call is its tiles'. -/
theorem corePay_eq (d : Dev nD) (c : Fin 2) (t : Vec F S4x16384 .i32) (f : Vec F S16777216 .f32) :
    corePay d c t f = bigSep Finset.univ fun s : Fin 16 => tilePay d c s t f := by
  unfold corePay tilePay
  rw [bigSep_sep', show (inLoc d ↦{coreShare c} t : sProp 𝕄) = _ from Transfers.pointsTo_deal (Finset.univ : Finset (Fin 16)) ⟨0, Finset.mem_univ _⟩ (coreShare c)]
  rfl

theorem vecSplit : (K (F := F)).VecSplit' (P tab g) 0 := by
  intro d c
  show corePay d (Fin.cast nCore_zero c) (tab d) (g d) ⊢ |={Set.univ}=> iprop(
      (bigSep Finset.univ fun i : Fin ((K (F := F)).nSub 0) => tilePay d (Fin.cast nCore_zero c) (Fin.cast nSub_zero i) (tab d) (g d))
      ∗ ((bigSep Finset.univ fun i : Fin ((K (F := F)).nSub 0) => tilePay d (Fin.cast nCore_zero c) (Fin.cast nSub_zero i) (tab d) (outF (tab d)))
          -∗ corePay d (Fin.cast nCore_zero c) (tab d) (outF (tab d))))
  rw [bigSep_tasks (F := F) (fun i => tilePay d (Fin.cast nCore_zero c) i (tab d) (g d)),
    bigSep_tasks (F := F) (fun i => tilePay d (Fin.cast nCore_zero c) i (tab d) (outF (tab d))), corePay_eq, corePay_eq]
  iintro H; imodintro
  isplitl [H]; · iexact H
  iintro H; iexact H

/-! ## The whole call's operands -/

theorem parts_disjoint : ∀ x ∈ (Finset.univ : Finset (Fin 2 × Fin 16)), ∀ y ∈ (Finset.univ : Finset (Fin 2 × Fin 16)), x ≠ y →
    Disjoint (part (2 * x.2.val + x.1.val)) (part (2 * y.2.val + y.1.val)) := by
  intro x _ y _ hne
  refine Finset.disjoint_left.mpr fun p hx hy => hne ?_
  have hx := (Finset.mem_filter.mp hx).2
  have hy := (Finset.mem_filter.mp hy).2
  have h1 := x.1.isLt; have h2 := y.1.isLt
  exact Prod.ext (Fin.ext (by omega)) (Fin.ext (by omega))

theorem parts_cover : (Finset.univ : Finset (Fin 2 × Fin 16)).biUnion (fun x => part (2 * x.2.val + x.1.val)) = Finset.univ := by
  refine Finset.eq_univ_iff_forall.mpr fun p => Finset.mem_biUnion.mpr ?_
  have hp : (p 0).val < 16777216 := (p 0).isLt
  refine ⟨(⟨(p 0).val / 524288 % 2, by omega⟩, ⟨(p 0).val / 524288 / 2, by omega⟩), Finset.mem_univ _, Finset.mem_filter.mpr ⟨Finset.mem_univ _, ?_⟩⟩
  show (p 0).val / 524288 = 2 * ((p 0).val / 524288 / 2) + (p 0).val / 524288 % 2
  omega

/-- The call's operands, whole, are the two SparseCores' shares. -/
theorem callPay_eq (d : Dev nD) (t : Vec F S4x16384 .i32) (f : Vec F S16777216 .f32) :
    (bigSep Finset.univ fun c : Fin 2 => corePay d c t f) = (iprop((inLoc d ↦{fullShare} t) ∗ outLoc d ↦{fullShare} f) : sProp 𝕄) := by
  unfold corePay
  rw [bigSep_sep', ← bigSep_univ_prod (fun x : Fin 2 × Fin 16 => (outLoc d ↦[part (2 * x.2.val + x.1.val)]{fullShare} f : sProp 𝕄)),
    show (inLoc d ↦{fullShare} t : sProp 𝕄) = _ from Transfers.pointsTo_deal (Finset.univ : Finset (Fin 2)) ⟨0, Finset.mem_univ _⟩ fullShare,
    ← pointsTo_biUnion (ℓ := outLoc d) Finset.univ (fun x : Fin 2 × Fin 16 => part (2 * x.2.val + x.1.val)) parts_disjoint, parts_cover]
  rfl

theorem st0_eq (d : Dev nD) : (bigSep Finset.univ fun c : Fin ((K (F := F)).nCore 0) => (P tab g).st 0 d c)
    = iprop((inLoc d ↦{fullShare} tab d) ∗ outLoc d ↦{fullShare} g d) := callPay_eq d (tab d) (g d)
theorem dn0_eq (d : Dev nD) : (bigSep Finset.univ fun c : Fin ((K (F := F)).nCore 0) => (P tab g).dn 0 d c)
    = iprop((inLoc d ↦{fullShare} tab d) ∗ outLoc d ↦{fullShare} outF (tab d)) := callPay_eq d (tab d) (outF (tab d))

end Cert.Proof.AD

end
-- ==== Proof.ACert.lean ====
/-
  The SparseCore call alone, run: from a table whose words are below 2048 it ends with the adjacency of the table in
  its output, the table unchanged and every counter at zero.
-/
module

public import proofs.«01_k».proof.Proof.ALaunch
public import proofs.«01_k».proof.Proof.Gen.Pre_in_range
public import proofs.«01_k».proof.Defs

@[expose] public section

noncomputable section

namespace Cert.Proof.AD

open Cert.Adj Cert.Adj.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.Tactic
open SparseCore (S V T)
open SparseCore.Cfg (HIx Pay)

variable {F : FTy → Type} [FloatOps F]

local notation "𝕄" => MT nD τ sig (HIx 1) (Elt F) ℕ UU ℕ

variable (m : (ℓ : Loc nD τ sig) → Buf (Elt F) ℓ) (ρ : Dev nD → PrngReg)

/-- The launch memory's table and output. -/
abbrev tab0 (d : Dev nD) : Vec F S4x16384 .i32 := m (inLoc d)
abbrev out0 (d : Dev nD) : Vec F S16777216 .f32 := m (outLoc d)

/-- The launch's ghost state: the handshakes', nothing else. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (tab0 m) (out0 m)).x q thr) := by
  unfold u₀
  iintro Hu
  ihave H := (ownU_pair _ _) $$ Hu
  icases H with ⟨HH, -⟩
  imodintro
  isplitl [HH]; · iexact HH
  isplitr
  · rw [show (bigSep Finset.univ fun _ : Dev nD => iprop(emp)) = (iprop(emp) : sProp 𝕄) from BI.bigSep_emp_const _]; iempintro
  rw [show (bigSep Finset.univ fun thr : Thread nD τ => bigSep Finset.univ fun q : Fin 1 => (P (tab0 m) (out0 m)).x q thr) = (iprop(emp) : sProp 𝕄) from
    (bigSep_congr fun _ _ => BI.bigSep_emp_const _).trans (BI.bigSep_emp_const _)]
  iempintro

theorem unscopedBufs_eq (d : Dev nD) (W : (b : Ref sig .tc) → Buf (Elt F) ((d.tc : Thread nD τ).loc b)) :
    (unscopedBufs d W : sProp 𝕄) = iprop((inLoc d ↦{fullShare} W main_arg0) ∗ outLoc d ↦{fullShare} W main_v0) := by
  unfold unscopedBufs
  rw [show (Finset.univ.filter fun b : Ref sig .tc => ¬ b.isScoped) = {main_arg0, main_v0} by decide,
    SparseCore.bigSep_insert' (by decide), bigSep_singleton]

abbrev FIN (d : Dev nD) : sProp 𝕄 := iprop((inLoc d ↦{fullShare} tab0 m d) ∗ outLoc d ↦{fullShare} outF (tab0 m d))

/-- The host code: the one call. -/
theorem hmain (κ : GSem nD τ sig → ℕ) (d : Dev nD) :
    (iprop((K (F := F)).ctx EH (P (tab0 m) (out0 m)) κ ∗ (K (F := F)).tcSt EH d 0 ∗ (K (F := F)).tcRes m ρ d ∗ emp) : sProp 𝕄)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Ho⟩, Hts, -⟩, -⟩
  iapply ((K (F := F)).wp_run (D (F := F)) 𝒱 (EH := EH) (P := P (tab0 m) (out0 m)) κ d 0) $$ [Hst Hi Ho Hb Hts]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq (tab0 m) (out0 m) d)) $$ Hdn
  icases Hdn' with ⟨Hi, Ho⟩
  imodintro
  isplitl [Hst]; · iexact Hst
  isplitr [Hb Hts]
  · isplitl [Hi]; · iexact Hi
    iexact Ho
  isplitl [Hb] <;> iassumption

def fq (d : Dev nD) (s' : Phys nD τ sig (Elt F)) : Prop :=
  s'.mem.mem (inLoc d) = m (inLoc d) ∧ s'.mem.mem (outLoc d) = outF (tab0 m d)

theorem hfin (d : Dev nD) (s' : Phys nD τ sig (Elt F)) : (iprop(FIN m d ∗ SI s') : sProp 𝕄) ⊢ (⌜fq m d s'⌝ : sProp 𝕄) := by
  iintro ⟨⟨Hi, Ho⟩, HSI⟩
  ihave H := (persistent_entails_right (SI_pointsTo_agree (st := s') (ℓ := inLoc d) (I := Finset.univ) (q := fullShare) (f := tab0 m d))) $$ [HSI Hi]
  · isplitl [HSI] <;> iassumption
  icases H with ⟨%h1, HSI, -⟩
  ihave H := (SI_pointsTo_agree (st := s') (ℓ := outLoc d) (I := Finset.univ) (q := fullShare) (f := outF (tab0 m d))) $$ [HSI Ho]
  · isplitl [HSI] <;> iassumption
  icases H with %h2
  ipureintro; exact ⟨funext fun i => h1 i (Finset.mem_univ i), funext fun i => h2 i (Finset.mem_univ i)⟩

def QC : PUnit × MemSt nD τ sig (Elt F) → Prop := fun r => (∀ d : Dev nD, r.2.mem (inLoc d) = m (inLoc d) ∧ r.2.mem (outLoc d) = outF (tab0 m d)) ∧ r.2.sem = fun _ => 0

theorem run_main [∀ e, Nonempty (Elt F e)] (htab : ∀ d j, (tab0 m d j).toNat < 2048) :
    θ_run (Cert.Adj.defs (F := F)) (Cert.Adj.threads (F := F)) ⟨m, fun _ => 0, ρ⟩ (QC m) :=
  SparseCore.Cfg.θ_run_sc_quiescent (K := K (F := F)) (D := D (F := F)) (𝒱 := 𝒱) (EH := EH) (P := P (tab0 m) (out0 m)) (A := ∅) facts v₀
    (fun q hq => match q with | 0 => nomatch hq)
    (fun q _ => match q with | 0 => tileObl (tab0 m) (out0 m) htab)
    (fun q _ => match q with | 0 => SparseCore.Cfg.VecSplit.of_plain (vecSplit (tab0 m) (out0 m)))
    m ρ main (fun _ => iprop(emp)) (FIN m) (u₀ (F := F)) (sep_elim_left.trans (hu₀ m)) (hmain m ρ) (fq m) (hfin m) (QC m) (fun _ h hz => ⟨h, hz⟩)

/-- The precondition, word by word: a word at least 0 and less than 2048 as a signed number is below 2048. -/
theorem inRange_of_pre (m : (ℓ : Loc nD τ sig) → Buf (Elt Bits) ℓ) (h : Cert.Pre_Adj m) (d : Dev nD) (j : S4x16384.Idx) : (tab0 m d j).toNat < 2048 := by
  have hand (p q : Bool) : IntOp.andi (BitVec.ofBool p) (BitVec.ofBool q) = BitVec.ofBool (p && q) := by
    cases p <;> cases q <;> decide
  have hone (p : Bool) : BitVec.ofBool p = 1#1 ↔ p = true := by cases p <;> decide
  have word (v : BitVec 32) (e : IntOp.andi (IntOp.cmpi .sge v 0#32) (IntOp.cmpi .slt v 2048#32) = 1#1) : v.toNat < 2048 := by
    simp only [IntOp.cmpi, hand, hone, Bool.and_eq_true, BitVec.sle_eq_decide, BitVec.slt_eq_decide,
      decide_eq_true_eq, BitVec.toInt_eq_toNat_cond, BitVec.toNat_ofNat, Nat.reducePow, Nat.reduceMod] at e
    omega
  have e := congrFun (h d) j
  simp only [Pre_in_range.fn, andi, cmpi, broadcastInDim, constantI] at e
  exact word _ e

theorem frame_call : Cert.quiescent_Adj := fun m ρ hpre =>
  (θ_run Cert.Adj.defs _ _).mono (fun _ h => ⟨fun d => (h.1 d).1, h.2⟩) (run_main (F := Bits) m ρ (inRange_of_pre m hpre))

end Cert.Proof.AD

end
-- ==== Proof.KBody.lean ====
/-
  The SparseCore kernel's chunk as a sequence of row-pair steps. The printed loop body is one long list of statements cut
  at fixed counts; here the same list is cut where the kernel's own Python loops cut it: eight row pairs that scatter
  ones, the copy of the finished rows to HBM, eight row pairs that scatter zeros back. One row pair is one definition
  over its offset and its row number, so the proof runs a row pair once.
-/
module

public import proofs.«01_k».proof.Defs
public import proofs.«01_k».proof.Proof.Gen.KernelIdeal
public import proofs.«01_k».proof.Proof.Gen.KernelIdeal.Skeleton

@[expose] public section

noncomputable section

namespace Cert.Proof.KI

open Cert.KernelIdeal Cert.KernelIdeal.Gen
open Idealize.ShloMosaic Idealize.SL.Sem

variable {F : FTy → Type} [FloatOps F] [Named F]

/-- The effects of a tile's program at grid coordinates `i`. -/
abbrev TE (F : FTy → Type) (i : grid1.Coords) := TpuEff nD τ sig (Elt F) Λ₀ (.scVector ((i 0).castLE hcore1) ((i 1).castLE hsub1))

/-- The second half of the lanes: 1 on lanes 8 to 15 (the pair's second row), 0 on lanes 0 to 7. -/
abbrev second : IVec S16 32 := k1_pay2

/-- The words the gather of neighbour number `l` reads: eight times the row named, plus `l`. -/
def gIdx (nb : IVec S16 32) (l : BitVec 32) : IVec S16 32 := addi (muli nb (broadcast S16 8#32)) (broadcast S16 l)

/-- The words of the row buffer a pair's scatter names: the row in the chunk times 2048, plus the neighbour. -/
def sIdx (c : BitVec 32) (nb : IVec S16 32) : IVec S16 32 :=
  addi (muli (addi (broadcast S16 c) second) (broadcast S16 2048#32)) nb

/-- One gather of a row pair: neighbour `l` of every named row, compared with the rows of the pair. -/
def gStep (i : grid1.Coords) (arg4 : Memref sig .scVector .vmem S16384 .i32) (nb : Vec F S16 .i32) (row : IVec S16 32) (l : BitVec 32)
    (acc : IVec S16 1) : Prog (TE F i) (IVec S16 1) := do
  have v : IVec S16 32 := gIdx nb l
  have hw : k1_chk1 v := (← Prog.lift (TpuEff.assume (k1_chk1 v) (k1_chk1.dec v))).down
  let g : Vec F S16 .i32 ← SparseCore.vectorLoadIdx arg4 ![v] (k1_idx1_inb v hw) (View.loads_vmem h_S16384)
  pure (ori acc (cmpi .eq g row))

/-- The row numbers of a pair, lane by lane. -/
def rowVec (row : BitVec 32) : IVec S16 32 := addi (broadcast S16 row) second

/-- One row pair: its sixteen neighbours, the eight gathers that ask which of them name the row back, and the scatter of
    ones at those that do. -/
def pairUp (i : grid1.Coords) (arg4 : Memref sig .scVector .vmem S16384 .i32) (arg5 : Memref sig .scVector .vmem S32768 .f32)
    (off : Fin 1 → ℕ) (hoff : ∀ a, off a + S16.size a ≤ S16384.size a) (v39 c : BitVec 32) : Prog (TE F i) PUnit := do
  let nb : Vec F S16 .i32 ← Prog.lift (.load arg4 (Rect.unit (s := S16384) off S16.size hoff).toLoadRect (View.loadsAt_vmem h_S16))
  have row : IVec S16 32 := rowVec (Scalar.addi v39 c)
  let a0 ← gStep i arg4 nb row 0#32 (cmpi .slt (iota .scVector S16 32 [0] iota_S16_d0_w32_scVector) (broadcast S16 0#32))
  let a1 ← gStep i arg4 nb row 1#32 a0
  let a2 ← gStep i arg4 nb row 2#32 a1
  let a3 ← gStep i arg4 nb row 3#32 a2
  let a4 ← gStep i arg4 nb row 4#32 a3
  let a5 ← gStep i arg4 nb row 5#32 a4
  let a6 ← gStep i arg4 nb row 6#32 a5
  let a7 ← gStep i arg4 nb row 7#32 a6
  have v : IVec S16 32 := sIdx c nb
  have hw : k1_chk9 v := (← Prog.lift (TpuEff.assume (k1_chk9 v) (k1_chk9.dec v))).down
  SparseCore.vectorStoreIdx arg5 ![v] (k1_pay3 (F := F)) a7 false (k1_idx9_inb v hw) (View.stores_vmem_bits_univ h_S32768 rfl)

/-- One row pair of the clearing half: the same sixteen neighbours, zeros at all of them. -/
def pairDown (i : grid1.Coords) (arg4 : Memref sig .scVector .vmem S16384 .i32) (arg5 : Memref sig .scVector .vmem S32768 .f32)
    (off : Fin 1 → ℕ) (hoff : ∀ a, off a + S16.size a ≤ S16384.size a) (c : BitVec 32) : Prog (TE F i) PUnit := do
  let nb : Vec F S16 .i32 ← Prog.lift (.load arg4 (Rect.unit (s := S16384) off S16.size hoff).toLoadRect (View.loadsAt_vmem h_S16))
  have v : IVec S16 32 := sIdx c nb
  have hw : k1_chk9 v := (← Prog.lift (TpuEff.assume (k1_chk9 v) (k1_chk9.dec v))).down
  SparseCore.vectorStoreIdx arg5 ![v] (k1_pay1 (F := F)) (fun _ => 1#1) false (k1_idx9_inb v hw) (View.stores_vmem_bits_univ h_S32768 rfl)

/-- The chunk, cut as the kernel's Python loops cut it. -/
def chunk (i : grid1.Coords) (arg3 : Memref sig .scVector .hbm S16777216 .f32)
    (arg4 : Memref sig .scVector .vmem S16384 .i32) (arg5 : Memref sig .scVector .vmem S32768 .f32) (harg5 : arg5.IsWhole)
    (r1 : DmaSems sig S_) (v39 : BitVec 32) (k : Fin k1_t2_loop.trips) : Prog (TE F i) PUnit := do
  pairUp i arg4 arg5 (k1_off3 i k) (k1_off3_inb i k) v39 0#32
  pairUp i arg4 arg5 (k1_off4 i k) (k1_off4_inb i k) v39 2#32
  pairUp i arg4 arg5 (k1_off5 i k) (k1_off5_inb i k) v39 4#32
  pairUp i arg4 arg5 (k1_off6 i k) (k1_off6_inb i k) v39 6#32
  pairUp i arg4 arg5 (k1_off7 i k) (k1_off7_inb i k) v39 8#32
  pairUp i arg4 arg5 (k1_off8 i k) (k1_off8_inb i k) v39 10#32
  pairUp i arg4 arg5 (k1_off9 i k) (k1_off9_inb i k) v39 12#32
  pairUp i arg4 arg5 (k1_off10 i k) (k1_off10_inb i k) v39 14#32
  Prog.lift (.enqueueDma arg5 (.here (arg3.slice (Rect.unit (s := S16777216) (k1_off11 i k) S32768.size (k1_off11_inb i k)) (fun _ => rfl))) (.dma r1.sem) harg5.wordExact (View.wordExact_bits rfl) ⟨Or.inl rfl, trivial⟩)
  Prog.lift (.waitDma2 r1.sem arg5 (arg3.slice (Rect.unit (s := S16777216) (k1_off11 i k) S32768.size (k1_off11_inb i k)) (fun _ => rfl)) harg5.wordExact (View.wordExact_bits rfl))
  pairDown i arg4 arg5 (k1_off12 i k) (k1_off12_inb i k) 0#32
  pairDown i arg4 arg5 (k1_off13 i k) (k1_off13_inb i k) 2#32
  pairDown i arg4 arg5 (k1_off14 i k) (k1_off14_inb i k) 4#32
  pairDown i arg4 arg5 (k1_off15 i k) (k1_off15_inb i k) 6#32
  pairDown i arg4 arg5 (k1_off16 i k) (k1_off16_inb i k) 8#32
  pairDown i arg4 arg5 (k1_off17 i k) (k1_off17_inb i k) 10#32
  pairDown i arg4 arg5 (k1_off18 i k) (k1_off18_inb i k) 12#32
  pairDown i arg4 arg5 (k1_off19 i k) (k1_off19_inb i k) 14#32

set_option maxRecDepth 65536 in
set_option maxHeartbeats 4000000 in
/-- The printed body is the chunk: both unfold to the same list of statements. -/
theorem body_eq_chunk (i : grid1.Coords) (arg2 : Memref sig .scVector .hbm S4x16384 .i32) (harg2 : arg2.IsWhole) (arg3 : Memref sig .scVector .hbm S16777216 .f32) (harg3 : arg3.IsWhole) (arg4 : Memref sig .scVector .vmem S16384 .i32) (harg4 : arg4.IsWhole) (arg5 : Memref sig .scVector .vmem S32768 .f32) (harg5 : arg5.IsWhole) (r0 r1 : DmaSems sig S_) (v18 v29 : BitVec 32) (k : Fin k1_t2_loop.trips) (u : Unit) :
    k1_t2_body (F := F) i arg2 harg2 arg3 harg3 arg4 harg4 arg5 harg5 r0 r1 v18 v29 (iota .scVector S16 32 [0] iota_S16_d0_w32_scVector) k u
      = chunk i arg3 arg4 arg5 harg5 r1 (Scalar.addi v29 (Scalar.muli (Scf.iv 0#32 1#32 k) 16#32)) k := by
  rfl

end Cert.Proof.KI

end
-- ==== Proof.KPure.lean ====
/-
  What one chunk of the SparseCore kernel computes, away from memory: the row buffer after each row pair, as a function of
  the neighbour table alone. The buffer holds sixteen rows of 2048 words; after `v` pairs it holds one at the mutual
  neighbours of its first `2 v` rows and zero elsewhere; after `v` clearing pairs the first `2 v` rows are zero again.
-/
module

public import proofs.«01_k».proof.Proof.KBody

@[expose] public section

noncomputable section

namespace Cert.Proof.KI

open Cert.KernelIdeal Cert.KernelIdeal.Gen
open Idealize.ShloMosaic Idealize.SL.Sem

variable {F : FTy → Type} [FloatOps F] [Named F]

/-- The table one batch's task holds, by word number. -/
abbrev Tab : Type := ℕ → BitVec 32

/-- `q` is among the eight neighbours the table lists for row `a`. -/
def nbr (tb : Tab) (a q : ℕ) : Prop := ∃ l < 8, (tb (8 * a + l)).toNat = q

/-- Rows `a` and `q` name one another. -/
def bothNbr (tb : Tab) (a q : ℕ) : Prop := nbr tb a q ∧ nbr tb q a

instance (tb : Tab) (a q : ℕ) : Decidable (nbr tb a q) := by unfold nbr; infer_instance
instance (tb : Tab) (a q : ℕ) : Decidable (bothNbr tb a q) := by unfold bothNbr; infer_instance

theorem bothNbr_symm {tb : Tab} {a q : ℕ} : bothNbr tb a q ↔ bothNbr tb q a := And.comm

def f1 : F .f32 := Scalar.ofBits .f32 0x3F800000#32
def f0 : F .f32 := Scalar.ofBits .f32 0x00000000#32

/-- The row buffer of the chunk at row `R` after `v` pairs. -/
def bufUp (tb : Tab) (R v : ℕ) : Vec F S32768 .f32 := fun j =>
  if (j 0).val / 2048 < 2 * v ∧ bothNbr tb (R + (j 0).val / 2048) ((j 0).val % 2048) then f1 else f0

/-- The row buffer of the chunk at row `R` after `v` clearing pairs. -/
def bufDown (tb : Tab) (R v : ℕ) : Vec F S32768 .f32 := fun j =>
  if 2 * v ≤ (j 0).val / 2048 ∧ bothNbr tb (R + (j 0).val / 2048) ((j 0).val % 2048) then f1 else f0

omit [Named F] in
theorem j_lt (j : S32768.Idx) : (j 0).val < 32768 := (j 0).isLt

omit [Named F] in
theorem bufUp_zero (tb : Tab) (R : ℕ) : bufUp (F := F) tb R 0 = fun _ => f0 := by
  funext j; simp [bufUp]

omit [Named F] in
theorem bufUp_eight (tb : Tab) (R : ℕ) : bufUp (F := F) tb R 8 = bufDown tb R 0 := by
  funext j
  have := j_lt j
  have h : (j 0).val / 2048 < 2 * 8 := by omega
  simp [bufUp, bufDown, h]

omit [Named F] in
theorem bufDown_eight (tb : Tab) (R : ℕ) : bufDown (F := F) tb R 8 = fun _ => f0 := by
  funext j
  have := j_lt j
  have h : ¬ 2 * 8 ≤ (j 0).val / 2048 := by omega
  simp only [bufDown, h, false_and, if_false]

/-! ## A scatter of one value -/

omit [Named F] in
/-- A scatter of the constant `w`: every element some set lane names holds `w`, every other what it held. -/
theorem storeIdx_const {s : Shape} {e : EltTy} {d : Fin 1 → ℕ} (f : Vec F s e) (idxs : Fin s.rank → IVec ⟨1, d⟩ 32) (w : Elt F e)
    (mask : IVec ⟨1, d⟩ 1) (h : ∀ a x, (idxs a x).toNat < s.size a) (j : s.Idx) :
    (storeIdx f idxs (fun _ => w) mask false h j = w ∧ ∃ x, mask x = 1 ∧ ∀ a, (j a).val = (idxs a x).toNat)
      ∨ (storeIdx f idxs (fun _ => w) mask false h j = f j ∧ ∀ x, mask x = 1 → ¬ ∀ a, (j a).val = (idxs a x).toNat) := by
  have key : ∀ (L : List (Fin (d 0))) (g : Vec F s e),
      ((L.foldl (fun g k =>
          let x := Shape.ofLane k
          if mask x = 1 then
            let i := idxAt idxs h x
            let y := if false = true then Elt.idxAdd e (g i) w else w
            fun j => if (∀ a, (j a).val = (i a).val) then y else g j
          else g) g) j = w ∧ ∃ k ∈ L, mask (Shape.ofLane k) = 1 ∧ ∀ a, (j a).val = (idxs a (Shape.ofLane k)).toNat)
      ∨ ((L.foldl (fun g k =>
          let x := Shape.ofLane k
          if mask x = 1 then
            let i := idxAt idxs h x
            let y := if false = true then Elt.idxAdd e (g i) w else w
            fun j => if (∀ a, (j a).val = (i a).val) then y else g j
          else g) g) j = g j ∧ ∀ k ∈ L, mask (Shape.ofLane k) = 1 → ¬ ∀ a, (j a).val = (idxs a (Shape.ofLane k)).toNat) := by
    intro L
    induction L with
    | nil => intro g; right; simp
    | cons k L ih =>
      intro g
      rw [List.foldl_cons]
      rcases ih _ with ⟨h1, k', hk', hm, hj⟩ | ⟨h1, h2⟩
      · left; exact ⟨h1, k', List.mem_cons_of_mem _ hk', hm, hj⟩
      · rw [h1]
        by_cases hm : mask (Shape.ofLane k) = 1
        · by_cases hj : ∀ a, (j a).val = (idxs a (Shape.ofLane k)).toNat
          · left
            refine ⟨?_, k, List.mem_cons_self, hm, hj⟩
            have hj' : ∀ a, (j a).val = (idxAt idxs h (Shape.ofLane k) a).val := hj
            simp [hm, hj']
          · right
            have hj' : ¬ ∀ a, (j a).val = (idxAt idxs h (Shape.ofLane k) a).val := hj
            refine ⟨by simp only [hm, if_true]; rw [if_neg hj'], ?_⟩
            intro k' hk' hm'
            rcases List.mem_cons.mp hk' with rfl | hk'
            · exact hj
            · exact h2 k' hk' hm'
        · right
          refine ⟨by simp only [hm, if_false], ?_⟩
          intro k' hk' hm'
          rcases List.mem_cons.mp hk' with rfl | hk'
          · exact absurd hm' hm
          · exact h2 k' hk' hm'
  have hx : ∀ x : (⟨1, d⟩ : Shape).Idx, ∃ k : Fin (d 0), Shape.ofLane k = x := fun x =>
    ⟨x 0, by funext a; obtain rfl : a = 0 := Subsingleton.elim _ _; rfl⟩
  have key' := key (List.finRange (d 0)) f
  have e' : storeIdx f idxs (fun _ => w) mask false h = (List.finRange (d 0)).foldl (fun g k =>
          let x := Shape.ofLane k
          if mask x = 1 then
            let i := idxAt idxs h x
            let y := if false = true then Elt.idxAdd e (g i) w else w
            fun j => if (∀ a, (j a).val = (i a).val) then y else g j
          else g) f := by
    unfold storeIdx
    congr 1
    funext g k
    dsimp only
    split
    · funext j
      simp only [Bool.false_eq_true, if_false]
    · rfl
  rw [← e'] at key'
  rcases key' with ⟨h1, k, -, hm, hj⟩ | ⟨h1, h2⟩
  · exact .inl ⟨h1, Shape.ofLane k, hm, hj⟩
  · refine .inr ⟨h1, fun x hm => ?_⟩
    obtain ⟨k, rfl⟩ := hx x
    exact h2 k (List.mem_finRange k) hm

/-! ## The lanes -/

omit [FloatOps F] [Named F] in
theorem iota_apply (x : S16.Idx) : iota .scVector S16 32 [0] iota_S16_d0_w32_scVector x = BitVec.ofNat 32 (x 0).val := by
  simp [iota]

omit [FloatOps F] [Named F] in
theorem second_apply (x : S16.Idx) : second x = BitVec.ofNat 32 ((x 0).val / 8) := by
  have h16 : (x 0).val < 16 := (x 0).isLt
  show (IntOp.cmpi .sge (iota .scVector S16 32 [0] iota_S16_d0_w32_scVector x) 8#32).setWidth 32 = _
  rw [iota_apply]
  generalize (x 0).val = n at h16
  interval_cases n <;> rfl

omit [FloatOps F] [Named F] in
theorem x_lt (x : S16.Idx) : (x 0).val < 16 := (x 0).isLt

/-- Lane `n`. -/
def laneAt (n : ℕ) (h : n < 16) : S16.Idx := Shape.ofLane (d := ![16]) ⟨n, h⟩

omit [FloatOps F] [Named F] in
theorem rowVec_apply {R : ℕ} (hR : R + 1 < 2 ^ 32) (x : S16.Idx) : rowVec (BitVec.ofNat 32 R) x = BitVec.ofNat 32 (R + (x 0).val / 8) := by
  show BitVec.ofNat 32 R + second x = _
  rw [second_apply, ← BitVec.ofNat_add]

omit [FloatOps F] [Named F] in
theorem gIdx_toNat {nb : IVec S16 32} {l : ℕ} (hl : l < 8) (x : S16.Idx) (h : (nb x).toNat < 2048) :
    (gIdx nb (BitVec.ofNat 32 l) x).toNat = 8 * (nb x).toNat + l := by
  show (nb x * 8#32 + BitVec.ofNat 32 l).toNat = _
  rw [BitVec.toNat_add, BitVec.toNat_mul, BitVec.toNat_ofNat, BitVec.toNat_ofNat]
  omega

omit [FloatOps F] [Named F] in
theorem sIdx_toNat {nb : IVec S16 32} {c : ℕ} (hc : c < 15) (x : S16.Idx) (h : (nb x).toNat < 2048) :
    (sIdx (BitVec.ofNat 32 c) nb x).toNat = 2048 * (c + (x 0).val / 8) + (nb x).toNat := by
  have h16 := x_lt x
  show ((BitVec.ofNat 32 c + second x) * 2048#32 + nb x).toNat = _
  rw [second_apply, ← BitVec.ofNat_add, BitVec.toNat_add, BitVec.toNat_mul, BitVec.toNat_ofNat, BitVec.toNat_ofNat]
  omega

/-! ## One pair -/

omit [Named F] in
/-- A pair's scatter of ones: the buffer after `v` pairs becomes the buffer after `v + 1`. `nb` are the sixteen words of
    the table from row `R + 2 v` on; the mask is set at the lanes whose neighbour names the lane's row back. -/
theorem scatter_up {tb : Tab} {R v : ℕ} (hv : v < 8) {nb : IVec S16 32} {mask : IVec S16 1}
    (hlt : ∀ x, (nb x).toNat < 2048) (hnb : ∀ x : S16.Idx, nb x = tb (8 * (R + 2 * v) + (x 0).val))
    (hmask : ∀ x, mask x = 1 ↔ nbr tb (nb x).toNat (R + 2 * v + (x 0).val / 8))
    (h : ∀ a x, ((![sIdx (BitVec.ofNat 32 (2 * v)) nb] : Fin 1 → IVec S16 32) a x).toNat < S32768.size a) :
    storeIdx (bufUp (F := F) tb R v) ![sIdx (BitVec.ofNat 32 (2 * v)) nb] (k1_pay3 (F := F)) mask false h = bufUp tb R (v + 1) := by
  funext j
  have hj := j_lt j
  have hk : (k1_pay3 (F := F)) = fun _ => f1 := rfl
  rw [hk]
  have hidx : ∀ x : S16.Idx, ((∀ a, (j a).val = ((![sIdx (BitVec.ofNat 32 (2 * v)) nb] : Fin 1 → IVec S16 32) a x).toNat)
      ↔ (j 0).val = 2048 * (2 * v + (x 0).val / 8) + (nb x).toNat) := by
    intro x
    rw [← sIdx_toNat (by omega) x (hlt x)]
    exact ⟨fun h => h 0, fun h a => by obtain rfl : a = 0 := Subsingleton.elim _ _; exact h⟩
  rcases storeIdx_const (F := F) (bufUp tb R v) ![sIdx (BitVec.ofNat 32 (2 * v)) nb] f1 mask h j with ⟨e, x, hm, hx⟩ | ⟨e, hx⟩
  · rw [e]
    have hx' := (hidx x).mp hx
    have h1 := hlt x
    have h2 := x_lt x
    have hr : (j 0).val / 2048 = 2 * v + (x 0).val / 8 := by omega
    have hq : (j 0).val % 2048 = (nb x).toNat := by omega
    have hback := (hmask x).mp hm
    unfold bufUp
    rw [if_pos]
    refine ⟨by omega, ?_, ?_⟩
    · refine ⟨(x 0).val % 8, Nat.mod_lt _ (by omega), ?_⟩
      rw [hr, hq, hnb x]; congr 2; omega
    · rw [hr, hq, ← Nat.add_assoc]; exact hback
  · rw [e]
    unfold bufUp
    refine if_congr ?_ rfl rfl
    constructor
    · rintro ⟨h1, h2⟩; exact ⟨by omega, h2⟩
    · rintro ⟨h1, h2⟩
      refine ⟨?_, h2⟩
      by_contra hcon
      obtain ⟨⟨l, hl, hl'⟩, hback⟩ := h2
      have hlx : 8 * ((j 0).val / 2048 - 2 * v) + l < 16 := by omega
      have hx0 := hx (laneAt _ hlx)
      have hval : (nb (laneAt _ hlx)).toNat = (j 0).val % 2048 := by
        rw [hnb, ← hl']; congr 2; show 8 * (R + 2 * v) + (8 * ((j 0).val / 2048 - 2 * v) + l) = _; omega
      refine hx0 ((hmask _).mpr ?_) ((hidx _).mpr ?_)
      · rw [hval]
        convert hback using 1
        show R + 2 * v + (8 * ((j 0).val / 2048 - 2 * v) + l) / 8 = _; omega
      · rw [hval]
        show (j 0).val = 2048 * (2 * v + (8 * ((j 0).val / 2048 - 2 * v) + l) / 8) + _; omega

omit [Named F] in
/-- A clearing pair's scatter of zeros. -/
theorem scatter_down {tb : Tab} {R v : ℕ} (hv : v < 8) {nb : IVec S16 32}
    (hlt : ∀ x, (nb x).toNat < 2048) (hnb : ∀ x : S16.Idx, nb x = tb (8 * (R + 2 * v) + (x 0).val))
    (h : ∀ a x, ((![sIdx (BitVec.ofNat 32 (2 * v)) nb] : Fin 1 → IVec S16 32) a x).toNat < S32768.size a) :
    storeIdx (bufDown (F := F) tb R v) ![sIdx (BitVec.ofNat 32 (2 * v)) nb] (k1_pay1 (F := F)) (fun _ => 1#1) false h = bufDown tb R (v + 1) := by
  funext j
  have hj := j_lt j
  have hk : (k1_pay1 (F := F)) = fun _ => f0 := rfl
  rw [hk]
  have hidx : ∀ x : S16.Idx, ((∀ a, (j a).val = ((![sIdx (BitVec.ofNat 32 (2 * v)) nb] : Fin 1 → IVec S16 32) a x).toNat)
      ↔ (j 0).val = 2048 * (2 * v + (x 0).val / 8) + (nb x).toNat) := by
    intro x
    rw [← sIdx_toNat (by omega) x (hlt x)]
    exact ⟨fun h => h 0, fun h a => by obtain rfl : a = 0 := Subsingleton.elim _ _; exact h⟩
  rcases storeIdx_const (F := F) (bufDown tb R v) ![sIdx (BitVec.ofNat 32 (2 * v)) nb] f0 (fun _ => 1#1) h j with ⟨e, x, hm, hx⟩ | ⟨e, hx⟩
  · rw [e]
    have hx' := (hidx x).mp hx
    have h1 := hlt x
    have h2 := x_lt x
    unfold bufDown
    rw [if_neg]
    rintro ⟨h3, -⟩; omega
  · rw [e]
    unfold bufDown
    refine if_congr ?_ rfl rfl
    constructor
    · rintro ⟨h1, h2⟩
      refine ⟨?_, h2⟩
      by_contra hcon
      obtain ⟨⟨l, hl, hl'⟩, hback⟩ := h2
      have hlx : 8 * ((j 0).val / 2048 - 2 * v) + l < 16 := by omega
      have hx0 := hx (laneAt _ hlx) rfl
      have hval : (nb (laneAt _ hlx)).toNat = (j 0).val % 2048 := by
        rw [hnb, ← hl']; congr 2; show 8 * (R + 2 * v) + (8 * ((j 0).val / 2048 - 2 * v) + l) = _; omega
      refine hx0 ((hidx _).mpr ?_)
      rw [hval]
      show (j 0).val = 2048 * (2 * v + (8 * ((j 0).val / 2048 - 2 * v) + l) / 8) + _; omega
    · rintro ⟨h1, h2⟩; exact ⟨by omega, h2⟩

/-! ## The eight gathers' mask -/

/-- The mask after one gather more. -/
def gAcc (tb : Tab) (nb row : IVec S16 32) (l : ℕ) (acc : IVec S16 1) : IVec S16 1 := fun x =>
  acc x ||| BitVec.ofBool (tb (8 * (nb x).toNat + l) == row x)

omit [FloatOps F] [Named F] in
theorem gAcc_one {tb : Tab} {nb row : IVec S16 32} {l : ℕ} {acc : IVec S16 1} {x : S16.Idx} :
    gAcc tb nb row l acc x = 1 ↔ acc x = 1 ∨ tb (8 * (nb x).toNat + l) = row x := by
  unfold gAcc
  by_cases h : tb (8 * (nb x).toNat + l) = row x
  · simp only [h, beq_self_eq_true, or_true, iff_true]
    generalize acc x = a; revert a; decide
  · have h' : (tb (8 * (nb x).toNat + l) == row x) = false := by simpa using h
    rw [h']; simp only [h, or_false]
    generalize acc x = a; revert a; decide

/-- The mask before the gathers: no lane. -/
def acc0 : IVec S16 1 := cmpi .slt (iota .scVector S16 32 [0] iota_S16_d0_w32_scVector) (broadcast S16 0#32)

omit [FloatOps F] [Named F] in
theorem acc0_apply (x : S16.Idx) : ¬ acc0 x = 1 := by
  have h16 := x_lt x
  show ¬ IntOp.cmpi .slt (iota .scVector S16 32 [0] iota_S16_d0_w32_scVector x) 0#32 = 1
  rw [iota_apply]
  generalize (x 0).val = n at h16
  interval_cases n <;> decide

/-- The mask the pair's eight gathers leave. -/
def accAll (tb : Tab) (nb row : IVec S16 32) : IVec S16 1 :=
  gAcc tb nb row 7 (gAcc tb nb row 6 (gAcc tb nb row 5 (gAcc tb nb row 4 (gAcc tb nb row 3 (gAcc tb nb row 2
    (gAcc tb nb row 1 (gAcc tb nb row 0 acc0)))))))

omit [FloatOps F] [Named F] in
theorem accAll_one {tb : Tab} (htb : ∀ n, (tb n).toNat < 2048) {nb : IVec S16 32} {R : ℕ} (hR : R + 1 < 2048) (x : S16.Idx) :
    accAll tb nb (rowVec (BitVec.ofNat 32 R)) x = 1 ↔ nbr tb (nb x).toNat (R + (x 0).val / 8) := by
  have h16 := x_lt x
  have hw : ∀ w : BitVec 32, w = rowVec (BitVec.ofNat 32 R) x ↔ w.toNat = R + (x 0).val / 8 := by
    intro w
    rw [rowVec_apply (by omega)]
    constructor
    · rintro rfl; rw [BitVec.toNat_ofNat]; omega
    · intro h; apply BitVec.eq_of_toNat_eq; rw [BitVec.toNat_ofNat, h]; omega
  unfold accAll
  simp only [gAcc_one, acc0_apply, false_or, hw]
  unfold nbr
  constructor
  · rintro (((((((h | h) | h) | h) | h) | h) | h) | h)
    exacts [⟨0, by omega, h⟩, ⟨1, by omega, h⟩, ⟨2, by omega, h⟩, ⟨3, by omega, h⟩, ⟨4, by omega, h⟩, ⟨5, by omega, h⟩,
      ⟨6, by omega, h⟩, ⟨7, by omega, h⟩]
  · rintro ⟨l, hl, h⟩
    interval_cases l <;> simp only [h, true_or, or_true]

end Cert.Proof.KI

end
-- ==== Proof.KTile.lean ====
/-
  The row pairs of the SparseCore kernel, run: each takes the tile's table and row buffer from one state of
  `bufUp`/`bufDown` to the next.
-/
module

public import proofs.«01_k».proof.Proof.KPure
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KI

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.Tactic
open SparseCore (S V T)
open SparseCore.Cfg (HIx Pay)

variable {F : FTy → Type} [FloatOps F] [Named F]

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev 𝒱₀ : Variants := Variants.none

local notation "inW" => (Memref.whole Cert.KernelIdeal.main_v1_scv : Memref Cert.KernelIdeal.sig Kind.scVector Space.hbm Cert.KernelIdeal.S4x16384 EltTy.i32)
local notation "outW" => (Memref.whole Cert.KernelIdeal.main_v2_scv : Memref Cert.KernelIdeal.sig Kind.scVector Space.hbm Cert.KernelIdeal.S16777216 EltTy.f32)
local notation "tblW" => (Memref.whole Cert.KernelIdeal.cc1_scratch0 : Memref Cert.KernelIdeal.sig Kind.scVector Space.vmem Cert.KernelIdeal.S16384 EltTy.i32)
local notation "bufW" => (Memref.whole Cert.KernelIdeal.cc1_scratch1 : Memref Cert.KernelIdeal.sig Kind.scVector Space.vmem Cert.KernelIdeal.S32768 EltTy.f32)

abbrev cV (i : grid1.Coords) : Fin τ.nSC := (i 0).castLE hcore1
abbrev sV (i : grid1.Coords) : Fin τ.nSub := (i 1).castLE hsub1

section Pair

variable (d : Dev nD) (i : grid1.Coords)

abbrev thr : Thread nD τ := V d (cV i) (sV i)

/-- The tile's table whole at `f`, its row buffer whole at `f`. -/
abbrev tblPts (f : Buf (Elt F) ((thr d i).loc cc1_scratch0)) : sProp 𝕄 := (tblW).view.loc (thr d i) ↦{fullShare} f
abbrev bufPts (f : Buf (Elt F) ((thr d i).loc cc1_scratch1)) : sProp 𝕄 := (bufW).view.loc (thr d i) ↦{fullShare} f

/-- The table's word number `n`. -/
def tabOf (f : Vec F S16384 .i32) : Tab := fun n => if h : n < 16384 then f (Shape.ofLane (d := ![16384]) ⟨n, h⟩) else 0#32

omit [Named F] [FloatOps F] in
theorem tabOf_idx (f : Vec F S16384 .i32) (j : S16384.Idx) : f j = tabOf f (j 0).val := by
  have h : (j 0).val < 16384 := (j 0).isLt
  unfold tabOf
  rw [dif_pos h]
  congr 1
  funext a; obtain rfl : a = 0 := Subsingleton.elim _ _; rfl

omit [Named F] [FloatOps F] in
theorem tabOf_lt {f : Vec F S16384 .i32} (h : ∀ j, (f j).toNat < 2048) (n : ℕ) : (tabOf f n).toNat < 2048 := by
  unfold tabOf; split
  · exact h _
  · decide

omit [Named F] [FloatOps F] in
theorem read_tbl (f : Vec F S16384 .i32) : ((tblW).access (.whole S16384)).read (Elt F) f = f := Memref.read_access_whole (Elt F) cc1_scratch0 f
omit [Named F] [FloatOps F] in
theorem read_buf (f : Vec F S32768 .f32) : ((bufW).access (.whole S32768)).read (Elt F) f = f := Memref.read_access_whole (Elt F) cc1_scratch1 f
omit [Named F] [FloatOps F] in
theorem write_buf (f w : Vec F S32768 .f32) : ((bufW).access (.whole S32768)).write (Elt F) f w Finset.univ = w :=
  Memref.write_access_whole_univ (Elt F) cc1_scratch1 f w

/-- The sixteen words a pair loads. -/
theorem load_tbl (f : Vec F S16384 .i32) (off : Fin 1 → ℕ) (hoff : ∀ a, off a + S16.size a ≤ S16384.size a) (x : S16.Idx) :
    (tblW).view.readAt (Elt F) (Rect.unit (s := S16384) off S16.size hoff).toLoadRect f x = tabOf f (off 0 + (x 0).val) := by
  rw [View.readAt_apply]
  simp only [Memref.view_whole, View.read_whole]
  refine (tabOf_idx (F := F) f _).trans ?_
  congr 1
  rw [LoadRect.idx_apply]
  show off 0 + 1 * (x 0).val = _
  omega

theorem wp_gStep {α : Type} {Q : α → sProp 𝕄} {k : IVec S16 1 → Prog (TE F i) α}
    {f : Vec F S16384 .i32} {nb row : IVec S16 32} (hnb : ∀ x, (nb x).toNat < 2048) {l : ℕ} (hl : l < 8) {acc : IVec S16 1} :
    (tblPts (F := F) d i f)
      ⊢ iprop((tblPts (F := F) d i f -∗ wp frame (wpE (defs₀ (F := F)) 𝒱₀ (thr d i) none) Set.univ (k (gAcc (tabOf f) nb row l acc)) Q)
        -∗ wp frame (wpE (defs₀ (F := F)) 𝒱₀ (thr d i) none) Set.univ (gStep i tblW nb row (BitVec.ofNat 32 l) acc >>= k) Q) := by
  have hw : k1_chk1 (gIdx nb (BitVec.ofNat 32 l)) := by
    intro a x
    obtain rfl : a = 0 := Subsingleton.elim _ _
    show (gIdx nb (BitVec.ofNat 32 l) x).toNat < 16384
    rw [gIdx_toNat hl x (hnb x)]
    have := hnb x; omega
  unfold gStep
  simp only [Prog.lift, Prog.bind_op, Prog.bind_ret, Prog.pure_eq_ret, bind_assoc]
  rw [wp_assume_of _ _ _ _ hw]
  iintro H Hk
  iapply (SparseCore.wp_vectorLoadIdx 𝒱₀ (thr d i) none Set.univ (base := tblW) (S := Finset.univ) (q := fullShare) (Finset.subset_univ _)) $$ H
  iintro H
  have e : ori acc (cmpi .eq (loadIdx (((tblW).access (.whole S16384)).read (Elt F) f) ![gIdx nb (BitVec.ofNat 32 l)] (k1_idx1_inb _ hw)) row)
      = gAcc (tabOf f) nb row l acc := by
    funext x
    show acc x ||| BitVec.ofBool (_ == row x) = acc x ||| BitVec.ofBool (_ == row x)
    congr 3
    rw [read_tbl]
    show f _ = _
    refine (tabOf_idx (F := F) f _).trans ?_
    congr 1
    show (gIdx nb (BitVec.ofNat 32 l) x).toNat = _
    exact gIdx_toNat hl x (hnb x)
  rw [← e]
  iapply Hk; iexact H

/-- What a scatter leaves in the row buffer, at the value the pure lemma gives it. -/
theorem stored {f g : Vec F S32768 .f32} {idxs : IVec S16 32} {w : Vec F S16 .f32} {mask : IVec S16 1}
    (h : ∀ a x, ((![idxs] : Fin 1 → IVec S16 32) a x).toNat < S32768.size a) (e : storeIdx f ![idxs] w mask false h = g) :
    (((bufW).access (.whole S32768)).loc (thr d i) ↦[((bufW).access (.whole S32768)).set]{fullShare}
        ((bufW).access (.whole S32768)).write (Elt F) f
          (storeIdx (((bufW).access (.whole S32768)).read (Elt F) f) ![idxs] w mask false h) Finset.univ : sProp 𝕄)
      = bufPts (F := F) d i g := by
  have hset : ((bufW).access (.whole S32768)).set = Finset.univ := Memref.set_access_whole cc1_scratch1
  rw [write_buf, read_buf, hset, e]

theorem wp_pairUp {α : Type} {Q : α → sProp 𝕄} {k' : PUnit → Prog (TE F i) α}
    {f : Vec F S16384 .i32} (hf : ∀ j, (f j).toNat < 2048) {R v : ℕ} (hv : v < 8) (hR : R + 16 ≤ 2048)
    {off : Fin 1 → ℕ} {hoff : ∀ a, off a + S16.size a ≤ S16384.size a} (hoffv : off 0 = 8 * (R + 2 * v)) :
    iprop(tblPts (F := F) d i f ∗ bufPts (F := F) d i (bufUp (tabOf f) R v))
      ⊢ iprop((iprop(tblPts (F := F) d i f ∗ bufPts (F := F) d i (bufUp (tabOf f) R (v + 1)))
            -∗ wp frame (wpE (defs₀ (F := F)) 𝒱₀ (thr d i) none) Set.univ (k' ⟨⟩) Q)
        -∗ wp frame (wpE (defs₀ (F := F)) 𝒱₀ (thr d i) none) Set.univ
          (pairUp i tblW bufW off hoff (BitVec.ofNat 32 R) (BitVec.ofNat 32 (2 * v)) >>= k') Q) := by
  unfold pairUp
  simp only [Prog.lift, Prog.bind_op, Prog.bind_ret, bind_assoc]
  iintro ⟨Ht, Hb⟩ Hk
  iapply (wp_load 𝒱₀ (thr d i) none Set.univ (m := tblW) (S := Finset.univ) (Finset.subset_univ _)) $$ Ht
  iintro Ht
  have hnb : ∀ x : S16.Idx, (tblW).view.readAt (Elt F) (Rect.unit (s := S16384) off S16.size hoff).toLoadRect f x
      = tabOf f (8 * (R + 2 * v) + (x 0).val) := fun x => by rw [load_tbl, hoffv]
  have hlt : ∀ x : S16.Idx, ((tblW).view.readAt (Elt F) (Rect.unit (s := S16384) off S16.size hoff).toLoadRect f x).toNat < 2048 :=
    fun x => by rw [hnb]; exact tabOf_lt hf _
  generalize (tblW).view.readAt (Elt F) (Rect.unit (s := S16384) off S16.size hoff).toLoadRect f = nb at hnb hlt ⊢
  have hrow : Scalar.addi (BitVec.ofNat 32 R) (BitVec.ofNat 32 (2 * v)) = BitVec.ofNat 32 (R + 2 * v) :=
    (BitVec.ofNat_add R (2 * v)).symm
  rw [hrow]
  iapply (wp_gStep d i hlt (l := 0) (by omega)) $$ Ht; iintro Ht
  iapply (wp_gStep d i hlt (l := 1) (by omega)) $$ Ht; iintro Ht
  iapply (wp_gStep d i hlt (l := 2) (by omega)) $$ Ht; iintro Ht
  iapply (wp_gStep d i hlt (l := 3) (by omega)) $$ Ht; iintro Ht
  iapply (wp_gStep d i hlt (l := 4) (by omega)) $$ Ht; iintro Ht
  iapply (wp_gStep d i hlt (l := 5) (by omega)) $$ Ht; iintro Ht
  iapply (wp_gStep d i hlt (l := 6) (by omega)) $$ Ht; iintro Ht
  iapply (wp_gStep d i hlt (l := 7) (by omega)) $$ Ht; iintro Ht
  have hw : k1_chk9 (sIdx (BitVec.ofNat 32 (2 * v)) nb) := by
    intro a x
    obtain rfl : a = 0 := Subsingleton.elim _ _
    show (sIdx (BitVec.ofNat 32 (2 * v)) nb x).toNat < 32768
    rw [sIdx_toNat (by omega) x (hlt x)]
    have := hlt x; have := x_lt x; omega
  rw [wp_assume_of _ _ _ _ hw]
  have hset : ((bufW).access (.whole S32768)).set = Finset.univ := Memref.set_access_whole cc1_scratch1
  have hb0 : (bufPts (F := F) d i (bufUp (tabOf f) R v)) = (((bufW).access (.whole S32768)).loc (thr d i) ↦[((bufW).access (.whole S32768)).set]{fullShare} bufUp (tabOf f) R v : sProp 𝕄) := by
    rw [hset]
  ihave Hb := (Entails.of_eq hb0) $$ Hb
  iapply (SparseCore.wp_vectorStoreIdx 𝒱₀ (thr d i) none Set.univ (base := bufW)) $$ Hb
  iintro Hb
  have hmask : ∀ x, accAll (tabOf f) nb (rowVec (BitVec.ofNat 32 (R + 2 * v))) x = 1 ↔ nbr (tabOf f) (nb x).toNat (R + 2 * v + (x 0).val / 8) :=
    fun x => accAll_one (tabOf_lt hf) (by omega) x
  have hs := scatter_up (F := F) (tb := tabOf f) (R := R) hv hlt hnb hmask (k1_idx9_inb _ hw)
  unfold accAll acc0 at hs
  ihave Hb := (Entails.of_eq (stored (F := F) d i (k1_idx9_inb _ hw) hs)) $$ Hb
  iapply Hk
  isplitl [Ht]; · iexact Ht
  iexact Hb

theorem wp_pairDown {α : Type} {Q : α → sProp 𝕄} {k' : PUnit → Prog (TE F i) α}
    {f : Vec F S16384 .i32} (hf : ∀ j, (f j).toNat < 2048) {R v : ℕ} (hv : v < 8) (hR : R + 16 ≤ 2048)
    {off : Fin 1 → ℕ} {hoff : ∀ a, off a + S16.size a ≤ S16384.size a} (hoffv : off 0 = 8 * (R + 2 * v)) :
    iprop(tblPts (F := F) d i f ∗ bufPts (F := F) d i (bufDown (tabOf f) R v))
      ⊢ iprop((iprop(tblPts (F := F) d i f ∗ bufPts (F := F) d i (bufDown (tabOf f) R (v + 1)))
            -∗ wp frame (wpE (defs₀ (F := F)) 𝒱₀ (thr d i) none) Set.univ (k' ⟨⟩) Q)
        -∗ wp frame (wpE (defs₀ (F := F)) 𝒱₀ (thr d i) none) Set.univ
          (pairDown i tblW bufW off hoff (BitVec.ofNat 32 (2 * v)) >>= k') Q) := by
  unfold pairDown
  simp only [Prog.lift, Prog.bind_op, Prog.bind_ret, bind_assoc]
  iintro ⟨Ht, Hb⟩ Hk
  iapply (wp_load 𝒱₀ (thr d i) none Set.univ (m := tblW) (S := Finset.univ) (Finset.subset_univ _)) $$ Ht
  iintro Ht
  have hnb : ∀ x : S16.Idx, (tblW).view.readAt (Elt F) (Rect.unit (s := S16384) off S16.size hoff).toLoadRect f x
      = tabOf f (8 * (R + 2 * v) + (x 0).val) := fun x => by rw [load_tbl, hoffv]
  have hlt : ∀ x : S16.Idx, ((tblW).view.readAt (Elt F) (Rect.unit (s := S16384) off S16.size hoff).toLoadRect f x).toNat < 2048 :=
    fun x => by rw [hnb]; exact tabOf_lt hf _
  generalize (tblW).view.readAt (Elt F) (Rect.unit (s := S16384) off S16.size hoff).toLoadRect f = nb at hnb hlt ⊢
  have hw : k1_chk9 (sIdx (BitVec.ofNat 32 (2 * v)) nb) := by
    intro a x
    obtain rfl : a = 0 := Subsingleton.elim _ _
    show (sIdx (BitVec.ofNat 32 (2 * v)) nb x).toNat < 32768
    rw [sIdx_toNat (by omega) x (hlt x)]
    have := hlt x; have := x_lt x; omega
  rw [wp_assume_of _ _ _ _ hw]
  have hset : ((bufW).access (.whole S32768)).set = Finset.univ := Memref.set_access_whole cc1_scratch1
  have hb0 : (bufPts (F := F) d i (bufDown (tabOf f) R v)) = (((bufW).access (.whole S32768)).loc (thr d i) ↦[((bufW).access (.whole S32768)).set]{fullShare} bufDown (tabOf f) R v : sProp 𝕄) := by
    rw [hset]
  ihave Hb := (Entails.of_eq hb0) $$ Hb
  iapply (SparseCore.wp_vectorStoreIdx 𝒱₀ (thr d i) none Set.univ (base := bufW)) $$ Hb
  iintro Hb
  ihave Hb := (Entails.of_eq (stored (F := F) d i (k1_idx9_inb _ hw)
    (scatter_down (F := F) (tb := tabOf f) (R := R) hv hlt hnb (k1_idx9_inb _ hw)))) $$ Hb
  iapply Hk
  isplitl [Ht]; · iexact Ht
  iexact Hb

end Pair

end Cert.Proof.KI

end
-- ==== Proof.KRun.lean ====
/-
  The SparseCore kernel on one tile: the table's copy in, the row buffer's clearing, the sixteen chunks. Tile number
  `wid` fills the 256 rows from `row0` on of batch `bat`, that is the words `[524288 * wid, 524288 * (wid + 1))` of the
  flat output.
-/
module

public import proofs.«01_k».proof.Proof.KTile

@[expose] public section

noncomputable section

namespace Cert.Proof.KI

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.Tactic
open SparseCore (S V T)
open SparseCore.Cfg (HIx Pay)

variable {F : FTy → Type} [FloatOps F] [Named F]

local notation "𝕄" => MT nD τ sig (HIx 1) (Elt F) ℕ UU ℕ

local notation "inW" => (Memref.whole Cert.KernelIdeal.main_v1_scv : Memref Cert.KernelIdeal.sig Kind.scVector Space.hbm Cert.KernelIdeal.S4x16384 EltTy.i32)
local notation "outW" => (Memref.whole Cert.KernelIdeal.main_v2_scv : Memref Cert.KernelIdeal.sig Kind.scVector Space.hbm Cert.KernelIdeal.S16777216 EltTy.f32)
local notation "tblW" => (Memref.whole Cert.KernelIdeal.cc1_scratch0 : Memref Cert.KernelIdeal.sig Kind.scVector Space.vmem Cert.KernelIdeal.S16384 EltTy.i32)
local notation "bufW" => (Memref.whole Cert.KernelIdeal.cc1_scratch1 : Memref Cert.KernelIdeal.sig Kind.scVector Space.vmem Cert.KernelIdeal.S32768 EltTy.f32)

/-! ## Where a tile works -/

/-- A tile's number, its batch, the first of its rows. -/
def wid (i : grid1.Coords) : ℕ := 2 * (i 1).val + (i 0).val
def bat (i : grid1.Coords) : ℕ := wid i / 8
def row0 (i : grid1.Coords) : ℕ := wid i % 8 * 256

theorem wid_lt (i : grid1.Coords) : wid i < 32 := by
  have h0 : (i 0).val < 2 := (i 0).isLt
  have h1 : (i 1).val < 16 := (i 1).isLt
  unfold wid; omega

theorem off1_eq (i : grid1.Coords) : k1_off1 i = ![bat i, 0] := by revert i; decide +kernel
theorem off3_eq (i : grid1.Coords) (k : Fin k1_t2_loop.trips) : k1_off3 i k 0 = 8 * (row0 i + 16 * k.val + 2 * 0) := by revert i k; decide +kernel
theorem off4_eq (i : grid1.Coords) (k : Fin k1_t2_loop.trips) : k1_off4 i k 0 = 8 * (row0 i + 16 * k.val + 2 * 1) := by revert i k; decide +kernel
theorem off5_eq (i : grid1.Coords) (k : Fin k1_t2_loop.trips) : k1_off5 i k 0 = 8 * (row0 i + 16 * k.val + 2 * 2) := by revert i k; decide +kernel
theorem off6_eq (i : grid1.Coords) (k : Fin k1_t2_loop.trips) : k1_off6 i k 0 = 8 * (row0 i + 16 * k.val + 2 * 3) := by revert i k; decide +kernel
theorem off7_eq (i : grid1.Coords) (k : Fin k1_t2_loop.trips) : k1_off7 i k 0 = 8 * (row0 i + 16 * k.val + 2 * 4) := by revert i k; decide +kernel
theorem off8_eq (i : grid1.Coords) (k : Fin k1_t2_loop.trips) : k1_off8 i k 0 = 8 * (row0 i + 16 * k.val + 2 * 5) := by revert i k; decide +kernel
theorem off9_eq (i : grid1.Coords) (k : Fin k1_t2_loop.trips) : k1_off9 i k 0 = 8 * (row0 i + 16 * k.val + 2 * 6) := by revert i k; decide +kernel
theorem off10_eq (i : grid1.Coords) (k : Fin k1_t2_loop.trips) : k1_off10 i k 0 = 8 * (row0 i + 16 * k.val + 2 * 7) := by revert i k; decide +kernel
theorem off11_eq (i : grid1.Coords) (k : Fin k1_t2_loop.trips) : k1_off11 i k = ![524288 * wid i + 32768 * k.val] := by revert i k; decide +kernel
theorem off12_eq (i : grid1.Coords) (k : Fin k1_t2_loop.trips) : k1_off12 i k 0 = 8 * (row0 i + 16 * k.val + 2 * 0) := by revert i k; decide +kernel
theorem off13_eq (i : grid1.Coords) (k : Fin k1_t2_loop.trips) : k1_off13 i k 0 = 8 * (row0 i + 16 * k.val + 2 * 1) := by revert i k; decide +kernel
theorem off14_eq (i : grid1.Coords) (k : Fin k1_t2_loop.trips) : k1_off14 i k 0 = 8 * (row0 i + 16 * k.val + 2 * 2) := by revert i k; decide +kernel
theorem off15_eq (i : grid1.Coords) (k : Fin k1_t2_loop.trips) : k1_off15 i k 0 = 8 * (row0 i + 16 * k.val + 2 * 3) := by revert i k; decide +kernel
theorem off16_eq (i : grid1.Coords) (k : Fin k1_t2_loop.trips) : k1_off16 i k 0 = 8 * (row0 i + 16 * k.val + 2 * 4) := by revert i k; decide +kernel
theorem off17_eq (i : grid1.Coords) (k : Fin k1_t2_loop.trips) : k1_off17 i k 0 = 8 * (row0 i + 16 * k.val + 2 * 5) := by revert i k; decide +kernel
theorem off18_eq (i : grid1.Coords) (k : Fin k1_t2_loop.trips) : k1_off18 i k 0 = 8 * (row0 i + 16 * k.val + 2 * 6) := by revert i k; decide +kernel
theorem off19_eq (i : grid1.Coords) (k : Fin k1_t2_loop.trips) : k1_off19 i k 0 = 8 * (row0 i + 16 * k.val + 2 * 7) := by revert i k; decide +kernel

/-- The first row as the kernel computes it: its number's remainder by 8 (Python's, from the machine's), times 256. -/
def rowW (i : grid1.Coords) : BitVec 32 :=
  let v1 := Scalar.addi (Scalar.muli (BitVec.ofNat 32 (i 1).val) 2#32) (BitVec.ofNat 32 (i 0).val)
  let v20 := Scalar.select (Scalar.cmpi .eq 8#32 0#32) 1#32 8#32
  let v21 := Scalar.remsi v1 v20
  let v26 := Scalar.andi (Scalar.xori (Scalar.cmpi .slt v21 0#32) (Scalar.cmpi .slt v20 0#32)) (Scalar.cmpi .ne v21 0#32)
  Scalar.muli (Scalar.select v26 (Scalar.addi v21 v20) v21) 256#32

theorem rowW_eq (i : grid1.Coords) (k : Fin k1_t2_loop.trips) :
    Scalar.addi (rowW i) (Scalar.muli (Scf.iv 0#32 1#32 k) 16#32) = BitVec.ofNat 32 (row0 i + 16 * k.val) := by
  revert i k; decide +kernel

/-- The tile's row of the table in HBM. -/
abbrev srcRow (i : grid1.Coords) : Memref sig .scVector .hbm S16384 .i32 :=
  ((inW).slice (Rect.unit (s := S4x16384) (k1_off1 i) S1x16384.size (k1_off1_inb i)) (fun _ => rfl)).squeeze S16384 squeezes_S1x16384_S16384

/-- The kernel on the tile's buffers, its chunks as the row pairs. -/
def kern (i : grid1.Coords) : Prog (TE F i) PUnit := do
  Prog.lift (.enqueueDma (srcRow i) (.here tblW) (.dma cc1_scoped0.sem) ((View.wordExact_bits rfl).reshape _ _) (Memref.isWhole_whole _).wordExact ⟨Or.inl rfl, trivial⟩)
  Prog.lift (.waitDma2 cc1_scoped0.sem (srcRow i) tblW ((View.wordExact_bits rfl).reshape _ _) (Memref.isWhole_whole _).wordExact)
  Scf.Loop.for k1_t1_loop k1_t1_ok ⟨⟩ (k1_t1_body i inW (Memref.isWhole_whole _) outW (Memref.isWhole_whole _) tblW (Memref.isWhole_whole _) bufW (Memref.isWhole_whole _) cc1_scoped0 cc1_scoped1)
  Scf.Loop.for k1_t2_loop k1_t2_ok ⟨⟩ (fun k _ => chunk i outW tblW bufW (Memref.isWhole_whole _) cc1_scoped1 (Scalar.addi (rowW i) (Scalar.muli (Scf.iv 0#32 1#32 k) 16#32)) k)
  pure ⟨⟩

set_option maxRecDepth 65536 in
set_option maxHeartbeats 4000000 in
theorem kern_eq (i : grid1.Coords) :
    cc1_adj_kernel (F := F) i inW (Memref.isWhole_whole _) outW (Memref.isWhole_whole _) tblW (Memref.isWhole_whole _) bufW (Memref.isWhole_whole _) cc1_scoped0 cc1_scoped1
      = kern i := by
  rw [cc1_adj_kernel_eq_skeleton]; unfold cc1_adj_kernel_skel
  rw [k1_part16_eq_skeleton]
  have h : ∀ v18 v29, k1_t2_body (F := F) i inW (Memref.isWhole_whole _) outW (Memref.isWhole_whole _) tblW (Memref.isWhole_whole _) bufW (Memref.isWhole_whole _) cc1_scoped0 cc1_scoped1 v18 v29 (iota .scVector S16 32 [0] iota_S16_d0_w32_scVector)
      = fun (k : Fin k1_t2_loop.trips) (_ : PUnit) => chunk i outW tblW bufW (Memref.isWhole_whole _) cc1_scoped1 (Scalar.addi v29 (Scalar.muli (Scf.iv 0#32 1#32 k) 16#32)) k :=
    fun v18 v29 => funext fun k => funext fun u => body_eq_chunk i _ _ _ _ _ _ _ _ _ _ v18 v29 k u
  simp only [h]
  rfl

/-! ## What it computes -/

/-- The index `(b, n)` of the table. -/
def ix2 (b : Fin 4) (n : Fin 16384) : S4x16384.Idx := fun
  | ⟨0, _⟩ => b
  | ⟨1, _⟩ => n
  | ⟨_ + 2, h⟩ => absurd h (Nat.not_lt.2 (Nat.le_add_left _ _))

/-- Row `b` of the table of neighbours, by word number. -/
def tabRow (tab : Vec F S4x16384 .i32) (b : ℕ) : Tab := fun n =>
  if h : b < 4 ∧ n < 16384 then tab (ix2 ⟨b, h.1⟩ ⟨n, h.2⟩) else 0#32

/-- The flat adjacency: word `(b, p, q)` is one where `p` and `q` name each other in batch `b`, zero elsewhere. -/
def outF (tab : Vec F S4x16384 .i32) : Vec F S16777216 .f32 := fun p =>
  if bothNbr (tabRow tab ((p 0).val / 4194304)) ((p 0).val / 2048 % 2048) ((p 0).val % 2048) then f1 else f0

/-- The words tile number `w` fills. -/
def part (w : ℕ) : Finset S16777216.Idx := Finset.univ.filter fun p => (p 0).val / 524288 = w

omit [FloatOps F] [Named F] in
theorem tabRow_lt {tab : Vec F S4x16384 .i32} (h : ∀ j, (tab j).toNat < 2048) (b n : ℕ) : (tabRow tab b n).toNat < 2048 := by
  unfold tabRow; split
  · exact h _
  · decide

/-- The tile's row of the table, as its buffer holds it. -/
def tblOf (i : grid1.Coords) (tab : Vec F S4x16384 .i32) : Vec F S16384 .i32 := fun j => tabRow tab (bat i) (j 0).val

/-- The tile's output after `k` chunks over `g`. -/
def stage (i : grid1.Coords) (tab : Vec F S4x16384 .i32) (g : Vec F S16777216 .f32) (k : ℕ) : Vec F S16777216 .f32 := fun p =>
  if (p 0).val < 524288 * wid i + 32768 * k then outF tab p else g p

/-- The row buffer after `k` trips of the clearing loop over `g`. -/
def cleared (g : Vec F S32768 .f32) (k : ℕ) : Vec F S32768 .f32 := fun j => if (j 0).val < 16 * k then f0 else g j

section Run

variable (d : Dev nD) (i : grid1.Coords) (q : PosShare TreeShare)

abbrev inPts (f : Vec F S4x16384 .i32) : sProp 𝕄 := (inW).view.loc (thr d i) ↦{q} f
abbrev outPts (f : Vec F S16777216 .f32) : sProp 𝕄 := (outW).view.loc (thr d i) ↦[part (wid i)]{fullShare} f

omit [FloatOps F] [Named F] in
/-- What the table's copy lands: the tile's row. -/
theorem copy_in (tab : Vec F S4x16384 .i32) (f X : Vec F S16384 .i32) (hX : X = (srcRow i).view.read (Elt F) tab) :
    (tblW).view.write (Elt F) f X Finset.univ = tblOf i tab := by
  subst hX
  simp only [Memref.view_whole]
  rw [View.write_whole_univ]
  funext x
  have hb : bat i < 4 := by have := wid_lt i; unfold bat; omega
  have hx : (x 0).val < 16384 := (x 0).isLt
  rw [View.read_apply]
  unfold tblOf tabRow
  rw [dif_pos ⟨hb, hx⟩]
  refine (cast_eq rfl _).trans (congrArg tab ?_)
  rw [View.emb_reshape]
  show ((View.whole main_v1_scv).slice (Rect.unit (s := S4x16384) (k1_off1 i) S1x16384.size (k1_off1_inb i))).emb (Shape.reshapeEquiv _ x) = _
  rw [show Shape.reshapeEquiv (s := S1x16384) (s' := S16384) squeezes_S1x16384_S16384.numel_eq x = Fin.cons ⟨0, Nat.one_pos⟩ x from
    Shape.reshapeEquiv_cons_one (d := ![16384]) _ x]
  rw [View.emb_slice]
  funext a
  apply Fin.ext
  have h0 : k1_off1 i 0 = bat i := by rw [off1_eq]; rfl
  have h1 : k1_off1 i 1 = 0 := by rw [off1_eq]; rfl
  match a with
  | ⟨0, _⟩ => show k1_off1 i 0 + 1 * 0 = bat i; omega
  | ⟨1, _⟩ => show k1_off1 i 1 + 1 * (x 0).val = (x 0).val; omega
  | ⟨_ + 2, h⟩ => exact absurd h (Nat.not_lt.2 (Nat.le_add_left _ _))

theorem off2_eq (k : Fin k1_t1_loop.trips) : k1_off2 k 0 = 16 * k.val := by rw [k1_off2_eq]; rfl

/-- One store of zeros clears sixteen more words. -/
theorem clear_step (g : Vec F S32768 .f32) (k : Fin k1_t1_loop.trips) :
    (bufW).view.writes (Elt F) (cleared g k.val) [⟨Rect.unit (s := S32768) (k1_off2 k) S16.size (k1_off2_inb k), k1_pay1⟩] = cleared g (k.val + 1) := by
  funext j
  rw [View.writes_singleton]
  by_cases hj : j ∈ ((View.whole cc1_scratch1).slice (Rect.unit (s := S32768) (k1_off2 k) S16.size (k1_off2_inb k))).set
  · obtain ⟨x, -, rfl⟩ := Finset.mem_map.mp hj
    refine (View.write_emb_of_mem (v := (View.whole cc1_scratch1).slice (Rect.unit (s := S32768) (k1_off2 k) S16.size (k1_off2_inb k))) _ _ (Finset.mem_univ x)).trans ?_
    have hx : (x 0).val < 16 := (x 0).isLt
    have he : ((((View.whole cc1_scratch1).slice (Rect.unit (s := S32768) (k1_off2 k) S16.size (k1_off2_inb k))).emb x : S32768.Idx) 0).val = 16 * k.val + (x 0).val := by
      show k1_off2 k 0 + 1 * (x 0).val = _
      rw [off2_eq]; omega
    unfold cleared
    rw [if_pos (by rw [he]; omega)]
    rfl
  · refine (View.write_of_not_mem (v := (View.whole cc1_scratch1).slice (Rect.unit (s := S32768) (k1_off2 k) S16.size (k1_off2_inb k))) _ _ Finset.univ ?_).trans ?_
    · rw [View.setOn_univ]; exact hj
    · rw [View.set_slice_whole] at hj
      replace hj := fun h => hj (Rect.mem_set_unit.mpr h)
      have hn : ¬ (16 * k.val ≤ (j 0).val ∧ (j 0).val < 16 * k.val + 16) := fun h => hj fun (a : Fin 1) => by
        obtain rfl : a = 0 := Subsingleton.elim _ _
        rw [off2_eq]; exact h
      unfold cleared
      by_cases h1 : (j 0).val < 16 * k.val
      · rw [if_pos h1, if_pos (by omega)]
      · rw [if_neg h1, if_neg (by omega)]

theorem cleared_zero (g : Vec F S32768 .f32) : cleared g 0 = g := by
  funext j; unfold cleared; rw [if_neg (by omega)]
theorem cleared_all (g : Vec F S32768 .f32) : cleared g (Scf.trips k1_t1_loop.lb k1_t1_loop.ub k1_t1_loop.st) = fun _ => f0 := by
  rw [show Scf.trips k1_t1_loop.lb k1_t1_loop.ub k1_t1_loop.st = 2048 by decide]
  funext j; unfold cleared; rw [if_pos (by have := j_lt j; omega)]

/-- The clearing loop's trip. -/
theorem wp_clear (g : Vec F S32768 .f32) (k : Fin k1_t1_loop.trips) (u : PUnit) :
    bufPts (F := F) d i (cleared g k.val) ⊢ wp frame (wpE (defs₀ (F := F)) 𝒱₀ (thr d i) none) Set.univ
      (k1_t1_body (F := F) i inW (Memref.isWhole_whole _) outW (Memref.isWhole_whole _) tblW (Memref.isWhole_whole _) bufW (Memref.isWhole_whole _) cc1_scoped0 cc1_scoped1 k u)
      fun _ => bufPts (F := F) d i (cleared g (k.val + 1)) := by
  unfold k1_t1_body
  iintro Hb
  sl_exec
  sl_step
  rw [clear_step]
  iexact Hb

/-- The words of chunk `k`, as the kernel's slice of the output addresses them. -/
abbrev dstChunk (k : Fin k1_t2_loop.trips) : Memref sig .scVector .hbm S32768 .f32 :=
  (outW).slice (Rect.unit (s := S16777216) (k1_off11 i k) S32768.size (k1_off11_inb i k)) (fun _ => rfl)

theorem mem_dstChunk (k : Fin k1_t2_loop.trips) (p : S16777216.Idx) :
    p ∈ (dstChunk i k).view.set ↔ 524288 * wid i + 32768 * k.val ≤ (p 0).val ∧ (p 0).val < 524288 * wid i + 32768 * k.val + 32768 := by
  have h0 : (dstChunk i k).view.set = (Rect.unit (s := S16777216) (k1_off11 i k) S32768.size (k1_off11_inb i k)).set := View.set_slice_whole main_v2_scv _
  rw [h0]
  refine Rect.mem_set_unit.trans ?_
  rw [off11_eq]
  constructor
  · intro h; exact h 0
  · intro h a; obtain rfl : a = 0 := Subsingleton.elim _ _; exact h

theorem dstChunk_sub (k : Fin k1_t2_loop.trips) : (dstChunk i k).view.set ⊆ part (wid i) := by
  intro p hp
  have h := (mem_dstChunk i k p).mp hp
  have hk : k.val < 16 := k.isLt
  unfold part
  rw [Finset.mem_filter]
  exact ⟨Finset.mem_univ _, by omega⟩

theorem emb_dstChunk (k : Fin k1_t2_loop.trips) (x : S32768.Idx) : ((dstChunk i k).view.emb x 0).val = 524288 * wid i + 32768 * k.val + (x 0).val := by
  show k1_off11 i k 0 + 1 * (x 0).val = _
  rw [off11_eq]; show 524288 * wid i + 32768 * k.val + 1 * (x 0).val = _; omega

omit [Named F] in
theorem stage_zero (tab : Vec F S4x16384 .i32) (g : Vec F S16777216 .f32) (p : S16777216.Idx) (hp : p ∈ part (wid i)) : stage i tab g 0 p = g p := by
  unfold part at hp
  have h := (Finset.mem_filter.mp hp).2
  unfold stage
  rw [if_neg (by omega)]

omit [Named F] in
theorem stage_all (tab : Vec F S4x16384 .i32) (g : Vec F S16777216 .f32) (p : S16777216.Idx) (hp : p ∈ part (wid i)) :
    stage i tab g (Scf.trips k1_t2_loop.lb k1_t2_loop.ub k1_t2_loop.st) p = outF tab p := by
  rw [show Scf.trips k1_t2_loop.lb k1_t2_loop.ub k1_t2_loop.st = 16 by decide]
  unfold part at hp
  have h := (Finset.mem_filter.mp hp).2
  unfold stage
  rw [if_pos (by omega)]

theorem tabOf_tblOf (tab : Vec F S4x16384 .i32) : ∀ n, n < 16384 → tabOf (tblOf i tab) n = tabRow tab (bat i) n := by
  intro n hn
  unfold tabOf
  rw [dif_pos hn]
  rfl

omit [FloatOps F] [Named F] in
theorem bothNbr_congr {t t' : Tab} (h : ∀ n, n < 16384 → t n = t' n) {a b : ℕ} (ha : a < 2048) (hb : b < 2048) : bothNbr t a b ↔ bothNbr t' a b := by
  have h1 : ∀ c e, c < 2048 → (nbr t c e ↔ nbr t' c e) := fun c e hc =>
    ⟨fun ⟨l, hl, hq⟩ => ⟨l, hl, by rw [← h _ (by omega)]; exact hq⟩, fun ⟨l, hl, hq⟩ => ⟨l, hl, by rw [h _ (by omega)]; exact hq⟩⟩
  unfold bothNbr
  rw [h1 a b ha, h1 b a hb]

/-- The finished row buffer of chunk `k` is the chunk's words of the output. -/
theorem buf_out (tab : Vec F S4x16384 .i32) (k : Fin k1_t2_loop.trips) (x : S32768.Idx) :
    bufUp (F := F) (tabOf (tblOf i tab)) (row0 i + 16 * k.val) 8 x = outF tab ((dstChunk i k).view.emb x) := by
  have hx := j_lt x
  have hw := wid_lt i
  have hk : k.val < 16 := k.isLt
  unfold bufUp outF
  rw [emb_dstChunk]
  have e1 : (524288 * wid i + 32768 * k.val + (x 0).val) / 4194304 = bat i := by unfold bat; omega
  have e2 : (524288 * wid i + 32768 * k.val + (x 0).val) / 2048 % 2048 = row0 i + 16 * k.val + (x 0).val / 2048 := by unfold row0; omega
  have e3 : (524288 * wid i + 32768 * k.val + (x 0).val) % 2048 = (x 0).val % 2048 := by omega
  have e4 : (x 0).val / 2048 < 2 * 8 := by omega
  have e5 : row0 i + 16 * k.val + (x 0).val / 2048 < 2048 := by unfold row0; omega
  rw [e1, e2, e3]
  simp only [e4, true_and, bothNbr_congr (tabOf_tblOf i tab) e5 (Nat.mod_lt (x 0).val (show 0 < 2048 by decide))]

/-- The output's words before a chunk's copy: the chunk's, and the rest, which the copy leaves. -/
theorem out_split (k : Fin k1_t2_loop.trips) (f : Vec F S16777216 .f32) :
    outPts (F := F) d i f ⊣⊢ iprop(((dstChunk i k).view.loc (thr d i) ↦[(dstChunk i k).view.set]{fullShare} f)
      ∗ ((outW).view.loc (thr d i) ↦[part (wid i) \ (dstChunk i k).view.set]{fullShare} f)) :=
  pointsTo_split_subset (dstChunk_sub i k)

theorem out_join (tab : Vec F S4x16384 .i32) (g : Vec F S16777216 .f32) (k : Fin k1_t2_loop.trips) (X : Vec F S32768 .f32)
    (hX : ∀ x, X x = outF tab ((dstChunk i k).view.emb x)) :
    iprop(((dstChunk i k).view.loc (thr d i) ↦[(dstChunk i k).view.set]{fullShare}
        (dstChunk i k).view.writes (Elt F) (stage i tab g k.val) [⟨Rect.whole S32768, X⟩])
      ∗ ((outW).view.loc (thr d i) ↦[part (wid i) \ (dstChunk i k).view.set]{fullShare} stage i tab g k.val))
      ⊢ outPts (F := F) d i (stage i tab g (k.val + 1)) := by
  have e1 : (((dstChunk i k).view.loc (thr d i) ↦[(dstChunk i k).view.set]{fullShare}
        (dstChunk i k).view.writes (Elt F) (stage i tab g k.val) [⟨Rect.whole S32768, X⟩]) : sProp 𝕄)
      = ((dstChunk i k).view.loc (thr d i) ↦[(dstChunk i k).view.set]{fullShare} stage i tab g (k.val + 1)) := by
    refine pointsTo_congr fun p hp => ?_
    have hp' := (mem_dstChunk i k p).mp hp
    obtain ⟨x, -, rfl⟩ := Finset.mem_map.mp hp
    rw [View.writes_singleton]
    have hx : ((dstChunk i k).view.slice (Rect.whole S32768)).emb x = (dstChunk i k).view.emb x := by
      rw [View.emb_slice]
      show (dstChunk i k).view.emb ((Rect.whole S32768).emb x) = _
      rw [Rect.emb_whole_apply]
    refine (congrArg _ hx.symm).trans ?_
    refine (View.write_emb_of_mem (v := (dstChunk i k).view.slice (Rect.whole S32768)) _ _ (Finset.mem_univ x)).trans ?_
    refine (cast_eq rfl _).trans ?_
    unfold stage
    rw [if_pos (by omega), hX]
  have e2 : ((outW).view.loc (thr d i) ↦[part (wid i) \ (dstChunk i k).view.set]{fullShare} stage i tab g k.val : sProp 𝕄)
      = ((outW).view.loc (thr d i) ↦[part (wid i) \ (dstChunk i k).view.set]{fullShare} stage i tab g (k.val + 1)) := by
    refine pointsTo_congr fun p hp => ?_
    have h1 := (Finset.mem_sdiff.mp hp).1
    have h2 : ¬ (524288 * wid i + 32768 * k.val ≤ ((p : S16777216.Idx) 0).val ∧ ((p : S16777216.Idx) 0).val < 524288 * wid i + 32768 * k.val + 32768) :=
      fun h => (Finset.mem_sdiff.mp hp).2 ((mem_dstChunk i k p).mpr h)
    unfold part at h1
    have h3 := (Finset.mem_filter.mp h1).2
    have hk : k.val < 16 := k.isLt
    unfold stage
    by_cases h : ((p : S16777216.Idx) 0).val < 524288 * wid i + 32768 * k.val
    · rw [if_pos h, if_pos (by omega)]
    · rw [if_neg h, if_neg (by omega)]
  rw [e1, e2]
  exact (out_split d i k _).2

/-- A chunk's copy out and the wait for it. -/
theorem wp_copyOut {tab : Vec F S4x16384 .i32} (g : Vec F S16777216 .f32) (O : CellTallies nD τ sig (HIx 1)) (W : Waits sig (HIx 1)) (k : Fin k1_t2_loop.trips)
    {α : Type} {Q : α → sProp 𝕄} {k' : PUnit → Prog (TE F i) α} :
    iprop(Transfers.MayWaits (thr d i) (none : HIx 1) O ∗ bufPts (F := F) d i (bufUp (tabOf (tblOf i tab)) (row0 i + 16 * k.val) 8)
        ∗ outPts (F := F) d i (stage i tab g k.val) ∗ semVal (thr d i, SemLoc.dma cc1_scoped1.sem) 0 ∗ owes (thr d i) O W)
      ⊢ iprop((iprop(Transfers.MayWaits (thr d i) (none : HIx 1) O ∗ bufPts (F := F) d i (bufUp (tabOf (tblOf i tab)) (row0 i + 16 * k.val) 8)
            ∗ outPts (F := F) d i (stage i tab g (k.val + 1)) ∗ semVal (thr d i, SemLoc.dma cc1_scoped1.sem) 0
            ∗ owes (thr d i) O (insert (SemLoc.dma cc1_scoped1.sem, (default : HIx 1)) W))
          -∗ wp frame (wpE (defs₀ (F := F)) 𝒱₀ (thr d i) none) Set.univ (k' ⟨⟩) Q)
        -∗ wp frame (wpE (defs₀ (F := F)) 𝒱₀ (thr d i) none) Set.univ
          (Prog.lift (.enqueueDma bufW (.here (dstChunk i k)) (.dma cc1_scoped1.sem) (Memref.isWhole_whole _).wordExact (View.wordExact_bits rfl) ⟨Or.inl rfl, trivial⟩)
            >>= fun _ => Prog.lift (.waitDma2 cc1_scoped1.sem bufW (dstChunk i k) (Memref.isWhole_whole _).wordExact (View.wordExact_bits rfl)) >>= k') Q) := by
  iintro ⟨Hmw, Hb, Ho, Hs, HO⟩ Hk
  ihave Ho' := (out_split (F := F) d i k _).1 $$ Ho
  icases Ho' with ⟨Hc, Hr⟩
  sl_exec (disch := exact View.amount_pos _ _ (show 0 < S32768.numel by decide))
  iapply Hk
  isplitl [Hmw]; · iexact Hmw
  isplitl [Hb]; · iexact Hb
  isplitl [Hc Hr]
  · iapply (out_join (F := F) d i tab g k _ (fun x => buf_out (F := F) i tab k x))
    isplitl [Hc]; · iexact Hc
    iexact Hr
  isplitl [Hs]; · iexact Hs
  iexact HO

/-- The last clearing pair, at the end of the chunk. -/
theorem wp_pairDown_last {Q : PUnit → sProp 𝕄}
    {f : Vec F S16384 .i32} (hf : ∀ j, (f j).toNat < 2048) {R v : ℕ} (hv : v < 8) (hR : R + 16 ≤ 2048)
    {off : Fin 1 → ℕ} {hoff : ∀ a, off a + S16.size a ≤ S16384.size a} (hoffv : off 0 = 8 * (R + 2 * v)) :
    iprop(tblPts (F := F) d i f ∗ bufPts (F := F) d i (bufDown (tabOf f) R v))
      ⊢ iprop((iprop(tblPts (F := F) d i f ∗ bufPts (F := F) d i (bufDown (tabOf f) R (v + 1)))
            -∗ wp frame (wpE (defs₀ (F := F)) 𝒱₀ (thr d i) none) Set.univ (Prog.ret ⟨⟩) Q)
        -∗ wp frame (wpE (defs₀ (F := F)) 𝒱₀ (thr d i) none) Set.univ
          (pairDown i tblW bufW off hoff (BitVec.ofNat 32 (2 * v))) Q) := by
  have h := wp_pairDown (F := F) d i (k' := fun u => Prog.ret u) (Q := Q) hf hv hR (hoff := hoff) hoffv
  rwa [show (pairDown (F := F) i tblW bufW off hoff (BitVec.ofNat 32 (2 * v)) >>= fun u => Prog.ret u)
    = pairDown (F := F) i tblW bufW off hoff (BitVec.ofNat 32 (2 * v)) from Prog.bind_pure _] at h

/-- The chunk loop's invariant: the table in place, the row buffer clear, the output's words filled up to here. -/
def inv (tab : Vec F S4x16384 .i32) (g : Vec F S16777216 .f32) (O : CellTallies nD τ sig (HIx 1)) (W : Waits sig (HIx 1)) (k : ℕ) (_ : PUnit) : sProp 𝕄 :=
  iprop(Transfers.MayWaits (thr d i) (none : HIx 1) O
    ∗ tblPts (F := F) d i (tblOf i tab) ∗ bufPts (F := F) d i (fun _ => f0) ∗ outPts (F := F) d i (stage i tab g k)
    ∗ semVal (thr d i, SemLoc.dma cc1_scoped1.sem) 0
    ∗ ∃ W', ⌜∀ p ∈ W', p ∈ W ∨ p.2 = none⌝ ∗ owes (thr d i) O W')

theorem wp_chunk {tab : Vec F S4x16384 .i32} (htab : ∀ j, (tab j).toNat < 2048) (g : Vec F S16777216 .f32) (O : CellTallies nD τ sig (HIx 1)) (W : Waits sig (HIx 1)) (k : Fin k1_t2_loop.trips) (u : PUnit) :
    inv (F := F) d i tab g O W k.val u ⊢ wp frame (wpE (defs₀ (F := F)) 𝒱₀ (thr d i) none) Set.univ
      (chunk (F := F) i outW tblW bufW (Memref.isWhole_whole _) cc1_scoped1 (Scalar.addi (rowW i) (Scalar.muli (Scf.iv 0#32 1#32 k) 16#32)) k)
      fun u => inv (F := F) d i tab g O W (k.val + 1) u := by
  have hk : k.val < 16 := k.isLt
  have hf : ∀ j, (tblOf (F := F) i tab j).toNat < 2048 := fun j => tabRow_lt htab _ _
  have hR : row0 i + 16 * k.val + 16 ≤ 2048 := by unfold row0; omega
  rw [rowW_eq]
  unfold chunk inv
  iintro ⟨Hmw, Ht, Hb, Ho, Hs, %W', %hW', HO⟩
  ihave Hb := (Entails.of_eq (congrArg (bufPts (F := F) d i) (bufUp_zero (F := F) (tabOf (tblOf i tab)) (row0 i + 16 * k.val)).symm)) $$ Hb
  iapply (wp_pairUp d i hf (v := 0) (by decide) hR (off3_eq i k)) $$ [Ht Hb]
  · isplitl [Ht] <;> iassumption
  iintro ⟨Ht, Hb⟩
  iapply (wp_pairUp d i hf (v := 1) (by decide) hR (off4_eq i k)) $$ [Ht Hb]
  · isplitl [Ht] <;> iassumption
  iintro ⟨Ht, Hb⟩
  iapply (wp_pairUp d i hf (v := 2) (by decide) hR (off5_eq i k)) $$ [Ht Hb]
  · isplitl [Ht] <;> iassumption
  iintro ⟨Ht, Hb⟩
  iapply (wp_pairUp d i hf (v := 3) (by decide) hR (off6_eq i k)) $$ [Ht Hb]
  · isplitl [Ht] <;> iassumption
  iintro ⟨Ht, Hb⟩
  iapply (wp_pairUp d i hf (v := 4) (by decide) hR (off7_eq i k)) $$ [Ht Hb]
  · isplitl [Ht] <;> iassumption
  iintro ⟨Ht, Hb⟩
  iapply (wp_pairUp d i hf (v := 5) (by decide) hR (off8_eq i k)) $$ [Ht Hb]
  · isplitl [Ht] <;> iassumption
  iintro ⟨Ht, Hb⟩
  iapply (wp_pairUp d i hf (v := 6) (by decide) hR (off9_eq i k)) $$ [Ht Hb]
  · isplitl [Ht] <;> iassumption
  iintro ⟨Ht, Hb⟩
  iapply (wp_pairUp d i hf (v := 7) (by decide) hR (off10_eq i k)) $$ [Ht Hb]
  · isplitl [Ht] <;> iassumption
  iintro ⟨Ht, Hb⟩
  iapply (wp_copyOut (F := F) d i g O W' k) $$ [Hmw Hb Ho Hs HO]
  · isplitl [Hmw]; · iexact Hmw
    isplitl [Hb]; · iexact Hb
    isplitl [Ho]; · iexact Ho
    isplitl [Hs] <;> iassumption
  iintro ⟨Hmw, Hb, Ho, Hs, HO⟩
  ihave Hb := (Entails.of_eq (congrArg (bufPts (F := F) d i) (bufUp_eight (F := F) (tabOf (tblOf i tab)) (row0 i + 16 * k.val)))) $$ Hb
  iapply (wp_pairDown d i hf (v := 0) (by decide) hR (off12_eq i k)) $$ [Ht Hb]
  · isplitl [Ht] <;> iassumption
  iintro ⟨Ht, Hb⟩
  iapply (wp_pairDown d i hf (v := 1) (by decide) hR (off13_eq i k)) $$ [Ht Hb]
  · isplitl [Ht] <;> iassumption
  iintro ⟨Ht, Hb⟩
  iapply (wp_pairDown d i hf (v := 2) (by decide) hR (off14_eq i k)) $$ [Ht Hb]
  · isplitl [Ht] <;> iassumption
  iintro ⟨Ht, Hb⟩
  iapply (wp_pairDown d i hf (v := 3) (by decide) hR (off15_eq i k)) $$ [Ht Hb]
  · isplitl [Ht] <;> iassumption
  iintro ⟨Ht, Hb⟩
  iapply (wp_pairDown d i hf (v := 4) (by decide) hR (off16_eq i k)) $$ [Ht Hb]
  · isplitl [Ht] <;> iassumption
  iintro ⟨Ht, Hb⟩
  iapply (wp_pairDown d i hf (v := 5) (by decide) hR (off17_eq i k)) $$ [Ht Hb]
  · isplitl [Ht] <;> iassumption
  iintro ⟨Ht, Hb⟩
  iapply (wp_pairDown d i hf (v := 6) (by decide) hR (off18_eq i k)) $$ [Ht Hb]
  · isplitl [Ht] <;> iassumption
  iintro ⟨Ht, Hb⟩
  iapply (wp_pairDown_last d i hf (v := 7) (by decide) hR (off19_eq i k)) $$ [Ht Hb]
  · isplitl [Ht] <;> iassumption
  iintro ⟨Ht, Hb⟩
  ihave Hb := (Entails.of_eq (congrArg (bufPts (F := F) d i) (bufDown_eight (F := F) (tabOf (tblOf i tab)) (row0 i + 16 * k.val)))) $$ Hb
  rw [wp_ret]; imodintro
  isplitl [Hmw]; · iexact Hmw
  isplitl [Ht]; · iexact Ht
  isplitl [Hb]; · iexact Hb
  isplitl [Ho]; · iexact Ho
  isplitl [Hs]; · iexact Hs
  iexists (insert (SemLoc.dma cc1_scoped1.sem, (default : HIx 1)) W'); isplitr
  · ipureintro; intro p hp
    rcases Finset.mem_insert.mp hp with hp | hp
    · exact .inr (hp ▸ rfl)
    · exact hW' p hp
  · iexact HO

/-- The tile's run: from a read share of the table of neighbours (its entries row numbers) and the tile's words of the
    output at anything, to the same share and the words at the adjacency's. -/
theorem wp_kern {tab : Vec F S4x16384 .i32} (htab : ∀ j, (tab j).toNat < 2048) (g : Vec F S16777216 .f32) (t0 : Vec F S16384 .i32) (b0 : Vec F S32768 .f32)
    (O : CellTallies nD τ sig (HIx 1)) (W : Waits sig (HIx 1)) :
    iprop(Transfers.MayWaits (thr d i) (none : HIx 1) O ∗ inPts (F := F) d i q tab ∗ outPts (F := F) d i g
        ∗ tblPts (F := F) d i t0 ∗ bufPts (F := F) d i b0
        ∗ semVal (thr d i, SemLoc.dma cc1_scoped0.sem) 0 ∗ semVal (thr d i, SemLoc.dma cc1_scoped1.sem) 0 ∗ owes (thr d i) O W)
      ⊢ wp frame (wpE (defs₀ (F := F)) 𝒱₀ (thr d i) none) Set.univ (kern (F := F) i)
        fun _ => iprop(inPts (F := F) d i q tab ∗ outPts (F := F) d i (outF tab) ∗ tblPts (F := F) d i (tblOf i tab) ∗ bufPts (F := F) d i (fun _ => f0)
          ∗ semVal (thr d i, SemLoc.dma cc1_scoped0.sem) 0 ∗ semVal (thr d i, SemLoc.dma cc1_scoped1.sem) 0
          ∗ ∃ W', ⌜∀ p ∈ W', p ∈ W ∨ p.2 = none⌝ ∗ owes (thr d i) O W') := by
  unfold kern
  iintro ⟨Hmw, Hi, Ho, Ht, Hb, Hs0, Hs1, HO⟩
  sl_exec
  unfold wp_kern.sl.dma0
  ihave Ht := (Entails.of_eq (congrArg (tblPts (F := F) d i) (copy_in (F := F) i tab t0 _ rfl))) $$ Ht
  ihave Hb := (Entails.of_eq (congrArg (bufPts (F := F) d i) (cleared_zero (F := F) b0).symm)) $$ Hb
  sl_for (fun k (_ : PUnit) => bufPts (F := F) d i (cleared b0 k)) $$ [Hb]
  case region => exact fun k u => wp_clear (F := F) d i b0 k u
  · iexact Hb
  iintro %_ Hb
  ihave Hb := (Entails.of_eq (congrArg (bufPts (F := F) d i) (cleared_all (F := F) b0))) $$ Hb
  ihave Ho := (Entails.of_eq (pointsTo_congr (fun p hp => (stage_zero (F := F) i tab g p hp).symm))) $$ Ho
  sl_for (inv (F := F) d i tab g O (insert (SemLoc.dma cc1_scoped0.sem, (default : HIx 1)) W)) $$ [Hmw Ht Hb Ho Hs1 HO]
  case region => exact fun k u => wp_chunk (F := F) d i htab g O _ k u
  · unfold inv
    isplitl [Hmw]; · iexact Hmw
    isplitl [Ht]; · iexact Ht
    isplitl [Hb]; · iexact Hb
    isplitl [Ho]; · iexact Ho
    isplitl [Hs1]; · iexact Hs1
    iexists _; isplitr
    · ipureintro; exact fun p hp => .inl hp
    · iexact HO
  iintro %_ HI
  unfold inv
  icases HI with ⟨-, Ht, Hb, Ho, Hs1, %W', %hW', HO⟩
  ihave Ho := (Entails.of_eq (pointsTo_congr (fun p hp => stage_all (F := F) i tab g p hp))) $$ Ho
  sl_step
  isplitl [Hi]; · iexact Hi
  isplitl [Ho]; · iexact Ho
  isplitl [Ht]; · iexact Ht
  isplitl [Hb]; · iexact Hb
  isplitl [Hs0]; · iexact Hs0
  isplitl [Hs1]; · iexact Hs1
  iexists W'; isplitr
  · ipureintro; intro p hp
    rcases hW' p hp with h | h
    · rcases Finset.mem_insert.mp h with h | h
      · exact .inr (h ▸ rfl)
      · exact .inl h
    · exact .inr h
  · iexact HO

end Run

end Cert.Proof.KI

end
-- ==== Proof.KLaunch.lean ====
/-
  The SparseCore call's side of the launch: what a call hands its SparseCores and tiles and takes back, the tile's
  run under it, and the split of a SparseCore's share among its tiles. The call is stated at any table `tab` whose
  words are below 2048 and any first contents `g` of the output.
-/
module

public import proofs.«01_k».proof.Proof.KRun

@[expose] public section

noncomputable section

namespace Cert.Proof.KI

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds Idealize.ShloMosaic.Tactic
open SparseCore (S V T)
open SparseCore.Cfg (HIx Pay ownBufs ownSems0 ownRefs ownCells mem_ownCells)

variable {F : FTy → Type} [FloatOps F] [Named F]

local notation "𝕄" => MT nD τ sig (HIx 1) (Elt F) ℕ UU ℕ

local notation "inW" => (Memref.whole Cert.KernelIdeal.main_v1_scv : Memref Cert.KernelIdeal.sig Kind.scVector Space.hbm Cert.KernelIdeal.S4x16384 EltTy.i32)
local notation "outW" => (Memref.whole Cert.KernelIdeal.main_v2_scv : Memref Cert.KernelIdeal.sig Kind.scVector Space.hbm Cert.KernelIdeal.S16777216 EltTy.f32)
local notation "tblW" => (Memref.whole Cert.KernelIdeal.cc1_scratch0 : Memref Cert.KernelIdeal.sig Kind.scVector Space.vmem Cert.KernelIdeal.S16384 EltTy.i32)
local notation "bufW" => (Memref.whole Cert.KernelIdeal.cc1_scratch1 : Memref Cert.KernelIdeal.sig Kind.scVector Space.vmem Cert.KernelIdeal.S32768 EltTy.f32)

/-! ## The configuration -/

abbrev K : SparseCore.Cfg τ sig (Pipeline.Sig Λ₀ (Fin 1) fun p => (pcfgs (F := F) p).Adm) 1 := sc (F := F)
abbrev D : Defs nD τ sig (Elt F) (Pipeline.Sig Λ₀ (Fin 1) fun p => (pcfgs (F := F) p).Adm) := Pipeline.defs pcfgs defs₀
abbrev 𝒱 : Variants := 𝒱₀.lift
abbrev v₀ : 𝒱.V := Sum.inl none

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-- The ghost state of the handshakes, and of the TensorCore's pipeline. -/
def EH : Emb UH (MT nD τ sig (HIx 1) (Elt F) ℕ UU ℕ) := embL
def EP : Emb UP (MT nD τ sig (HIx 1) (Elt F) ℕ UU ℕ) := (Emb.inl : Emb UP (UP × Counters)).trans embR

instance EH_landsIn : (EH : Emb UH 𝕄).LandsIn (upEmb : UEmb _ 𝕄) := by unfold EH; infer_instance
instance EP_landsIn : (EP : Emb UP 𝕄).LandsIn (upEmb : UEmb _ 𝕄) := by unfold EP embR; infer_instance

/-! ## What the call moves -/

/-- The table's and the output's places in the main memory. -/
abbrev inLoc (d : Dev nD) : Loc nD τ sig := (SparseCore.T d).loc main_v1
abbrev outLoc (d : Dev nD) : Loc nD τ sig := (SparseCore.T d).loc main_v2

/-- The read shares of the table: a SparseCore's, and a tile's of it. -/
def coreShare (c : Fin 2) : PosShare TreeShare := Transfers.dealOf fullShare Finset.univ c
def tileShare (c : Fin 2) (s : Fin 16) : PosShare TreeShare := Transfers.dealOf (coreShare c) Finset.univ s

theorem nCore_zero : (K (F := F)).nCore 0 = 2 := rfl
theorem nSub_zero : (K (F := F)).nSub 0 = 16 := rfl

abbrev corePay (d : Dev nD) (c : Fin 2) (tab : Vec F S4x16384 .i32) (g : Vec F S16777216 .f32) : sProp 𝕄 :=
  iprop((inLoc d ↦{coreShare c} tab) ∗ bigSep Finset.univ fun s : Fin 16 => outLoc d ↦[part (2 * s.val + c.val)]{fullShare} g)
abbrev tilePay (d : Dev nD) (c : Fin 2) (s : Fin 16) (tab : Vec F S4x16384 .i32) (g : Vec F S16777216 .f32) : sProp 𝕄 :=
  iprop((inLoc d ↦{tileShare c s} tab) ∗ outLoc d ↦[part (2 * s.val + c.val)]{fullShare} g)

/-- Each SparseCore takes a read share of the table and its tiles' parts of the output, each tile a share of that share
    and its part; they bring them back, the output at the adjacency of the table. -/
def P (tab : Dev nD → Vec F S4x16384 .i32) (g : Dev nD → Vec F S16777216 .f32) : (K (F := F)).Pay (nD := nD) (Val := Elt F) (Name := ℕ) (U := UU) where
  st := fun q d c => match q with | 0 => corePay d (Fin.cast nCore_zero c) (tab d) (g d)
  dn := fun q d c => match q with | 0 => corePay d (Fin.cast nCore_zero c) (tab d) (outF (tab d))
  go := fun q d c i => match q with | 0 => tilePay d (Fin.cast nCore_zero c) (Fin.cast nSub_zero i) (tab d) (g d)
  td := fun q d c i => match q with | 0 => tilePay d (Fin.cast nCore_zero c) (Fin.cast nSub_zero i) (tab d) (outF (tab d))
  x := fun _ _ => iprop(emp)

variable (tab : Dev nD → Vec F S4x16384 .i32) (g : Dev nD → Vec F S16777216 .f32)

instance P_storable : (P (F := F) tab g).IsStorable where
  st q d c := match q with
    | 0 => (inferInstance : BI.Storable (upEmb : UEmb _ 𝕄) (corePay d (Fin.cast nCore_zero c) (tab d) (g d)))
  dn q d c := match q with
    | 0 => (inferInstance : BI.Storable (upEmb : UEmb _ 𝕄) (corePay d (Fin.cast nCore_zero c) (tab d) (outF (tab d))))
  go q d c i := match q with
    | 0 => (inferInstance : BI.Storable (upEmb : UEmb _ 𝕄) (tilePay d (Fin.cast nCore_zero c) (Fin.cast nSub_zero i) (tab d) (g d)))
  td q d c i := match q with
    | 0 => (inferInstance : BI.Storable (upEmb : UEmb _ 𝕄) (tilePay d (Fin.cast nCore_zero c) (Fin.cast nSub_zero i) (tab d) (outF (tab d))))

/-! ## The tile under its storage -/

section Tile

variable (d : Dev nD) (i : grid1.Coords)

/-- The tile's cells are its two copies' and the rest. -/
theorem ownSems0_V :
    (ownSems0 (thr d i) : sProp 𝕄)
      = iprop(semVal (thr d i, SemLoc.dma cc1_scoped0.sem) 0 ∗ semVal (thr d i, SemLoc.dma cc1_scoped1.sem) 0
          ∗ bigSep (((ownCells (thr d i)).erase (thr d i, SemLoc.dma cc1_scoped0.sem)).erase (thr d i, SemLoc.dma cc1_scoped1.sem)) fun g => semVal g 0) := by
  have h0 : (SemLoc.dma cc1_scoped0.sem : SemLoc sig).isScoped .scVector = true := by decide
  have h1 : (SemLoc.dma cc1_scoped1.sem : SemLoc sig).isScoped .scVector = true := by decide
  have hne : (SemLoc.dma cc1_scoped1.sem : SemLoc sig) ≠ SemLoc.dma cc1_scoped0.sem := by decide
  unfold SparseCore.Cfg.ownSems0
  rw [SparseCore.bigSep_erase' ((mem_ownCells (g := (thr d i, SemLoc.dma cc1_scoped0.sem))).mpr ⟨rfl, h0⟩),
    SparseCore.bigSep_erase' (Finset.mem_erase.mpr ⟨fun e => hne (Prod.mk.inj e).2,
      (mem_ownCells (g := (thr d i, SemLoc.dma cc1_scoped1.sem))).mpr ⟨rfl, h1⟩⟩)]

/-- The tile's buffers are the two scratch buffers and the rest. -/
theorem ownBufs_V :
    (ownBufs (thr d i) : sProp 𝕄)
      = iprop((∃ f, (thr d i).loc cc1_scratch0 ↦{fullShare} f) ∗ (∃ f, (thr d i).loc cc1_scratch1 ↦{fullShare} f)
          ∗ bigSep (((ownRefs (τ := τ) (.scVector (cV i) (sV i))).erase ((Proc.scVector (cV i) (sV i)).devRef cc1_scratch0)).erase
              ((Proc.scVector (cV i) (sV i)).devRef cc1_scratch1))
              fun b => iprop(∃ f, ((d, b) : Loc nD τ sig) ↦{fullShare} f)) := by
  have hne : (cc1_scratch1 : Ref sig .scVector) ≠ cc1_scratch0 := by decide
  unfold SparseCore.Cfg.ownBufs
  refine (SparseCore.bigSep_erase' (SparseCore.Cfg.mem_ownRefs_of_owner (p := Proc.scVector (cV i) (sV i))
    (b := (Proc.scVector (cV i) (sV i)).devRef cc1_scratch0) rfl)).trans ?_
  rw [SparseCore.bigSep_erase' (Finset.mem_erase.mpr ⟨fun e => absurd (Proc.devRef_injective _ e) hne,
    SparseCore.Cfg.mem_ownRefs_of_owner (p := Proc.scVector (cV i) (sV i)) (b := (Proc.scVector (cV i) (sV i)).devRef cc1_scratch1) rfl⟩)]

/-- The kernel on a tile, from its scoped storage and its share of the call. -/
theorem tile_body (htab : ∀ d j, (tab d j).toNat < 2048) (q : PosShare TreeShare) (O : CellTallies nD τ sig (HIx 1)) (W : Waits sig (HIx 1)) (hO : ∀ g, O g none = 0) :
    (iprop(levAts (K (F := F)).L (K (F := F)).lev ∗ emp
        ∗ ((inLoc d ↦{q} tab d) ∗ outLoc d ↦[part (wid i)]{fullShare} g d)
        ∗ scopedBufs (thr d i) ∗ scopedSems0 (thr d i) ∗ owes (thr d i) O W) : sProp 𝕄)
      ⊢ wp frame (wpE (defs₀ (F := F)) 𝒱₀ (thr d i) none) Set.univ
          (cc1_adj_kernel (F := F) i inW (Memref.isWhole_whole _) outW (Memref.isWhole_whole _) tblW (Memref.isWhole_whole _) bufW (Memref.isWhole_whole _) cc1_scoped0 cc1_scoped1)
          fun _ => iprop(((inLoc d ↦{q} tab d) ∗ outLoc d ↦[part (wid i)]{fullShare} outF (tab d))
            ∗ scopedBufs (thr d i) ∗ scopedSems0 (thr d i)
            ∗ ∃ W', ⌜∀ p ∈ W', p ∈ W ∨ p.2 = none⌝ ∗ owes (thr d i) O W') := by
  rw [kern_eq, (K (F := F)).scopedBufs_V facts d (cV i) (sV i), SparseCore.Cfg.scopedSems0_V (Val := Elt F) d (cV i) (sV i), ownSems0_V, ownBufs_V]
  iintro ⟨#Hlv, -, ⟨Hin, Hout⟩, ⟨⟨%t0, Ht⟩, ⟨%b0, Hb⟩, Hbufs⟩, ⟨Hs0, Hs1, Hsems⟩, HO⟩
  ihave Hmw := ((K (F := F)).mayWaits_none (thr := thr d i) hO) $$ Hlv
  iapply (wp_wand_r frame _ _)
  isplitr [Hbufs Hsems]
  · iapply (wp_kern (F := F) d i q (htab d) (g d) t0 b0 O W)
    isplitl [Hmw]; · iexact Hmw
    isplitl [Hin]; · iexact Hin
    isplitl [Hout]; · iexact Hout
    isplitl [Ht]; · iexact Ht
    isplitl [Hb]; · iexact Hb
    isplitl [Hs0]; · iexact Hs0
    isplitl [Hs1]; · iexact Hs1
    iexact HO
  iintro %_ ⟨Hin, Hout, Ht, Hb, Hs0, Hs1, HW⟩
  isplitl [Hin Hout]
  · isplitl [Hin]; · iexact Hin
    iexact Hout
  isplitl [Ht Hb Hbufs]
  · isplitl [Ht]; · iexists _; iexact Ht
    isplitl [Hb]; · iexists _; iexact Hb
    iexact Hbufs
  isplitl [Hs0 Hs1 Hsems]
  · isplitl [Hs0]; · iexact Hs0
    isplitl [Hs1]; · iexact Hs1
    iexact Hsems
  iexact HW

end Tile

/-! ## The launch theorem's obligations -/

/-- The grid point of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_adj_kernel (F := F) (coordsV c s)
          inW (Memref.isWhole_whole _) outW (Memref.isWhole_whole _) tblW (Memref.isWhole_whole _) bufW (Memref.isWhole_whole _) cc1_scoped0 cc1_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr; · ipureintro; exact fun p hp => (h p hp).imp_right Or.inl
  iexact HO

theorem tileObl (htab : ∀ d j, (tab d j).toNat < 2048) : (K (F := F)).TileObl (D (F := F)) 𝒱 (P tab g) v₀ 0 := by
  intro d c i O W hO _ _
  simp only [show (P (F := F) tab g).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body tab g d (coordsV ⟨_, hc.1⟩ ⟨_, hc.2⟩) htab (tileShare (Fin.cast nCore_zero c) (Fin.cast nSub_zero i)) O W hO).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share of the call is its tiles'. -/
theorem corePay_eq (d : Dev nD) (c : Fin 2) (t : Vec F S4x16384 .i32) (f : Vec F S16777216 .f32) :
    corePay d c t f = bigSep Finset.univ fun s : Fin 16 => tilePay d c s t f := by
  unfold corePay tilePay
  rw [bigSep_sep', show (inLoc d ↦{coreShare c} t : sProp 𝕄) = _ from Transfers.pointsTo_deal (Finset.univ : Finset (Fin 16)) ⟨0, Finset.mem_univ _⟩ (coreShare c)]
  rfl

theorem vecSplit : (K (F := F)).VecSplit' (P tab g) 0 := by
  intro d c
  show corePay d (Fin.cast nCore_zero c) (tab d) (g d) ⊢ |={Set.univ}=> iprop(
      (bigSep Finset.univ fun i : Fin ((K (F := F)).nSub 0) => tilePay d (Fin.cast nCore_zero c) (Fin.cast nSub_zero i) (tab d) (g d))
      ∗ ((bigSep Finset.univ fun i : Fin ((K (F := F)).nSub 0) => tilePay d (Fin.cast nCore_zero c) (Fin.cast nSub_zero i) (tab d) (outF (tab d)))
          -∗ corePay d (Fin.cast nCore_zero c) (tab d) (outF (tab d))))
  rw [bigSep_tasks (F := F) (fun i => tilePay d (Fin.cast nCore_zero c) i (tab d) (g d)),
    bigSep_tasks (F := F) (fun i => tilePay d (Fin.cast nCore_zero c) i (tab d) (outF (tab d))), corePay_eq, corePay_eq]
  iintro H; imodintro
  isplitl [H]; · iexact H
  iintro H; iexact H

/-! ## The whole call's operands -/

theorem parts_disjoint : ∀ x ∈ (Finset.univ : Finset (Fin 2 × Fin 16)), ∀ y ∈ (Finset.univ : Finset (Fin 2 × Fin 16)), x ≠ y →
    Disjoint (part (2 * x.2.val + x.1.val)) (part (2 * y.2.val + y.1.val)) := by
  intro x _ y _ hne
  refine Finset.disjoint_left.mpr fun p hx hy => hne ?_
  have hx := (Finset.mem_filter.mp hx).2
  have hy := (Finset.mem_filter.mp hy).2
  have h1 := x.1.isLt; have h2 := y.1.isLt
  exact Prod.ext (Fin.ext (by omega)) (Fin.ext (by omega))

theorem parts_cover : (Finset.univ : Finset (Fin 2 × Fin 16)).biUnion (fun x => part (2 * x.2.val + x.1.val)) = Finset.univ := by
  refine Finset.eq_univ_iff_forall.mpr fun p => Finset.mem_biUnion.mpr ?_
  have hp : (p 0).val < 16777216 := (p 0).isLt
  refine ⟨(⟨(p 0).val / 524288 % 2, by omega⟩, ⟨(p 0).val / 524288 / 2, by omega⟩), Finset.mem_univ _, Finset.mem_filter.mpr ⟨Finset.mem_univ _, ?_⟩⟩
  show (p 0).val / 524288 = 2 * ((p 0).val / 524288 / 2) + (p 0).val / 524288 % 2
  omega

/-- The call's operands, whole, are the two SparseCores' shares. -/
theorem callPay_eq (d : Dev nD) (t : Vec F S4x16384 .i32) (f : Vec F S16777216 .f32) :
    (bigSep Finset.univ fun c : Fin 2 => corePay d c t f) = (iprop((inLoc d ↦{fullShare} t) ∗ outLoc d ↦{fullShare} f) : sProp 𝕄) := by
  unfold corePay
  rw [bigSep_sep', ← bigSep_univ_prod (fun x : Fin 2 × Fin 16 => (outLoc d ↦[part (2 * x.2.val + x.1.val)]{fullShare} f : sProp 𝕄)),
    show (inLoc d ↦{fullShare} t : sProp 𝕄) = _ from Transfers.pointsTo_deal (Finset.univ : Finset (Fin 2)) ⟨0, Finset.mem_univ _⟩ fullShare,
    ← pointsTo_biUnion (ℓ := outLoc d) Finset.univ (fun x : Fin 2 × Fin 16 => part (2 * x.2.val + x.1.val)) parts_disjoint, parts_cover]
  rfl

theorem st0_eq (d : Dev nD) : (bigSep Finset.univ fun c : Fin ((K (F := F)).nCore 0) => (P tab g).st 0 d c)
    = iprop((inLoc d ↦{fullShare} tab d) ∗ outLoc d ↦{fullShare} g d) := callPay_eq d (tab d) (g d)
theorem dn0_eq (d : Dev nD) : (bigSep Finset.univ fun c : Fin ((K (F := F)).nCore 0) => (P tab g).dn 0 d c)
    = iprop((inLoc d ↦{fullShare} tab d) ∗ outLoc d ↦{fullShare} outF (tab d)) := callPay_eq d (tab d) (outF (tab d))

end Cert.Proof.KI

end
-- ==== Proof.KRegion.lean ====
/-
  The TensorCore's call inside the host code: its body at a grid point, the proof data of its pipeline — run while the
  core still owes the SparseCores their starts — and the call as a step from the unscoped buffers as launched to the
  same with the neighbour lists in place.
-/
module

public import proofs.«01_k».proof.Proof.KLaunch
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Ring

@[expose] public section

set_option maxRecDepth 16384

noncomputable section

namespace Cert.Proof.KI

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe Idealize.ShloMosaic.Rounds Idealize.ShloMosaic.Tactic
open Idealize.ShloMosaic.Pipeline (Dat Cfg Window BodyObligation cellOf)
open SparseCore.Cfg (HIx Pay)

variable {F : FTy → Type} [FloatOps F] [Named F]

local notation "𝕄" => MT nD τ sig (HIx 1) (Elt F) ℕ UU ℕ

variable (m : (ℓ : Loc nD τ sig) → Buf (Elt F) ℓ)

/-! ## The body's value -/

abbrev rRows : Rect S1x256x128 := Rect.unit (s := S1x256x128) ![0, 0, 0] S1x256x128.size inb_S1x256x128_S1x256x128_0_0_0
abbrev rAll : Rect S1x2048x128 := Rect.unit (s := S1x2048x128) ![0, 0, 0] S1x2048x128.size inb_S1x2048x128_S1x2048x128_0_0_0
abbrev rOut : Rect S1x256x8 := Rect.unit (s := S1x256x8) ![0, 0, 0] S1x256x8.size inb_S1x256x8_S1x256x8_0_0_0

/-- The column numbers, and the similarities with the first neighbour masked. -/
def cols : IVec S256x2048 32 := iota .tc S256x2048 32 [1] iota_S256x2048_d1_w32
def sim1 (i : grid0.Coords) (x0 : Vec F S1x256x128 .f32) (x1 : Vec F S1x2048x128 .f32) : FVec F S256x2048 .f32 := k0_pay4 i x0 x1

/-- The neighbour lists of a block of 256 rows, from the rows and the batch's tokens. -/
def lists (i : grid0.Coords) (x0 : Vec F S1x256x128 .f32) (x1 : Vec F S1x2048x128 .f32) : Vec F S1x256x8 .i32 :=
  k0_pay1 cols (k0_pay3 i x0 x1) (k0_pay5 cols (sim1 i x0 x1)) (k0_pay7 cols (sim1 i x0 x1)) (k0_pay9 cols (sim1 i x0 x1))
    (k0_pay10 cols (sim1 i x0 x1)) (k0_pay11 cols (sim1 i x0 x1)) (k0_pay12 cols (sim1 i x0 x1))

theorem zero3 : (![0, 0, 0] : Fin 3 → ℕ) = fun _ => 0 := by
  funext a; fin_cases a <;> rfl

theorem ld_rows (x : Vec F S1x256x128 .f32) : View.ld x rRows = x := View.ld_unit_zero zero3 _ x
theorem ld_all (x : Vec F S1x2048x128 .f32) : View.ld x rAll = x := View.ld_unit_zero zero3 _ x

theorem cover_out (p0 : Vec F S1x256x8 .i32) (y : S1x256x8.Idx) :
    ∃ pc ∈ ([⟨rOut, p0⟩] : List (View.Piece (Elt F) S1x256x8 .i32)), y ∈ pc.1.set :=
  View.cover_of_tiled [⟨rOut, p0⟩] S1x256x8.size (by rfl) y

theorem canon_out (p0 : Vec F S1x256x8 .i32) : View.canon [(⟨rOut, p0⟩ : View.Piece (Elt F) S1x256x8 .i32)] = p0 :=
  View.canon_unit_zero zero3 _ p0

set_option maxHeartbeats 1000000 in
/-- The body on whole staging buffers: the inputs' stay, the output's ends at the lists. -/
theorem sound_kernel (c : Dev nD) (E : Set ℕ) (i : grid0.Coords) (arg2 : Memref sig .tc .vmem S1x256x128 .f32) (harg2 : arg2.IsWhole)
    (arg3 : Memref sig .tc .vmem S1x2048x128 .f32) (harg3 : arg3.IsWhole) (arg4 : Memref sig .tc .vmem S1x256x8 .i32) (harg4 : arg4.IsWhole)
    (x0 : Vec F S1x256x128 .f32) (x1 : Vec F S1x2048x128 .f32) (Q : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (lists i x0 x1)) -∗ Q ⟨⟩))
      ⊢ wp frame (wpE (defs₀ (F := F)) 𝒱₀ c none) E (cc0__topk_body i arg2 harg2 arg3 harg3 arg4 harg4) Q := by
  simp only [cc0__topk_body_eq_skeleton]; unfold cc0__topk_body_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover_out _)).trans ((canon_out _).trans ?_)
  rw [← ld_rows (arg2.view.read (Elt F) f0), ← ld_all (arg3.view.read (Elt F) f1)]
  rfl

/-! ## The pipeline's proof data -/

/-- The core's unscoped buffers as launched; window `w`'s block at point `t`. -/
abbrev V0 (c : Dev nD) (b : Ref sig .tc) : Buf (Elt F) ((c : Thread nD τ).loc b) := m ((c : Thread nD τ).loc b)

def blkOf (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- Waits below the handshakes': what the core has recorded when the call starts, and when it ends. -/
def low (c : Dev nD) : Set (SemLoc sig × HIx 1) := {p | (K (F := F)).lev (SparseCore.T c, p.1) p.2 ≤ 0}

def dats (_ : Fin 1) (c : Dev nD) : Dat τ (Elt F) (HIx 1) ℕ UU ℕ cfg0 c where
  A w := V0 m c (Pipeline.arrRef spec0 w)
  after w t := match w with
    | ⟨0, _⟩ => blkOf m c 0 t
    | ⟨1, _⟩ => blkOf m c 1 t
    | ⟨2, _⟩ => lists (grid0.coords t) (blkOf m c 0 t) (blkOf m c 1 t)
  Φ _ := BI.emp
  q w := Pipeline.shareOf spec0 w
  owed _ := (K (F := F)).Otc c 0
  recorded _ := low (F := F) c

theorem A_eq (c : Dev nD) (w : Fin cfg0.W) : (dats m 0 c).A w = V0 m c (Pipeline.arrRef spec0 w) := by dsimp only [dats]
theorem after_0 (c : Dev nD) (t : Fin cfg0.N) : (dats m 0 c).after 0 t = blkOf m c 0 t := by dsimp only [dats]
theorem after_1 (c : Dev nD) (t : Fin cfg0.N) : (dats m 0 c).after 1 t = blkOf m c 1 t := by dsimp only [dats]
theorem after_2 (c : Dev nD) (t : Fin cfg0.N) : (dats m 0 c).after 2 t = lists (grid0.coords t) (blkOf m c 0 t) (blkOf m c 1 t) := by dsimp only [dats]

/-- Each input's staging buffer holds its block at every point. -/
theorem before_0 (c : Dev nD) (t : Fin cfg0.N) (d) : (dats m 0 c).before 0 t d = blkOf m c 0 t :=
  ((dats m 0 c).before_in_eq_fetched 0 rfl (fun _ => rfl) (fun _ _ _ => rfl) (fun t => by rw [after_0]; unfold Dat.blockOf blkOf; rw [A_eq]; try rfl) t d).trans
    (by unfold Dat.fetched Dat.blockOf blkOf; rw [A_eq]; try rfl)
theorem before_1 (c : Dev nD) (t : Fin cfg0.N) (d) : (dats m 0 c).before 1 t d = blkOf m c 1 t :=
  ((dats m 0 c).before_in_eq_fetched 1 rfl (fun _ => rfl) (fun _ _ _ => rfl) (fun t => by rw [after_1]; unfold Dat.blockOf blkOf; rw [A_eq]; try rfl) t d).trans
    (by unfold Dat.fetched Dat.blockOf blkOf; rw [A_eq]; try rfl)

/-- What the body is called with at point `t`, and what it returns. -/
def bodyPre (c : Dev nD) (t : Fin cfg0.N) : sProp 𝕄 :=
  iprop((dats m 0 c).Φ t.castSucc ∗ (dats m 0 c).owesAt none t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt none t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt none t.succ = (dats m 0 c).owesAt none t.castSucc from rfl, after_0, after_1, after_2]
  iintro ⟨HΦ, Ho, ⟨%d0, H0⟩, ⟨%d1, H1⟩, ⟨%d2, H2⟩⟩
  iapply (sound_kernel c Set.univ (grid0.coords t) _ _ _ _ _ _ (blkOf m c 0 t) (blkOf m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) : defs₀ (F := F) .tc cfg0.body (cfg0.bodyArgs t (cfg0.slots t)) = bodyAt0 t := rfl

theorem body_obligation (c : Dev nD) : BodyObligation (dats (F := F) m 0 c) (defs₀ (F := F)) 𝒱₀ none Set.univ := fun t => by
  rw [bigSep_W0, bigSep_W0, defs₀_row]
  exact triple_restated (sound_body m c t) rfl .rfl fun _ => .rfl

/-! ## The call as a step -/

/-- The neighbour lists the call leaves. -/
def topk (c : Dev nD) : Vec F S4x2048x8 .i32 := (dats m 0 c).arrAt 2 cfg0.N

/-- The unscoped buffers after the call: the lists in place, the rest as launched. -/
def V1 (c : Dev nD) (b : Ref sig .tc) : Buf (Elt F) ((c : Thread nD τ).loc b) :=
  Function.update (β := fun b => Buf (Elt F) ((c : Thread nD τ).loc b)) (V0 m c) main_v0 (topk m c) b

theorem V1_v0 (c : Dev nD) : V1 m c main_v0 = topk m c := Function.update_self _ _ _
theorem V1_ne (c : Dev nD) {b : Ref sig .tc} (h : b ≠ main_v0) : V1 m c b = V0 m c b := Function.update_of_ne h _ _

theorem Otc_none (c : Dev nD) (g : GSem nD τ sig) : (K (F := F)).Otc (N := 1) c 0 g none = 0 := by
  unfold SparseCore.Cfg.Otc
  simp [Finset.sum_apply, tallyAt_apply]

set_option backward.isDefEq.respectTransparency.types false in
/-- The call, entered with the unscoped buffers as launched and the starts owed. -/
def reg : Pipeline.RegionSeg (pcfgs (F := F)) (fun p => (cfgs p).toPCfg_adm) (dats m) none defs₀ 𝒱₀ (K (F := F)).L (K (F := F)).lev 0 where
  win := winFacts₀0
  block_pos := block_pos0
  stage_whole := stage_whole0
  K := PEmpty
  osem k := k.elim
  ho := Pipeline.OwnSemFacts.none _
  hbody c := (body_obligation m c).loose
  hwaits c := Pipeline.cellsWaits_intro _ _ _ _ c fun w s t => (K (F := F)).mayWait_none _ (Otc_none c)
  pre c := iprop(unscopedBufs c (V0 m c) ∗ ∃ W, ⌜(K (F := F)).WBelow (SparseCore.T c) W 0⌝ ∗ owes (c : Thread nD τ) ((K (F := F)).Otc c 0) W)
  post c := iprop(unscopedBufs c (V1 m c) ∗ ∃ W, ⌜(K (F := F)).WBelow (SparseCore.T c) W 0⌝ ∗ owes (c : Thread nD τ) ((K (F := F)).Otc c 0) W)
  X _ := BI.emp
  Y _ := BI.emp
  Z c := Pipeline.unscopedRest (Ix := HIx 1) (Name := ℕ) (U := UU) (Lvl := ℕ) spec0 c (V0 m c)
  hentry c := by
    rw [Pipeline.ownSems0_none]
    have hsplit := Pipeline.arrays_of_unscopedBufs_shared (p := 0) (pcfgs (F := F)) (fun p => (cfgs p).toPCfg_adm) (dats m) winFacts₀0 sharedIn0 arr_whole0 c
      (fun _ _ => rfl) (V0 m c) (A_eq m c)
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (dats m 0 c).Φ 0 = BI.emp from rfl]
    iintro -; iempintro
  hout c := by
    rw [Pipeline.ownSems0_none]
    iintro -
    isplitr; · iempintro
    isplitr; · iempintro
    iapply (Entails.of_eq (scopedRest0_eq (Val := Elt F) c).symm); iempintro
  hexit c := by
    have hjoin : (iprop((dats m 0 c).arrays ((dats m 0 c).arrAt · cfg0.N) ∗ Pipeline.unscopedRest (Ix := HIx 1) (Name := ℕ) (U := UU) (Lvl := ℕ) spec0 c (V0 m c)) : sProp 𝕄)
        ⊢ unscopedBufs c (V1 m c) := by
      rw [Pipeline.unscopedBufs_split₀ cfgs 0 winFacts₀0.arr_unscoped c (V1 m c),
        (dats m 0 c).arrBufs_eq_arrays sharedIn0 arr_whole0 (fun _ _ => rfl) (V1 m c) ((dats m 0 c).arrAt · cfg0.N) (fun w => by
          fin_cases w
          · exact ((dats m 0 c).arrAt_in 0 rfl _).trans ((A_eq m c 0).trans (V1_ne m c (by decide)).symm)
          · exact ((dats m 0 c).arrAt_in 1 rfl _).trans ((A_eq m c 1).trans (V1_ne m c (by decide)).symm)
          · exact (V1_v0 m c).symm)]
      refine sep_mono .rfl (Entails.of_eq ?_)
      rw [show Pipeline.unscopedRest (Ix := HIx 1) (Name := ℕ) (U := UU) (Lvl := ℕ) (cfgs 0).spec c (V1 m c) = _ from unscopedRest0_eq c (V1 m c), unscopedRest0_eq,
        V1_ne m c (by decide), V1_ne m c (by decide), V1_ne m c (by decide)]
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact le_rfl
    iexact HO

end Cert.Proof.KI

end
-- ==== Proof.KCert.lean ====
/-
  The whole kernel, run: the TensorCore's call, the change of shape, the SparseCores' call and the change of shape
  back. Provided every word of the neighbour lists is below 2048, it ends with the adjacency of the lists in its
  result, its argument unchanged and every counter at zero.
-/
module

public import proofs.«01_k».proof.Proof.KRegion
public import proofs.«01_k».proof.Defs
public import Idealize.ShloMosaic.Lib.SparseCore.Quiescent
public import Idealize.ShloMosaic.Lib.StableHlo.Run
public import Idealize.ShloMosaic.Lib.Pipeline.Kit

@[expose] public section

set_option maxRecDepth 16384

noncomputable section

namespace Cert.Proof.KI

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe Idealize.ShloMosaic.Rounds Idealize.ShloMosaic.Tactic
open SparseCore.Cfg (HIx Pay)
open Idealize.ShloMosaic.StableHlo (held wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The places of the argument, the lists and the result. -/
abbrev xLoc (d : Dev nD) : Loc nD τ sig := (SparseCore.T d).loc main_arg0
abbrev lLoc (d : Dev nD) : Loc nD τ sig := (SparseCore.T d).loc main_v0
abbrev rLoc (d : Dev nD) : Loc nD τ sig := (SparseCore.T d).loc main_v3

/-- The flat lists the SparseCores' call reads, the output as launched, and the result. -/
def tab0 (d : Dev nD) : Vec F S4x16384 .i32 := shapeCast S4x16384 (topk m d) shapeCasts_S4x2048x8_S4x16384
abbrev out0 (d : Dev nD) : Vec F S16777216 .f32 := m (outLoc d)
def res0 (d : Dev nD) : Vec F S4x2048x2048 .f32 := shapeCast S4x2048x2048 (outF (tab0 m d)) shapeCasts_S16777216_S4x2048x2048

/-! ## The launch's ghost state -/

abbrev cfgs' (F : FTy → Type) [FloatOps F] [Named F] : Fin 1 → Pipeline.Cfg sig Λ₀ := Pipeline.pin (pcfgs (F := F)) (fun p => (cfgs p).toPCfg_adm)

def u₀ : UU := (initOf (K (F := F)).hsCells (K (F := F)).hsToks, (initOf (Pipeline.cells (nD := nD) (τ := τ) (cfgs' F) cellOf_inj) (Pipeline.launchToks (cfgs' F) cellOf_inj), 1))

/-- What the TensorCore's call needs of it. -/
def G (d : Dev nD) : sProp 𝕄 := iprop(Pipeline.cellsGhost (cfgs' F) EP 0 d ∗ Pipeline.toksInit (cfgs' F) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (tab0 m) (out0 m)).x q thr) := by
  unfold u₀
  iintro Hu
  ihave H := (ownU_pair _ _) $$ Hu
  icases H with ⟨HH, HR⟩
  ihave H2 := (own_pair_emb (embR : Emb (UP × Counters) 𝕄) (initOf (Pipeline.cells (nD := nD) (τ := τ) (cfgs' F) cellOf_inj) (Pipeline.launchToks (cfgs' F) cellOf_inj)) 1) $$ HR
  icases H2 with ⟨HP0, -⟩
  ihave HP := (show (BI.own (((Emb.inl : Emb UP (UP × Counters)).trans (embR : Emb (UP × Counters) 𝕄)) (initOf (Pipeline.cells (nD := nD) (τ := τ) (cfgs' F) cellOf_inj) (Pipeline.launchToks (cfgs' F) cellOf_inj))) : sProp 𝕄)
    ⊢ BI.own ((EP (F := F)) (initOf (Pipeline.cells (nD := nD) (τ := τ) (cfgs' F) cellOf_inj) (Pipeline.launchToks (cfgs' F) cellOf_inj))) from .rfl) $$ HP0
  imod (Pipeline.fund_ghost (cfgs' F) EP cellOf_inj) $$ HP with ⟨Hg, Ht⟩
  imodintro
  isplitl [HH]; · iexact HH
  isplitl [Hg Ht]
  · rw [show (bigSep Finset.univ fun d : Dev nD => G (F := F) d) = (iprop((bigSep Finset.univ fun c : Dev nD => bigSep Finset.univ fun p => Pipeline.cellsGhost (cfgs' F) EP p c)
          ∗ (bigSep Finset.univ fun c : Dev nD => bigSep Finset.univ fun p => (Pipeline.toksInit (cfgs' F) EP p c : sProp 𝕄))) : sProp 𝕄) from by
      rw [← BI.bigSep_sep']
      refine bigSep_congr fun d _ => ?_
      unfold G
      rw [show (Finset.univ : Finset (Fin 1)) = {0} from rfl, bigSep_singleton, bigSep_singleton]]
    isplitl [Hg] <;> iassumption
  rw [show (bigSep Finset.univ fun thr : Thread nD τ => bigSep Finset.univ fun q : Fin 1 => (P (tab0 m) (out0 m)).x q thr) = (iprop(emp) : sProp 𝕄) from
    (bigSep_congr fun _ _ => BI.bigSep_emp_const _).trans (BI.bigSep_emp_const _)]
  iempintro

/-! ## The host code -/

/-- The states the call goes between. -/
def callPre (d : Dev nD) : sProp 𝕄 :=
  iprop(unscopedBufs d (V0 m d) ∗ ∃ W, ⌜(K (F := F)).WBelow (SparseCore.T d) W 0⌝ ∗ owes (d : Thread nD τ) ((K (F := F)).Otc d 0) W)
def callPost (d : Dev nD) : sProp 𝕄 :=
  iprop(unscopedBufs d (V1 m d) ∗ ∃ W, ⌜(K (F := F)).WBelow (SparseCore.T d) W 0⌝ ∗ owes (d : Thread nD τ) ((K (F := F)).Otc d 0) W)

/-- The TensorCore's call, from the state before the SparseCores' call back to it. -/
theorem wp_lists (κ : GSem nD τ sig → ℕ) (d : Dev nD) (Q : PUnit → sProp 𝕄) :
    (iprop((K (F := F)).ctx EH (P (tab0 m) (out0 m)) κ ∗ (K (F := F)).tcSt EH d 0 ∗ boundary (SparseCore.T d) ∗ unscopedBufs d (V0 m d) ∗ G (F := F) d
        ∗ (iprop((K (F := F)).tcSt EH d 0 ∗ boundary (SparseCore.T d) ∗ unscopedBufs d (V1 m d)) -∗ Q ⟨⟩)) : sProp 𝕄)
      ⊢ wp frame (wpE ((K (F := F)).defs (D (F := F))) 𝒱 (SparseCore.T d) none) Set.univ
          (Prog.lift (.customCall (SparseCore.inner (Pipeline.entry 0)) ())) Q := by
  unfold G SparseCore.Cfg.tcSt
  iintro ⟨#Hctx, ⟨HO, Hst⟩, Hb, Hub, ⟨Hg, Ht⟩, Hk⟩
  iapply ((K (F := F)).wp_liftProg (D (F := F)) 𝒱 (SparseCore.T d) Set.univ none (.op (.customCall (Pipeline.entry 0) ()) .ret) Q)
  iapply (Pipeline.RegionSeg.wp (pcfgs (F := F)) (fun p => (cfgs p).toPCfg_adm) (dats m) none cellOf_inj EP (defs₀ (F := F)) 𝒱₀ (K (F := F)).L (K (F := F)).lev (reg m) d none
    (fun u h => nomatch h) .ret Q)
  isplitl [Hst Hk]
  · iintro ⟨Hb, Hpost⟩
    ihave Hpost' := (show (reg m).post d ⊢ callPost m d from .rfl) $$ Hpost
    unfold callPost
    icases Hpost' with ⟨Hub, HO⟩
    rw [wp_ret]; imodintro
    iapply Hk
    isplitl [HO Hst]
    · isplitl [HO]; · iexact HO
      iexact Hst
    isplitl [Hb]; · iexact Hb
    iexact Hub
  isplitl [Hb]; · iexact Hb
  isplitl [Hub HO]
  · iapply (show callPre m d ⊢ (reg m).pre d from .rfl)
    unfold callPre
    isplitl [Hub]; · iexact Hub
    iexact HO
  isplitr
  · iapply ((K (F := F)).ctx_levAts κ); iexact Hctx
  isplitl [Hg] <;> iassumption

abbrev x' : DevRef τ sig := Proc.devRef .tc (main_arg0 : Ref sig .tc)
abbrev l' : DevRef τ sig := Proc.devRef .tc (main_v0 : Ref sig .tc)
abbrev t' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opFlat : HloOp τ sig (Elt F) := StableHlo.reshape main_v0 main_v1 (rfl : (.i32 : EltTy) = .i32) shapeCasts_S4x2048x8_S4x16384
abbrev opBack : HloOp τ sig (Elt F) := StableHlo.reshape main_v2 main_v3 (rfl : (.f32 : EltTy) = .f32) shapeCasts_S16777216_S4x2048x2048

theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_v0) ∗ (inLoc d ↦{fullShare} W main_v1)
      ∗ (outLoc d ↦{fullShare} W main_v2) ∗ rLoc d ↦{fullShare} W main_v3) := by
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide), SparseCore.bigSep_insert' (by decide), bigSep_singleton]

/-- The two buffers of the first change of shape, and of the second. -/
theorem held_flat (d : Dev nD) (W : Valuation τ sig (Elt F)) :
    (held (SparseCore.T d) {l', t'} W : sProp 𝕄) = iprop((lLoc d ↦{fullShare} W l') ∗ inLoc d ↦{fullShare} W t') := by
  unfold held
  rw [SparseCore.bigSep_insert' (by decide), bigSep_singleton]
theorem held_back (d : Dev nD) (W : Valuation τ sig (Elt F)) :
    (held (SparseCore.T d) {o', r'} W : sProp 𝕄) = iprop((outLoc d ↦{fullShare} W o') ∗ rLoc d ↦{fullShare} W r') := by
  unfold held
  rw [SparseCore.bigSep_insert' (by decide), bigSep_singleton]

/-- A valuation with the lists, and one with the call's output. -/
def Vl (d : Dev nD) : Valuation τ sig (Elt F) := Function.update (fun b => m (d, b)) l' (topk m d)
def Vo (d : Dev nD) : Valuation τ sig (Elt F) := Function.update (fun b => m (d, b)) o' (outF (tab0 m d))

theorem Vl_l (d : Dev nD) : Vl m d l' = topk m d := Function.update_self _ _ _
theorem Vl_t (d : Dev nD) : Vl m d t' = m (inLoc d) := Function.update_of_ne (show t' ≠ l' by decide) _ _
theorem Vo_o (d : Dev nD) : Vo m d o' = outF (tab0 m d) := Function.update_self _ _ _
theorem Vo_r (d : Dev nD) : Vo m d r' = m (rLoc d) := Function.update_of_ne (show r' ≠ o' by decide) _ _

theorem flat_result (d : Dev nD) : (opFlat (F := F)).result (Vl m d) t' = tab0 m d :=
  (StableHlo.reshape_result' (x := main_v0) (y := main_v1) _ _ _ _ _).trans (by rw [Vl_l]; rfl)
theorem back_result (d : Dev nD) : (opBack (F := F)).result (Vo m d) r' = res0 m d :=
  (StableHlo.reshape_result' (x := main_v2) (y := main_v3) _ _ _ _ _).trans (by rw [Vo_o]; rfl)

abbrev FIN (d : Dev nD) : sProp 𝕄 := iprop((xLoc d ↦{fullShare} m (xLoc d)) ∗ rLoc d ↦{fullShare} res0 m d)

theorem hmain (κ : GSem nD τ sig → ℕ) (d : Dev nD) :
    (iprop((K (F := F)).ctx EH (P (tab0 m) (out0 m)) κ ∗ (K (F := F)).tcSt EH d 0 ∗ (K (F := F)).tcRes m ρ d ∗ G (F := F) d) : sProp 𝕄)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hub, Hts, -⟩, HG⟩
  iapply (wp_lists m κ d)
  isplitr; · iexact Hctx
  isplitl [Hst]; · iexact Hst
  isplitl [Hb]; · iexact Hb
  isplitl [Hub]; · iexact Hub
  isplitl [HG]; · iexact HG
  iintro ⟨Hst, Hb, Hub⟩
  ihave Hub' := (Entails.of_eq (unscopedBufs_eq (F := F) d _)) $$ Hub
  icases Hub' with ⟨Hx, Hl, Hi, Ho, Hr⟩
  -- the lists made flat
  iapply (wp_hlo_within 𝒱 (SparseCore.T d) none Set.univ (op := opFlat) (S := {l', t'}) (Finset.Subset.refl _) (V := Vl m d)) $$ [Hb Hl Hi]
  · isplitl [Hb]; · iexact Hb
    rw [held_flat, Vl_l, Vl_t, V1_v0, V1_ne m d (b := main_v1) (by decide)]
    isplitl [Hl]; · iexact Hl
    iexact Hi
  iintro ⟨Hb, Hh⟩
  ihave Hh' := (Entails.of_eq (held_flat (F := F) d _)) $$ Hh
  rw [flat_result]
  icases Hh' with ⟨-, Hi⟩
  rw [wp_ret]; imodintro
  -- the SparseCores' call
  iapply ((K (F := F)).wp_run (D (F := F)) 𝒱 (EH := EH) (P := P (tab0 m) (out0 m)) κ d 0) $$ [Hst Hi Ho Hb Hx Hr Hts]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq (tab0 m) (out0 m) d)) $$ Hdn
  icases Hdn' with ⟨-, Ho⟩
  -- the output at the result's shape
  iapply (wp_hlo_within 𝒱 (SparseCore.T d) none Set.univ (op := opBack) (S := {o', r'}) (Finset.Subset.refl _) (V := Vo m d)) $$ [Hb Ho Hr]
  · isplitl [Hb]; · iexact Hb
    rw [held_back, Vo_o, Vo_r, V1_ne m d (b := main_v3) (by decide)]
    isplitl [Ho]; · iexact Ho
    iexact Hr
  iintro ⟨Hb, Hh⟩
  ihave Hh' := (Entails.of_eq (held_back (F := F) d _)) $$ Hh
  rw [back_result]
  icases Hh' with ⟨-, Hr⟩
  rw [wp_ret]; imodintro; imodintro
  isplitl [Hst]; · iexact Hst
  isplitr [Hb Hts]
  · isplitl [Hx]
    · rw [V1_ne m d (b := main_arg0) (by decide)]; iexact Hx
    iexact Hr
  isplitl [Hb] <;> iassumption

def fq (d : Dev nD) (s' : Phys nD τ sig (Elt F)) : Prop :=
  s'.mem.mem (xLoc d) = m (xLoc d) ∧ s'.mem.mem (rLoc d) = res0 m d

theorem hfin (d : Dev nD) (s' : Phys nD τ sig (Elt F)) : (iprop(FIN m d ∗ SI s') : sProp 𝕄) ⊢ (⌜fq m d s'⌝ : sProp 𝕄) := by
  iintro ⟨⟨Hi, Ho⟩, HSI⟩
  ihave H := (persistent_entails_right (SI_pointsTo_agree (st := s') (ℓ := xLoc d) (I := Finset.univ) (q := fullShare) (f := m (xLoc d)))) $$ [HSI Hi]
  · isplitl [HSI] <;> iassumption
  icases H with ⟨%h1, HSI, -⟩
  ihave H := (SI_pointsTo_agree (st := s') (ℓ := rLoc d) (I := Finset.univ) (q := fullShare) (f := res0 m d)) $$ [HSI Ho]
  · isplitl [HSI] <;> iassumption
  icases H with %h2
  ipureintro; exact ⟨funext fun i => h1 i (Finset.mem_univ i), funext fun i => h2 i (Finset.mem_univ i)⟩

def QC : PUnit × MemSt nD τ sig (Elt F) → Prop := fun r => (∀ d : Dev nD, r.2.mem (xLoc d) = m (xLoc d) ∧ r.2.mem (rLoc d) = res0 m d) ∧ r.2.sem = fun _ => 0

/-- The kernel's run. -/
theorem run_main [∀ e, Nonempty (Elt F e)] (htab : ∀ d j, (tab0 m d j).toNat < 2048) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tab0 m) (out0 m)) (A := ∅) facts v₀
    (fun q hq => match q with | 0 => nomatch hq)
    (fun q _ => match q with | 0 => tileObl (tab0 m) (out0 m) htab)
    (fun q _ => match q with | 0 => SparseCore.Cfg.VecSplit.of_plain (vecSplit (tab0 m) (out0 m)))
    m ρ main (G (F := F)) (FIN m) (u₀ (F := F)) (sep_elim_left.trans (hu₀ m)) (hmain m ρ) (fq m) (hfin m) (QC m) (fun _ h hz => ⟨h, hz⟩)

end Cert.Proof.KI

end
-- ==== Proof.VScat.lean ====
/-
  A scatter of one constant by triples of index words into an array of three axes: an entry holds the constant exactly
  when some update's words name it.
-/
module

public import Idealize.ShloMosaic.Lib.Routing.OpsPair
public import Idealize.ShloMosaic.Lib.Pointwise

@[expose] public section

namespace Cert.Proof.KV

open Idealize.ShloMosaic

/-- Update `(a, b, c)` of a scatter by three index words each lands at an entry exactly when its words, read signed, are the entry's coordinates. -/
theorem lands3 {D0 D1 D2 A B C w : ℕ} (d : ScatterDims (⟨3, ![D0, D1, D2]⟩ : Shape) (⟨4, ![A, B, C, 3]⟩ : Shape) (⟨3, ![A, B, C]⟩ : Shape))
    (huw : d.updateWindowDims = []) (hiw : d.insertedWindowDims = [0, 1, 2])
    (hsd : d.scatterDimsToOperandDims = [0, 1, 2]) (hivd : d.indexVectorDim = 3) (idx : IVec (⟨4, ![A, B, C, 3]⟩ : Shape) w)
    (a : Fin A) (b : Fin B) (c : Fin C) (ι : (⟨3, ![D0, D1, D2]⟩ : Shape).Idx) :
    d.resultIdx? (ix3 a b c) idx = some ι ↔ ∀ q : Fin 3, (idx (ix4 a b c q)).toInt = (ι q).val := by
  have hm : ∀ q : Fin 3, q ∈ d.scatterDimsToOperandDims := fun q => by rw [hsd]; fin_cases q <;> simp
  have hwin : ∀ q : Fin 3, d.window (ix3 a b c) q = 0 := fun q => by
    unfold ScatterDims.window
    rw [dif_neg fun h => (of_decide_eq_true (List.mem_filter.1 h).2) (by rw [hiw]; fin_cases q <;> simp)]
  have hk : d.siKept = [0, 1, 2] := by
    show (List.finRange 4).filter (fun x => decide (x.val ≠ d.indexVectorDim)) = _
    rw [hivd]
    rfl
  have hu : d.uScatter = [0, 1, 2] := by
    show (⟨3, ![A, B, C]⟩ : Shape).kept d.updateWindowDims = _
    rw [huw]
    rfl
  have at' : ∀ (l : List (Fin 3)) (n : ℕ) (h : n < l.length) (m : Fin 3), l = [0, 1, 2] → n = m.val → l[n]'h = m := by
    intro l n h m hl hn
    subst hl
    subst hn
    fin_cases m <;> rfl
  have hsi : ∀ q : Fin 3, d.siIdx (ix3 a b c) ⟨d.scatterDimsToOperandDims.idxOf q, List.idxOf_lt_length_iff.2 (hm q)⟩ = ix4 a b c q := fun q => by
    funext b'
    apply Fin.ext
    match b' with
    | ⟨0, _⟩ =>
      unfold ScatterDims.siIdx
      rw [dif_neg (by rw [hivd]; exact (by decide : (0 : ℕ) ≠ 3))]
      unfold ScatterDims.siCoord
      simp only [Fin.val_cast]
      rw [at' _ _ _ 0 hu (by rw [hk]; rfl)]
      rfl
    | ⟨1, _⟩ =>
      unfold ScatterDims.siIdx
      rw [dif_neg (by rw [hivd]; exact (by decide : (1 : ℕ) ≠ 3))]
      unfold ScatterDims.siCoord
      simp only [Fin.val_cast]
      rw [at' _ _ _ 1 hu (by rw [hk]; rfl)]
      rfl
    | ⟨2, _⟩ =>
      unfold ScatterDims.siIdx
      rw [dif_neg (by rw [hivd]; exact (by decide : (2 : ℕ) ≠ 3))]
      unfold ScatterDims.siCoord
      simp only [Fin.val_cast]
      rw [at' _ _ _ 2 hu (by rw [hk]; rfl)]
      rfl
    | ⟨3, _⟩ =>
      unfold ScatterDims.siIdx
      rw [dif_pos (by rw [hivd])]
      show List.idxOf q d.scatterDimsToOperandDims = q.val
      rw [hsd]
      fin_cases q <;> rfl
  have hstart : ∀ q : Fin 3, d.start (ix3 a b c) idx q = (idx (ix4 a b c q)).toInt := fun q => by
    unfold ScatterDims.start
    rw [dif_pos (hm q), hsi]
  rw [Routing.resultIdx?_eq_some]
  constructor
  · intro h q
    have := h q
    rw [hstart, hwin] at this
    simpa using this
  · intro h q
    rw [hstart, hwin]
    simpa using h q

/-- A fold that overwrites by one value where `P` holds. -/
theorem foldl_set {α β : Type} (l : List β) (P : β → Prop) [DecidablePred P] (v x : α) :
    l.foldl (fun a n => if P n then v else a) x = if ∃ n ∈ l, P n then v else x := by
  induction l generalizing x with
  | nil => simp
  | cons n l ih =>
    rw [List.foldl_cons, ih]
    by_cases h : ∃ k ∈ l, P k
    · rw [if_pos h, if_pos]
      obtain ⟨k, hk, hp⟩ := h
      exact ⟨k, List.mem_cons_of_mem _ hk, hp⟩
    · rw [if_neg h]
      by_cases hn : P n
      · rw [if_pos hn, if_pos ⟨n, List.mem_cons_self, hn⟩]
      · rw [if_neg hn, if_neg]
        rintro ⟨k, hk, hp⟩
        rcases List.mem_cons.1 hk with rfl | hk
        · exact hn hp
        · exact h ⟨k, hk, hp⟩

open Classical in
/-- The scatter that sets `v`, read at an entry. -/
theorem scatter_set {α : Type} {s si u : Shape} {w : ℕ} (d : ScatterDims s si u) (x0 : s.Idx → α) (idx : IVec si w) (upd : u.Idx → α) (v : α)
    (hv : ∀ k, upd k = v) (ι : s.Idx) :
    Host.scatter d (fun _ b => b) x0 idx upd ι = if ∃ k, d.resultIdx? k idx = some ι then v else x0 ι := by
  rw [Routing.scatter_at]
  simp only [hv]
  rw [foldl_set (List.finRange u.numel) (fun n => d.resultIdx? (u.rowMajor.symm n) idx = some ι) v (x0 ι)]
  have e : (∃ n ∈ List.finRange u.numel, d.resultIdx? (u.rowMajor.symm n) idx = some ι) ↔ ∃ k, d.resultIdx? k idx = some ι := by
    constructor
    · rintro ⟨n, _, h⟩; exact ⟨_, h⟩
    · rintro ⟨k, h⟩; exact ⟨u.rowMajor k, List.mem_finRange _, by rw [Equiv.symm_apply_apply]; exact h⟩
  simp only [e]

end Cert.Proof.KV

end
-- ==== Proof.VTopSort.lean ====
/-
  The host's top-k of the last of three axes, its positions read at an entry: the stable sort of the row, greater first.
-/
module

public import Idealize.ShloMosaic.Lib.Pointwise

@[expose] public section

namespace Cert.Proof.KV

open Idealize.ShloMosaic

theorem along_last {A B N : ℕ} (b : Fin A) (p : Fin B) (q k : Fin N) :
    Shape.Idx.along (s := (⟨3, ![A, B, N]⟩ : Shape)) (ix3 b p q) 2 k = ix3 b p k := by
  funext a
  fin_cases a <;> rfl

theorem topK_last {α : Type} {A B N K : ℕ} (gt : α → α → BitVec 1) (x : (⟨3, ![A, B, N]⟩ : Shape).Idx → α)
    (h : (⟨3, ![A, B, N]⟩ : Shape).Slices (fun _ => 0) (⟨3, ![A, B, K]⟩ : Shape)) (b : Fin A) (p : Fin B) (l : Fin K) (hl : l.val < N) :
    (Host.topK (⟨3, ![A, B, K]⟩ : Shape) 2 gt x h).2 (ix3 b p l)
      = BitVec.ofNat 32 (sortedFrom (fun k k' => gt (x (ix3 b p k)) (x (ix3 b p k')) == 1#1) ⟨l.val, hl⟩).val := by
  have hj : (fun a : Fin 3 => (⟨0 + ((ix3 b p l : (⟨3, ![A, B, K]⟩ : Shape).Idx) (a.cast h.1.symm)).val,
      Nat.lt_of_lt_of_le (Nat.add_lt_add_left (((ix3 b p l : (⟨3, ![A, B, K]⟩ : Shape).Idx)) _).isLt _) (h.2 a)⟩ : Fin ((⟨3, ![A, B, N]⟩ : Shape).size a)))
      = (ix3 b p (⟨l.val, hl⟩ : Fin N) : (⟨3, ![A, B, N]⟩ : Shape).Idx) := by
    funext a
    apply Fin.ext
    fin_cases a <;> exact Nat.zero_add _
  unfold Host.topK extractStridedSlice
  dsimp only
  rw [hj]
  unfold Host.sort2
  rw [dif_pos (by exact (by decide : (2 : ℕ) < 3))]
  dsimp only
  rw [dif_pos (by exact (by decide : (2 : ℕ) < 3))]
  show BitVec.ofNat 32 (Shape.Idx.along (s := (⟨3, ![A, B, N]⟩ : Shape)) (ix3 b p ⟨l.val, hl⟩) 2
      (sortedFrom (fun k k' => gt (x (Shape.Idx.along (s := (⟨3, ![A, B, N]⟩ : Shape)) (ix3 b p ⟨l.val, hl⟩) 2 k))
        (x (Shape.Idx.along (s := (⟨3, ![A, B, N]⟩ : Shape)) (ix3 b p ⟨l.val, hl⟩) 2 k')) == 1#1) ⟨l.val, hl⟩) 2).val = _
  refine congrArg (BitVec.ofNat 32) ?_
  have e1 : ∀ k : Fin N, Shape.Idx.along (s := (⟨3, ![A, B, N]⟩ : Shape)) (ix3 b p ⟨l.val, hl⟩) 2 k = ix3 b p k := fun k => along_last b p _ k
  have main : ∀ R R' : Fin N → Fin N → Bool, R = R' →
      (Shape.Idx.along (s := (⟨3, ![A, B, N]⟩ : Shape)) (ix3 b p ⟨l.val, hl⟩) 2 (sortedFrom R ⟨l.val, hl⟩) 2).val = (sortedFrom R' ⟨l.val, hl⟩).val := by
    rintro R _ rfl
    exact congrArg (fun i : (⟨3, ![A, B, N]⟩ : Shape).Idx => (i 2).val) (along_last b p _ _)
  exact main _ _ (funext fun k => funext fun k' => congrArg₂ (fun i j => gt (x i) (x j) == 1#1) (e1 k) (e1 k'))

end Cert.Proof.KV

end
-- ==== Proof.VSelect.lean ====
/-
  Taking the greatest remaining entry of a finite row, again and again, against sorting the row: the rounds pick the
  first positions of a stable descending sort, as long as an entry above −∞ remains in every round.
-/
module

public import Idealize.ShloMosaic.Lib.SortFacts
public import Mathlib.Data.EReal.Basic
public import Mathlib.Data.Fintype.Lattice
public import Mathlib.Data.Finset.Card

@[expose] public section

noncomputable section

namespace Cert.Proof.KV

open Idealize.ShloMosaic

variable {n : ℕ}

/-- Position `a` comes before position `b`: a greater entry, or an equal one further left. -/
def Wins (x : Fin n → EReal) (a b : Fin n) : Prop := x b < x a ∨ (x a = x b ∧ a < b)

theorem Wins.asymm {x : Fin n → EReal} {a b : Fin n} (h : Wins x a b) : ¬ Wins x b a := by
  rintro (h' | ⟨h', h''⟩)
  · rcases h with h | ⟨h, _⟩
    · exact absurd h (not_lt.2 h'.le)
    · exact absurd h (ne_of_lt h')
  · rcases h with h | ⟨_, h⟩
    · exact absurd h' (ne_of_lt h)
    · exact absurd h (not_lt.2 h''.le)

/-- Position `i` holds the greatest entry, and is the first that does. -/
def IsTop (y : Fin n → EReal) (i : Fin n) : Prop := (∀ j, y j ≤ y i) ∧ ∀ j, y j = y i → i ≤ j

theorem IsTop.unique {y : Fin n → EReal} {i j : Fin n} (hi : IsTop y i) (hj : IsTop y j) : i = j := by
  have e : y i = y j := le_antisymm (hj.1 i) (hi.1 j)
  exact le_antisymm (hi.2 j e.symm) (hj.2 i e)

theorem exists_isTop [NeZero n] (y : Fin n → EReal) : ∃ i, IsTop y i := by
  obtain ⟨k, hk⟩ := Finite.exists_max y
  let S : Finset (Fin n) := Finset.univ.filter fun j => y j = y k
  have hS : S.Nonempty := ⟨k, Finset.mem_filter.2 ⟨Finset.mem_univ _, rfl⟩⟩
  refine ⟨S.min' hS, ?_⟩
  have hm : y (S.min' hS) = y k := (Finset.mem_filter.1 (S.min'_mem hS)).2
  refine ⟨fun j => hm ▸ hk j, fun j hj => ?_⟩
  exact S.min'_le j (Finset.mem_filter.2 ⟨Finset.mem_univ _, hj.trans hm⟩)

/-- The first position of the greatest entry. -/
def top [NeZero n] (y : Fin n → EReal) : Fin n := (exists_isTop y).choose

theorem isTop_top [NeZero n] (y : Fin n → EReal) : IsTop y (top y) := (exists_isTop y).choose_spec

/-- A row with one entry struck out. -/
def strike (y : Fin n → EReal) (i : Fin n) : Fin n → EReal := fun j => if j = i then ⊥ else y j

/-- The row after `r` rounds, each striking out the greatest entry; the position that round `r` picks. -/
def rest [NeZero n] (x : Fin n → EReal) : ℕ → Fin n → EReal
  | 0 => x
  | r + 1 => strike (rest x r) (top (rest x r))

def pick [NeZero n] (x : Fin n → EReal) (r : ℕ) : Fin n := top (rest x r)

theorem rest_eq [NeZero n] (x : Fin n → EReal) (r : ℕ) (j : Fin n) :
    rest x r j = if ∃ s < r, pick x s = j then ⊥ else x j := by
  induction r with
  | zero => rw [if_neg (by rintro ⟨s, h, _⟩; omega)]; rfl
  | succ r ih =>
    show (if j = top (rest x r) then ⊥ else rest x r j) = _
    by_cases hj : j = top (rest x r)
    · rw [if_pos hj, if_pos ⟨r, Nat.lt_succ_self r, hj.symm⟩]
    · rw [if_neg hj, ih]
      refine if_congr ⟨?_, ?_⟩ rfl rfl
      · rintro ⟨s, h, e⟩; exact ⟨s, by omega, e⟩
      · rintro ⟨s, h, e⟩
        rcases Nat.lt_succ_iff_lt_or_eq.1 h with h | rfl
        · exact ⟨s, h, e⟩
        · exact absurd e.symm hj

/-- When an entry above −∞ is left, the round picks a position not picked before, which comes before all the others left. -/
theorem pick_spec [NeZero n] (x : Fin n → EReal) (r : ℕ) (hl : ∃ j, (∀ s < r, pick x s ≠ j) ∧ x j ≠ ⊥) :
    (∀ s < r, pick x s ≠ pick x r) ∧ ∀ j, (∀ s < r, pick x s ≠ j) → j ≠ pick x r → Wins x (pick x r) j := by
  have ht : IsTop (rest x r) (pick x r) := isTop_top _
  have hfree : ∀ s < r, pick x s ≠ pick x r := by
    intro s hs e
    obtain ⟨j, hj, hb⟩ := hl
    have h1 := ht.1 j
    rw [rest_eq, rest_eq, if_neg (by rintro ⟨s, h, e⟩; exact hj s h e), if_pos ⟨s, hs, e⟩] at h1
    exact hb (le_bot_iff.1 h1)
  refine ⟨hfree, fun j hj hne => ?_⟩
  have e1 : rest x r j = x j := by rw [rest_eq, if_neg (by rintro ⟨s, h, e⟩; exact hj s h e)]
  have e2 : rest x r (pick x r) = x (pick x r) := by rw [rest_eq, if_neg (by rintro ⟨s, h, e⟩; exact hfree s h e)]
  have h1 := ht.1 j
  have h2 := ht.2 j
  rw [e1, e2] at h1 h2
  rcases lt_or_eq_of_le h1 with h | h
  · exact Or.inl h
  · exact Or.inr ⟨h.symm, lt_of_le_of_ne (h2 h) hne.symm⟩

/-- Fewer than `n - 1` positions picked, and only one entry at −∞: an entry above −∞ is left. -/
theorem exists_left [NeZero n] (x : Fin n → EReal) (d : Fin n) (hx : ∀ j, j ≠ d → x j ≠ ⊥) (r : ℕ) (hr : r + 1 < n) :
    ∃ j, (∀ s < r, pick x s ≠ j) ∧ x j ≠ ⊥ := by
  let S : Finset (Fin n) := insert d ((Finset.range r).image (pick x))
  have hc : S.card < n := by
    have h1 : S.card ≤ ((Finset.range r).image (pick x)).card + 1 := Finset.card_insert_le _ _
    have h2 : ((Finset.range r).image (pick x)).card ≤ r := Finset.card_image_le.trans (by rw [Finset.card_range])
    omega
  obtain ⟨j, hj⟩ : ∃ j, j ∉ S := by
    by_contra h
    push Not at h
    have : S = Finset.univ := Finset.eq_univ_iff_forall.2 h
    rw [this, Finset.card_univ, Fintype.card_fin] at hc
    exact lt_irrefl _ hc
  refine ⟨j, fun s hs e => hj ?_, hx j fun e => hj ?_⟩
  · exact Finset.mem_insert_of_mem (Finset.mem_image.2 ⟨s, Finset.mem_range.2 hs, e⟩)
  · rw [e]; exact Finset.mem_insert_self _ _

/-- The rounds pick what an arrangement without inversions lists, position by position. -/
theorem pick_eq [NeZero n] (x : Fin n → EReal) (d : Fin n) (hx : ∀ j, j ≠ d → x j ≠ ⊥) (σ : Fin n → Fin n)
    (hσ : Function.Bijective σ) (ho : ∀ a b, a < b → Wins x (σ a) (σ b)) :
    ∀ (r : ℕ) (hr : r + 1 < n), pick x r = σ ⟨r, by omega⟩ := by
  intro r
  induction r using Nat.strong_induction_on with
  | _ r ih =>
    intro hr
    obtain ⟨hf, hw⟩ := pick_spec x r (exists_left x d hx r hr)
    by_contra hne
    have hfree : ∀ s < r, pick x s ≠ σ ⟨r, by omega⟩ := by
      intro s hs e
      rw [ih s hs (by omega)] at e
      have := congrArg Fin.val (hσ.1 e)
      simp only at this
      omega
    have h1 := hw _ hfree (Ne.symm hne)
    obtain ⟨k, hk⟩ := hσ.2 (pick x r)
    have hkr : ¬ k.val < r := by
      intro h
      exact hf k.val h ((ih k.val h (by omega)).trans hk)
    have hkne : k.val ≠ r := by
      intro h
      exact hne (hk ▸ congrArg σ (Fin.ext h))
    have h2 := ho ⟨r, by omega⟩ k (Fin.lt_def.2 (by simp only; omega))
    rw [hk] at h2
    exact h1.asymm h2

/-! ## The stable sort -/

/-- Inserting an earlier position into a list of later ones that is in order leaves it in order. -/
theorem pairwise_insert_wins (x : Fin n → EReal) (R : Fin n → Fin n → Bool) (hR : ∀ a b, R a b = decide (x b < x a)) (a : Fin n)
    (l : List (Fin n)) (hl : l.Pairwise (Wins x)) (ha : ∀ b ∈ l, a < b) : (insertBefore R a l).Pairwise (Wins x) := by
  induction l with
  | nil => exact List.pairwise_singleton _ _
  | cons b l ih =>
    rw [List.pairwise_cons] at hl
    unfold insertBefore
    by_cases h : R b a = true
    · rw [if_pos h, List.pairwise_cons]
      rw [hR, decide_eq_true_eq] at h
      refine ⟨fun c hc => ?_, ih hl.2 fun c hc => ha c (List.mem_cons_of_mem _ hc)⟩
      rcases List.mem_cons.1 ((perm_insertBefore R a l).mem_iff.1 hc) with rfl | hc
      · exact Or.inl h
      · exact hl.1 c hc
    · rw [if_neg h, List.pairwise_cons]
      rw [hR, decide_eq_true_eq, not_lt] at h
      have hab : Wins x a b := by
        rcases lt_or_eq_of_le h with h | h
        · exact Or.inl h
        · exact Or.inr ⟨h.symm, ha b List.mem_cons_self⟩
      refine ⟨fun c hc => ?_, List.pairwise_cons.2 hl⟩
      rcases List.mem_cons.1 hc with rfl | hc
      · exact hab
      · rcases hl.1 c hc with h' | ⟨h', _⟩
        · exact Or.inl (lt_of_lt_of_le h' h)
        · rcases lt_or_eq_of_le h with h | h
          · exact Or.inl (h' ▸ h)
          · exact Or.inr ⟨(h'.symm.trans h).symm, ha c (List.mem_cons_of_mem _ hc)⟩

theorem pairwise_sort_wins (x : Fin n → EReal) (R : Fin n → Fin n → Bool) (hR : ∀ a b, R a b = decide (x b < x a))
    (l : List (Fin n)) (hl : l.Pairwise (· < ·)) : (stableSort R l).Pairwise (Wins x) := by
  induction l with
  | nil => exact List.Pairwise.nil
  | cons a l ih =>
    rw [List.pairwise_cons] at hl
    unfold stableSort
    exact pairwise_insert_wins x R hR a _ (ih hl.2) fun b hb => hl.1 b ((perm_stableSort R l).mem_iff.1 hb)

/-- The stable descending sort lists earlier positions before the ones they come before. -/
theorem sortedFrom_wins (x : Fin n → EReal) (R : Fin n → Fin n → Bool) (hR : ∀ a b, R a b = decide (x b < x a)) (a b : Fin n)
    (h : a < b) : Wins x (sortedFrom R a) (sortedFrom R b) := by
  have hp := List.pairwise_iff_get.1 (pairwise_sort_wins x R hR (List.finRange n) (List.pairwise_lt_finRange n))
  exact hp (a.cast (length_sortPositions n R).symm) (b.cast (length_sortPositions n R).symm) h

/-- The rounds pick the first positions of the stable descending sort. -/
theorem pick_eq_sortedFrom [NeZero n] (x : Fin n → EReal) (d : Fin n) (hx : ∀ j, j ≠ d → x j ≠ ⊥) (R : Fin n → Fin n → Bool)
    (hR : ∀ a b, R a b = decide (x b < x a)) (r : ℕ) (hr : r + 1 < n) : pick x r = sortedFrom R ⟨r, by omega⟩ :=
  pick_eq x d hx _ ⟨sortedFrom_injective R, sortedFrom_surjective R⟩ (sortedFrom_wins x R hR) r hr

end Cert.Proof.KV

end
-- ==== Proof.VRound.lean ====
/-
  One round of the TensorCore's selection, read at a row: the word it stores is the first position of the row's
  greatest entry, and the row it passes on is the row with that entry struck out. Then the eight rounds of a block: the
  list of a row holds the positions picked in turn.
-/
module

public import proofs.«01_k».proof.Proof.KRegion
public import proofs.«01_k».proof.Proof.VSelect
public import Idealize.ShloMosaic.Lib.Pointwise
public import Idealize.ShloMosaic.Lib.IdealHost
public import Idealize.ShloMosaic.Lib.WordCmp
public import Idealize.ShloMosaic.Lib.SortNet.Extract

@[expose] public section

set_option maxRecDepth 16384

noncomputable section

namespace Cert.Proof.KV

open Cert.KernelIdeal Cert.KernelIdeal.Gen
open Idealize.ShloMosaic

/-- A round's word per row, and what the round passes on. -/
def idxOf (y : FVec Ideal S256x2048 .f32) : IVec S256x1 32 :=
  shapeCast S256x1 (multiReductionI .minsi [1] S256
    (select (cmpf .oeq y (broadcastTo S256x2048 (shapeCast S256x1
        (multiReduction .maximumf [1] S256 y 0xFF800000#32 reduces_S256x2048_S256 (.inl rfl) rfl) shapeCasts_S256_S256x1) broadcasts_S256x1_S256x2048))
      KI.cols (broadcast S256x2048 2048#32)) 2147483647#32 reduces_S256x2048_S256 rfl) shapeCasts_S256_S256x1

def nextOf (y : FVec Ideal S256x2048 .f32) : FVec Ideal S256x2048 .f32 :=
  select (cmpi .eq KI.cols (broadcastTo S256x2048 (idxOf y) broadcasts_S256x1_S256x2048))
    (broadcast S256x2048 (Named.named κ "mask" 0xF149F2CA#32 : Ideal .f32)) y

/-- Row `r` of a block. -/
def row (y : FVec Ideal S256x2048 .f32) (r : Fin 256) : Fin 2048 → EReal := fun q => y (ix2 r q)

theorem ofBits_mask : Ideal.ofBits .f32 0xFF800000#32 = (⊥ : EReal) := by
  simp [Ideal.ofBits, Ideal.ieee]

theorem named_mask : (Named.named κ "mask" 0xF149F2CA#32 : Ideal .f32) = (⊥ : EReal) := rfl

/-- The greatest of a row, folded from −∞. -/
theorem fold_max_top {n : ℕ} [NeZero n] (y : Fin n → EReal) : Finset.univ.fold max (⊥ : EReal) y = y (top y) := by
  have h : Finset.univ.fold max (⊥ : EReal) y = Finset.univ.sup y := rfl
  rw [h]
  exact le_antisymm (Finset.sup_le fun i _ => (isTop_top y).1 i) (Finset.le_sup (Finset.mem_univ _))

/-- A fold of the signed minimum is at most every word met, and is the start or one of them. -/
theorem fold_minsi_spec {ι : Type} [DecidableEq ι] {w : ℕ} (g : ι → BitVec w) (s : Finset ι) (init : BitVec w) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i hi => absurd hi (Finset.notMem_empty i), Or.inl (by rw [Finset.fold_empty])⟩
  | insert a s has ih =>
    obtain ⟨h2, h3⟩ := ih
    rw [Finset.fold_insert has]
    have hm := SortNet.toInt_minsi (g a) (s.fold IntOp.minsi init g)
    refine ⟨fun i hi => ?_, ?_⟩
    · rcases Finset.mem_insert.mp hi with rfl | hi
      · rw [hm]; exact min_le_left _ _
      · exact le_trans (by rw [hm]; exact min_le_right _ _) (h2 i hi)
    · rcases min_choice (g a).toInt (s.fold IntOp.minsi init g).toInt with h | h
      · exact Or.inr ⟨a, Finset.mem_insert_self a s, BitVec.eq_of_toInt_eq (hm.trans h)⟩
      · rcases h3 with h3 | ⟨i, hi, h3⟩
        · exact Or.inl ((BitVec.eq_of_toInt_eq (hm.trans h)).trans h3)
        · exact Or.inr ⟨i, Finset.mem_insert_of_mem hi, (BitVec.eq_of_toInt_eq (hm.trans h)).trans h3⟩

theorem toInt_small (k : ℕ) (hk : k < 4096) : (BitVec.ofNat 32 k).toInt = k := by
  have h : (BitVec.ofNat 32 k).toNat = k := by rw [BitVec.toNat_ofNat]; exact Nat.mod_eq_of_lt (by omega)
  rw [BitVec.toInt_eq_toNat_cond, h, if_pos (by omega)]

/-- The first column whose entry equals the greatest. -/
theorem fold_first (y : Fin 2048 → EReal) :
    Finset.univ.fold IntOp.minsi 2147483647#32 (fun x : Fin 2048 => if y x = y (top y) then BitVec.ofNat 32 x.val else 2048#32)
      = BitVec.ofNat 32 (top y).val := by
  obtain ⟨h1, h2⟩ := fold_minsi_spec (fun x : Fin 2048 => if y x = y (top y) then BitVec.ofNat 32 x.val else 2048#32) Finset.univ 2147483647#32
  have hle := h1 (top y) (Finset.mem_univ _)
  rw [if_pos rfl, toInt_small _ (by have := (top y).isLt; omega)] at hle
  have ht := (top y).isLt
  rcases h2 with h2 | ⟨i, _, h2⟩
  · rw [h2] at hle
    have : (2147483647#32 : BitVec 32).toInt = 2147483647 := by decide
    omega
  · rw [h2] at hle ⊢
    by_cases hi : y i = y (top y)
    · rw [if_pos hi] at hle ⊢
      rw [toInt_small _ (by have := i.isLt; omega)] at hle
      have := (isTop_top y).2 i hi
      have : i.val = (top y).val := le_antisymm (by omega) this
      rw [this]
    · rw [if_neg hi] at hle
      have : (2048#32 : BitVec 32).toInt = 2048 := by decide
      omega

theorem idxOf_apply (y : FVec Ideal S256x2048 .f32) (r : Fin 256) :
    idxOf y (ix2 r 0) = BitVec.ofNat 32 (top (row y r)).val := by
  rw [← fold_first]
  pointwise [idxOf, KI.cols]
  rw [ofBits_mask]
  refine Finset.fold_congr fun q _ => ?_
  have e : Finset.fold max (⊥ : EReal) (fun x => y (ix2 r x)) Finset.univ = row y r (top (row y r)) := fold_max_top (row y r)
  rw [e]
  rfl

theorem ofNat_inj {a b : ℕ} (ha : a < 4096) (hb : b < 4096) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem nextOf_row (y : FVec Ideal S256x2048 .f32) (r : Fin 256) : row (nextOf y) r = strike (row y r) (top (row y r)) := by
  funext q
  show nextOf y (ix2 r q) = if q = top (row y r) then ⊥ else y (ix2 r q)
  pointwise [nextOf, KI.cols]
  rw [idxOf_apply, named_mask, WordCmp.cmpi_eq_ofNat (by have := q.isLt; omega) (by have := (top (row y r)).isLt; omega)]
  by_cases h : q = top (row y r)
  · rw [if_pos h, decide_eq_true (congrArg Fin.val h)]; rfl
  · rw [if_neg h, decide_eq_false (fun e => h (Fin.ext e))]; rfl

/-! ## The eight rounds -/

/-- The similarities of a block, the token itself masked; after `k` rounds. -/
def sim0 (i : grid0.Coords) (x0 : Vec Ideal S1x256x128 .f32) (x1 : Vec Ideal S1x2048x128 .f32) : FVec Ideal S256x2048 .f32 := k0_pay2 i x0 x1

def iter (y : FVec Ideal S256x2048 .f32) : ℕ → FVec Ideal S256x2048 .f32
  | 0 => y
  | k + 1 => nextOf (iter y k)

theorem iter_row (y : FVec Ideal S256x2048 .f32) (r : Fin 256) (k : ℕ) : row (iter y k) r = rest (row y r) k := by
  induction k with
  | zero => rfl
  | succ k ih => show row (nextOf (iter y k)) r = strike _ _; rw [nextOf_row, ih]

theorem idxOf_iter (y : FVec Ideal S256x2048 .f32) (r : Fin 256) (k : ℕ) :
    idxOf (iter y k) (ix2 r 0) = BitVec.ofNat 32 (pick (row y r) k).val := by
  rw [idxOf_apply, iter_row]; rfl

/-- The eight columns of words, side by side. -/
def words (y : FVec Ideal S256x2048 .f32) : IVec S256x8 32 :=
  concatenate S256x8 1 [⟨S256x1, idxOf (iter y 0)⟩, ⟨S256x1, idxOf (iter y 1)⟩, ⟨S256x1, idxOf (iter y 2)⟩, ⟨S256x1, idxOf (iter y 3)⟩,
    ⟨S256x1, idxOf (iter y 4)⟩, ⟨S256x1, idxOf (iter y 5)⟩, ⟨S256x1, idxOf (iter y 6)⟩, ⟨S256x1, idxOf (iter y 7)⟩]
    concatenates_S256x1_S256x1_S256x1_S256x1_S256x1_S256x1_S256x1_S256x1_S256x8_d1

set_option maxHeartbeats 1000000 in
theorem lists_eq (i : grid0.Coords) (x0 : Vec Ideal S1x256x128 .f32) (x1 : Vec Ideal S1x2048x128 .f32) :
    KI.lists i x0 x1 = shapeCast S1x256x8 (words (sim0 i x0 x1)) shapeCasts_S256x8_S1x256x8 := rfl

theorem words_apply (y : FVec Ideal S256x2048 .f32) (r : Fin 256) (l : Fin 8) :
    words y (ix2 r l) = BitVec.ofNat 32 (pick (row y r) l.val).val := by
  rw [← idxOf_iter]
  fin_cases l <;> pointwise [words] <;> rfl

/-- A block's list at row `r`, place `l`: the position that round `l` picks. -/
theorem lists_apply (i : grid0.Coords) (x0 : Vec Ideal S1x256x128 .f32) (x1 : Vec Ideal S1x2048x128 .f32) (r : Fin 256) (l : Fin 8) :
    KI.lists i x0 x1 (ix3 0 r l) = BitVec.ofNat 32 (pick (row (sim0 i x0 x1) r) l.val).val := by
  rw [lists_eq, ← words_apply]
  pointwise

end Cert.Proof.KV

end
-- ==== Proof.VSim.lean ====
/-
  The cosine similarities: of two rows of features, as an extended real; that they are always real numbers, whatever the
  features; and the TensorCore block's masked similarities read at an entry.
-/
module

public import proofs.«01_k».proof.Proof.VRound

@[expose] public section

set_option maxRecDepth 16384

noncomputable section

namespace Cert.Proof.KV

open Cert.KernelIdeal Cert.KernelIdeal.Gen
open Idealize.ShloMosaic
open scoped BigOperators

/-- The small positive constant added to a norm. -/
def eps : EReal := Ideal.ofBits .f32 0x322BCC77#32

/-- A row of features over its norm, and the similarity of two rows. -/
def unitOf (f : Fin 128 → EReal) (d : Fin 128) : EReal := Ideal.div (f d) (Ideal.sqrt (∑ k, f k * f k) + eps)

def simOf (f g : Fin 128 → EReal) : EReal := ∑ d, unitOf f d * unitOf g d

theorem eps_real : ∃ e : ℝ, 0 < e ∧ eps = (e : EReal) := by
  refine ⟨(2 ^ 23 + 2870391 : ℝ) * 2 ^ (-50 : ℤ), by positivity, ?_⟩
  unfold eps
  simp [Ideal.ofBits, Ideal.ieee, -EReal.coe_mul]
  norm_num

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, by push_cast; rfl⟩

theorem IsReal.sum {ι : Type} (s : Finset ι) (f : ι → EReal) (h : ∀ i, IsReal (f i)) : IsReal (∑ i ∈ s, f i) := by
  choose g hg using h
  refine ⟨∑ i ∈ s, g i, ?_⟩
  simp only [hg]
  induction s using Finset.cons_induction with
  | empty => simp
  | cons a s ha ih => rw [Finset.sum_cons, Finset.sum_cons, ih, EReal.coe_add]

theorem IsReal.ne_bot {x : EReal} (h : IsReal x) : x ≠ ⊥ := by
  obtain ⟨a, rfl⟩ := h; exact EReal.coe_ne_bot a

theorem sq_nonneg' (x : EReal) : 0 ≤ x * x := by
  induction x with
  | bot => simp
  | top => simp
  | coe a => rw [← EReal.coe_mul]; exact EReal.coe_nonneg.2 (mul_self_nonneg a)

theorem unitOf_real (f : Fin 128 → EReal) (d : Fin 128) : IsReal (unitOf f d) := by
  obtain ⟨e, he, hee⟩ := eps_real
  unfold unitOf
  rw [hee]
  have h0 : 0 ≤ ∑ k, f k * f k := Finset.sum_nonneg fun k _ => sq_nonneg' (f k)
  by_cases ht : ∃ k, f k * f k = ⊤
  · obtain ⟨k, hk⟩ := ht
    have : ∑ k, f k * f k = ⊤ := top_le_iff.1 (hk ▸ Finset.single_le_sum (f := fun k => f k * f k) (fun k _ => sq_nonneg' (f k)) (Finset.mem_univ k))
    rw [this, Ideal.sqrt_top, EReal.top_add_coe]
    unfold Ideal.div
    rw [if_neg (by simp), EReal.inv_top, mul_zero]
    exact ⟨0, rfl⟩
  · push Not at ht
    have hf : ∀ k, IsReal (f k) := by
      intro k
      have := ht k
      generalize f k = x at this
      induction x with
      | bot => simp at this
      | top => simp at this
      | coe a => exact ⟨a, rfl⟩
    obtain ⟨s, hs⟩ := IsReal.sum Finset.univ (fun k => f k * f k) fun k => (hf k).mul (hf k)
    rw [hs] at h0 ⊢
    have hs0 : 0 ≤ s := EReal.coe_nonneg.1 h0
    rw [Ideal.sqrt_coe, if_neg (not_lt.2 hs0), ← EReal.coe_add]
    have hp : 0 < Real.sqrt s + e := add_pos_of_nonneg_of_pos (Real.sqrt_nonneg s) he
    rw [Ideal.div_coe hp.ne']
    exact (hf d).mul ⟨_, rfl⟩

theorem simOf_real (f g : Fin 128 → EReal) : IsReal (simOf f g) :=
  IsReal.sum _ _ fun d => (unitOf_real f d).mul (unitOf_real g d)

/-- A row of masked similarities: the token's own entry is −∞. -/
def maskedRow (X : Fin 2048 → Fin 128 → EReal) (p : Fin 2048) : Fin 2048 → EReal := fun q => if q = p then ⊥ else simOf (X p) (X q)

theorem maskedRow_ne_bot (X : Fin 2048 → Fin 128 → EReal) (p q : Fin 2048) (h : q ≠ p) : maskedRow X p q ≠ ⊥ := by
  unfold maskedRow; rw [if_neg h]; exact (simOf_real _ _).ne_bot

/-- Row `r` of the block at grid row `i 1`, when the block's rows and the batch's tokens are read off `X`. -/
theorem sim0_row (i : grid0.Coords) (x0 : Vec Ideal S1x256x128 .f32) (x1 : Vec Ideal S1x2048x128 .f32) (X : Fin 2048 → Fin 128 → EReal)
    (r : Fin 256) (p : Fin 2048) (hi : (i 1).val < 8) (hp : p.val = 256 * (i 1).val + r.val) (h0 : ∀ d, x0 (ix3 0 r d) = X p d)
    (h1 : ∀ q d, x1 (ix3 0 q d) = X q d) : row (sim0 i x0 x1) r = maskedRow X p := by
  funext q
  show sim0 i x0 x1 (ix2 r q) = _
  pointwise [sim0, k0_pay2]
  simp only [h0, h1]
  have e : IntOp.addi (BitVec.ofNat 32 r.val) (Scalar.muli (BitVec.ofNat 32 (i 1).val) 256#32) = BitVec.ofNat 32 p.val := by
    have hr := r.isLt
    apply BitVec.eq_of_toNat_eq
    show (BitVec.ofNat 32 r.val + BitVec.ofNat 32 (i 1).val * 256#32).toNat = _
    simp only [BitVec.toNat_add, BitVec.toNat_mul, BitVec.toNat_ofNat]
    omega
  rw [e, named_mask, WordCmp.cmpi_eq_ofNat (by have := q.isLt; omega) (by have := p.isLt; omega)]
  unfold maskedRow
  by_cases h : q = p
  · rw [if_pos h, decide_eq_true (congrArg Fin.val h)]; rfl
  · rw [if_neg h, decide_eq_false (fun e => h (Fin.ext e))]; rfl

end Cert.Proof.KV

end
-- ==== Proof.VTopk.lean ====
/-
  The neighbour lists that the TensorCore's call leaves, read at an entry: place `l` of token `p` of batch `b` holds the
  position that round `l` picks from the token's masked similarities.
-/
module

public import proofs.«01_k».proof.Proof.VSim

@[expose] public section

set_option maxRecDepth 16384

noncomputable section

namespace Cert.Proof.KV

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- The tokens of batch `b`. -/
def toks (X : Vec Ideal S4x2048x128 .f32) (b : Fin 4) : Fin 2048 → Fin 128 → EReal := fun q d => X (ix3 b q d)

/-- The argument array. -/
abbrev argX (c : Dev nD) : Vec Ideal S4x2048x128 .f32 := m ((c : Thread nD τ).loc main_arg0)

theorem idx_inj : ∀ t t' : Fin cfg0.N, win0_2.index t = win0_2.index t' → t = t' :=
  (by decide +kernel : ∀ t t' : Fin grid0.N, win0_2.index t = win0_2.index t' → t = t')

theorem disj : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj t t' h)

theorem coord0 (t : Fin grid0.N) : (grid0.coords t 0).val = t.val / 8 % 4 := Pipeline.Grid.coords_val t 0 (by decide) (by decide)
theorem coord1 (t : Fin grid0.N) : (grid0.coords t 1).val = t.val / 1 % 8 := Pipeline.Grid.coords_val t 1 (by decide) (by decide)

/-- The point that treats token `p` of batch `b`. -/
def point (b : Fin 4) (p : Fin 2048) : Fin grid0.N := ⟨8 * b.val + p.val / 256, by rw [N_0]; omega⟩

theorem point_coord0 (b : Fin 4) (p : Fin 2048) : (grid0.coords (point b p) 0).val = b.val := by
  rw [coord0]; show (8 * b.val + p.val / 256) / 8 % 4 = _; omega
theorem point_coord1 (b : Fin 4) (p : Fin 2048) : (grid0.coords (point b p) 1).val = p.val / 256 := by
  rw [coord1]; show (8 * b.val + p.val / 256) / 1 % 8 = _; omega

theorem index2 (b : Fin 4) (p : Fin 2048) : win0_2.index (point b p) = ![b.val, p.val / 256, 0] := by
  show cc0_transform_2 (grid0.coords (point b p)) = _
  unfold cc0_transform_2
  rw [point_coord0, point_coord1]
  funext a
  fin_cases a <;> simp <;> omega
theorem index0 (b : Fin 4) (p : Fin 2048) : win0_0.index (point b p) = ![b.val, p.val / 256, 0] := by
  show cc0_transform_0 (grid0.coords (point b p)) = _
  unfold cc0_transform_0
  rw [point_coord0, point_coord1]
  funext a
  fin_cases a <;> simp <;> omega
theorem index1 (b : Fin 4) (p : Fin 2048) : win0_1.index (point b p) = ![b.val, 0, 0] := by
  show cc0_transform_1 (grid0.coords (point b p)) = _
  unfold cc0_transform_1
  rw [point_coord0]
  funext a
  fin_cases a <;> simp <;> omega

/-- The rows' block and the tokens' block at that point. -/
theorem blk0_apply (c : Dev nD) (b : Fin 4) (p : Fin 2048) (r : Fin 256) (hr : r.val = p.val % 256) (d : Fin 128) :
    KI.blkOf m c 0 (point b p) (ix3 (0 : Fin 1) r d) = toks (argX m c) b p d := by
  show argX m c ((win0_0.rect (point b p)).emb (ix3 (0 : Fin 1) r d)) = argX m c (ix3 b p d)
  congr 1
  funext a
  apply Fin.ext
  have h := Window.rect_emb_val win0_0 (point b p) (ix3 (0 : Fin 1) r d) a
  rw [index0] at h
  refine h.trans ?_
  fin_cases a
  · show b.val * 1 + 0 = b.val; omega
  · show p.val / 256 * 256 + r.val = p.val; omega
  · show 0 * 128 + d.val = d.val; omega

theorem blk1_apply (c : Dev nD) (b : Fin 4) (p : Fin 2048) (q : Fin 2048) (d : Fin 128) :
    KI.blkOf m c 1 (point b p) (ix3 (0 : Fin 1) q d) = toks (argX m c) b q d := by
  show argX m c ((win0_1.rect (point b p)).emb (ix3 (0 : Fin 1) q d)) = argX m c (ix3 b q d)
  congr 1
  funext a
  apply Fin.ext
  have h := Window.rect_emb_val win0_1 (point b p) (ix3 (0 : Fin 1) q d) a
  rw [index1] at h
  refine h.trans ?_
  fin_cases a
  · show b.val * 1 + 0 = b.val; omega
  · show 0 * 2048 + q.val = q.val; omega
  · show 0 * 128 + d.val = d.val; omega

theorem topk_apply (c : Dev nD) (b : Fin 4) (p : Fin 2048) (l : Fin 8) :
    KI.topk m c (ix3 b p l) = BitVec.ofNat 32 (pick (maskedRow (toks (argX m c) b) p) l.val).val := by
  let r : Fin 256 := ⟨p.val % 256, Nat.mod_lt _ (by decide)⟩
  have hy : (win0_2.rect (point b p)).emb (ix3 (0 : Fin 1) r l) = ix3 b p l := by
    funext a
    apply Fin.ext
    have h := Window.rect_emb_val win0_2 (point b p) (ix3 (0 : Fin 1) r l) a
    rw [index2] at h
    refine h.trans ?_
    fin_cases a
    · show b.val * 1 + 0 = b.val; omega
    · show p.val / 256 * 256 + p.val % 256 = p.val; omega
    · show 0 * 8 + l.val = l.val; omega
  have h := (KI.dats m 0 c).arrAt_emb_eq_flushed 2 disj (point b p) (flush0_2 _) (ix3 (0 : Fin 1) r l)
  have h2 : KI.topk m c ((win0_2.rect (point b p)).emb (ix3 (0 : Fin 1) r l))
      = KI.lists (grid0.coords (point b p)) (KI.blkOf m c 0 (point b p)) (KI.blkOf m c 1 (point b p)) (ix3 0 r l) := h
  rw [hy, lists_apply] at h2
  rw [h2, sim0_row (grid0.coords (point b p)) _ _ (toks (argX m c) b) r p (by rw [point_coord1]; omega)
    (by rw [point_coord1]; show p.val = 256 * (p.val / 256) + p.val % 256; omega)
    (fun d => blk0_apply m c b p r rfl d) (fun q d => blk1_apply m c b p q d)]

end Cert.Proof.KV

end
-- ==== Proof.VRef.lean ====
/-
  The reference read at an entry. Its masked similarities are the rows of `maskedRow`; its neighbour lists hold the
  positions picked in turn; its scatter sets to one the entries the lists name; its result is one where two tokens name
  each other and zero elsewhere.
-/
module

public import proofs.«01_k».proof.Proof.Gen.ReferenceIdeal.Run
public import proofs.«01_k».proof.Proof.VScat
public import proofs.«01_k».proof.Proof.VTopSort
public import proofs.«01_k».proof.Proof.VTopk

@[expose] public section

set_option maxRecDepth 16384

noncomputable section

namespace Cert.Proof.RV

open Cert.ReferenceIdeal Cert.ReferenceIdeal.Gen
open Idealize.ShloMosaic Idealize.ShloMosaic.TcCoe
open Cert.Proof.KV (pick maskedRow toks simOf unitOf eps)
open scoped BigOperators

/-- The tokens over their norms, their masked similarities, and the neighbour lists. -/
def refUnit (x : FVec Ideal S4x2048x128 .f32) : FVec Ideal S4x2048x128 .f32 :=
  Host.divf x (broadcastInDim S4x2048x128 ![0, 1, 2] bcast_S4x2048x1_S4x2048x128_0_1_2 (addf (Host.sqrt (broadcastInDim S4x2048x1 ![0, 1] bcast_S4x2048_S4x2048x1_0_1 (Host.reduceAdd (mulf x x) (constant S_ .f32 0x00000000#32) reducesTo_S4x2048x128_S4x2048_d2 h_S_))) (broadcastInDim S4x2048x1 ![] bcast_S_S4x2048x1 (constant S_ .f32 0x322BCC77#32))))

def refSim (x : FVec Ideal S4x2048x128 .f32) : FVec Ideal S4x2048x2048 .f32 :=
  select (broadcastInDim S4x2048x2048 ![0, 1, 2] bcast_S1x2048x2048_S4x2048x2048_0_1_2 (broadcastInDim S1x2048x2048 ![1, 2] bcast_S2048x2048_S1x2048x2048_1_2 (cmpi .eq (addi (iotaInDim S2048x2048 32 0) (broadcastInDim S2048x2048 ![] bcast_S_S2048x2048 (constantI S_ 32 0#32))) (iotaInDim S2048x2048 32 1)))) (broadcastInDim S4x2048x2048 ![] bcast_S_S4x2048x2048 (constant S_ .f32 0xFF800000#32)) (Host.dotGeneral dot_S4x2048x128_S4x128x2048_S4x2048x2048_2_1_1_2_0_0 none (refUnit x) (transpose S4x128x2048 [0, 2, 1] (refUnit x) transposes_S4x2048x128_S4x128x2048_0_2_1))

def refIdx (x : FVec Ideal S4x2048x128 .f32) : IVec S4x2048x8 32 :=
  (Host.topK S4x2048x8 2 (FloatOps.cmpfTotal .gt) (refSim x) sliceFits_S4x2048x2048_S4x2048x8).2

/-- The three words of each update: the batch, the token and the listed position. -/
def refWords (i : IVec S4x2048x8 32) : IVec S4x2048x8x3 32 :=
  (concatenate S4x2048x8x3 3 [⟨S4x2048x8x1, ((broadcastInDim S4x2048x8x1 ![0, 1, 2] bcast_S4x2048x8_S4x2048x8x1_0_1_2 (broadcastInDim S4x2048x8 ![0, 1, 2] bcast_S4x1x1_S4x2048x8_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0))))) : (⟨S4x2048x8x1, .i32⟩ : BufTy).Contents (Elt Ideal))⟩, ⟨S4x2048x8x1, ((broadcastInDim S4x2048x8x1 ![0, 1, 2] bcast_S4x2048x8_S4x2048x8x1_0_1_2 (broadcastInDim S4x2048x8 ![0, 1, 2] bcast_S1x2048x1_S4x2048x8_0_1_2 (select (cmpi .slt (broadcastInDim S1x2048x1 ![1] bcast_S2048_S1x2048x1_1 (iotaInDim S2048 32 0)) (broadcastInDim S1x2048x1 ![] bcast_S_S1x2048x1 (constantI S_ 32 0#32))) (addi (broadcastInDim S1x2048x1 ![1] bcast_S2048_S1x2048x1_1 (iotaInDim S2048 32 0)) (broadcastInDim S1x2048x1 ![] bcast_S_S1x2048x1 (constantI S_ 32 2048#32))) (broadcastInDim S1x2048x1 ![1] bcast_S2048_S1x2048x1_1 (iotaInDim S2048 32 0))))) : (⟨S4x2048x8x1, .i32⟩ : BufTy).Contents (Elt Ideal))⟩, ⟨S4x2048x8x1, ((broadcastInDim S4x2048x8x1 ![0, 1, 2] bcast_S4x2048x8_S4x2048x8x1_0_1_2 (select (cmpi .slt i (broadcastInDim S4x2048x8 ![] bcast_S_S4x2048x8 (constantI S_ 32 0#32))) (addi i (broadcastInDim S4x2048x8 ![] bcast_S_S4x2048x8 (constantI S_ 32 2048#32))) i)) : (⟨S4x2048x8x1, .i32⟩ : BufTy).Contents (Elt Ideal))⟩] concatenates_S4x2048x8x1_S4x2048x8x1_S4x2048x8x1_S4x2048x8x3_d3 : (⟨S4x2048x8x3, .i32⟩ : BufTy).Contents (Elt Ideal))

/-- The array the scatter leaves. -/
def refAdj (x : FVec Ideal S4x2048x128 .f32) : FVec Ideal S4x2048x2048 .f32 :=
  Host.scatter scatter_S4x2048x2048_S4x2048x8x3_S4x2048x8_n_012_012_3 (fun _ b => b) (broadcastInDim S4x2048x2048 ![] bcast_S_S4x2048x2048 (constant S_ .f32 0x00000000#32)) (refWords (refIdx x)) (broadcastInDim S4x2048x8 ![] bcast_S_S4x2048x8 (constant S_ .f32 0x3F800000#32))

theorem refUnit_apply (x : FVec Ideal S4x2048x128 .f32) (b : Fin 4) (p : Fin 2048) (d : Fin 128) :
    refUnit x (ix3 b p d) = unitOf (toks x b p) d := by
  pointwise [refUnit]
  rfl

theorem refSim_apply (x : FVec Ideal S4x2048x128 .f32) (b : Fin 4) (p q : Fin 2048) : refSim x (ix3 b p q) = maskedRow (toks x b) p q := by
  pointwise [refSim]
  simp only [refUnit_apply]
  have e : IntOp.addi (BitVec.ofNat 32 p.val) 0#32 = BitVec.ofNat 32 p.val := BitVec.add_zero _
  rw [e, Cert.Proof.KV.ofBits_mask, WordCmp.cmpi_eq_ofNat (by have := p.isLt; omega) (by have := q.isLt; omega)]
  unfold maskedRow
  by_cases h : q = p
  · rw [if_pos h, decide_eq_true (congrArg Fin.val h.symm)]; rfl
  · rw [if_neg h, decide_eq_false (fun e => h (Fin.ext e.symm))]; rfl

theorem refIdx_apply (x : FVec Ideal S4x2048x128 .f32) (b : Fin 4) (p : Fin 2048) (l : Fin 8) :
    refIdx x (ix3 b p l) = BitVec.ofNat 32 (pick (maskedRow (toks x b) p) l.val).val := by
  have hrow : (fun q => refSim x (ix3 b p q)) = maskedRow (toks x b) p := funext fun q => refSim_apply x b p q
  have hl : l.val + 1 < 2048 := by omega
  rw [Cert.Proof.KV.pick_eq_sortedFrom (maskedRow (toks x b) p) p (fun j hj => Cert.Proof.KV.maskedRow_ne_bot _ p j hj)
    (fun k k' => FloatOps.cmpfTotal (F := Ideal) (φ := .f32) .gt (refSim x (ix3 b p k)) (refSim x (ix3 b p k')) == 1#1) (fun a c => by
      rw [refSim_apply, refSim_apply]
      show (BitVec.ofBool (decide (maskedRow (toks x b) p c < maskedRow (toks x b) p a)) == 1#1) = _
      cases decide (maskedRow (toks x b) p c < maskedRow (toks x b) p a) <;> rfl) l.val hl]
  exact Cert.Proof.KV.topK_last (A := 4) (B := 2048) (N := 2048) (K := 8) _ (refSim x) _ b p l _

theorem refWords_0 (i : IVec S4x2048x8 32) (b : Fin 4) (p : Fin 2048) (l : Fin 8) : refWords i (ix4 b p l 0) = BitVec.ofNat 32 b.val := by
  pointwise [refWords]
  exact Routing.wrap_of_lt _ _ (by have := b.isLt; rw [BitVec.toNat_ofNat]; omega)
theorem refWords_1 (i : IVec S4x2048x8 32) (b : Fin 4) (p : Fin 2048) (l : Fin 8) : refWords i (ix4 b p l 1) = BitVec.ofNat 32 p.val := by
  pointwise [refWords]
  exact Routing.wrap_of_lt _ _ (by have := p.isLt; rw [BitVec.toNat_ofNat]; omega)
theorem refWords_2 (i : IVec S4x2048x8 32) (b : Fin 4) (p : Fin 2048) (l : Fin 8) (h : (i (ix3 b p l)).toNat < 2048) :
    refWords i (ix4 b p l 2) = i (ix3 b p l) := by
  pointwise [refWords]
  exact Routing.wrap_of_lt _ _ (by omega)

/-- Token `j` is among the eight neighbours picked for token `i` of batch `b`. -/
def Lists (x : FVec Ideal S4x2048x128 .f32) (b : Fin 4) (i j : Fin 2048) : Prop := ∃ l : Fin 8, pick (maskedRow (toks x b) i) l.val = j

theorem lands_iff (x : FVec Ideal S4x2048x128 .f32) (b : Fin 4) (i j : Fin 2048) :
    (∃ k, scatter_S4x2048x2048_S4x2048x8x3_S4x2048x8_n_012_012_3.resultIdx? k (refWords (refIdx x)) = some (ix3 b i j)) ↔ Lists x b i j := by
  have one : ∀ (b' : Fin 4) (p : Fin 2048) (l : Fin 8),
      scatter_S4x2048x2048_S4x2048x8x3_S4x2048x8_n_012_012_3.resultIdx? (ix3 b' p l) (refWords (refIdx x)) = some (ix3 b i j)
        ↔ b' = b ∧ p = i ∧ pick (maskedRow (toks x b') p) l.val = j := by
    intro b' p l
    rw [Cert.Proof.KV.lands3 scatter_S4x2048x2048_S4x2048x8x3_S4x2048x8_n_012_012_3 rfl rfl rfl rfl]
    have hb := b'.isLt; have hp := p.isLt
    have hi := refIdx_apply x b' p l
    have hk := (pick (maskedRow (toks x b') p) l.val).isLt
    have w0 : (refWords (refIdx x) (ix4 b' p l 0)).toInt = b'.val := by rw [refWords_0, Cert.Proof.KV.toInt_small _ (by omega)]
    have w1 : (refWords (refIdx x) (ix4 b' p l 1)).toInt = p.val := by rw [refWords_1, Cert.Proof.KV.toInt_small _ (by omega)]
    have w2 : (refWords (refIdx x) (ix4 b' p l 2)).toInt = (pick (maskedRow (toks x b') p) l.val).val := by
      rw [refWords_2 _ _ _ _ (by rw [hi, BitVec.toNat_ofNat]; omega), hi, Cert.Proof.KV.toInt_small _ (by omega)]
    constructor
    · intro h
      have h0 := h 0; have h1 := h 1; have h2 := h 2
      rw [w0] at h0; rw [w1] at h1; rw [w2] at h2
      exact ⟨Fin.ext (Int.ofNat.inj h0), Fin.ext (Int.ofNat.inj h1), Fin.ext (Int.ofNat.inj h2)⟩
    · rintro ⟨rfl, rfl, h⟩ q
      fin_cases q
      · exact w0
      · exact w1
      · exact w2.trans (by rw [h]; rfl)
  constructor
  · rintro ⟨k, hk⟩
    have e : k = ix3 (k 0) (k 1) (k 2) := by funext a; fin_cases a <;> rfl
    rw [e] at hk
    obtain ⟨h0, h1, h2⟩ := (one (k 0) (k 1) (k 2)).1 hk
    rw [h0, h1] at h2
    exact ⟨k 2, h2⟩
  · rintro ⟨l, hl⟩
    exact ⟨ix3 b i l, (one b i l).2 ⟨rfl, rfl, hl⟩⟩

open Classical in
theorem refAdj_apply (x : FVec Ideal S4x2048x128 .f32) (b : Fin 4) (i j : Fin 2048) :
    refAdj x (ix3 b i j) = if Lists x b i j then (1 : EReal) else 0 := by
  unfold refAdj
  refine (Cert.Proof.KV.scatter_set _ _ _ _ (1 : EReal) (fun k => Ideal.ofBits_one_f32) _).trans ?_
  simp only [lands_iff]
  by_cases h : Lists x b i j
  · rw [if_pos h, if_pos h]
  · rw [if_neg h, if_neg h]; exact Ideal.ofBits_zero_f32

theorem mul_transpose (A : FVec Ideal S4x2048x2048 .f32) (b : Fin 4) (i j : Fin 2048) :
    (mulf A (transpose S4x2048x2048 [0, 2, 1] A transposes_S4x2048x2048_S4x2048x2048_0_2_1) : FVec Ideal S4x2048x2048 .f32) (ix3 b i j)
      = (A (ix3 b i j) * A (ix3 b j i) : EReal) := by pointwise []

theorem res_eq (m : (ℓ : Loc nD τ sig) → Buf (Elt Ideal) ℓ) (c : Dev nD) :
    Value.res_main_v43 m c = mulf (refAdj (m ((c.tc : Thread nD τ).loc main_arg0)))
      (transpose S4x2048x2048 [0, 2, 1] (refAdj (m ((c.tc : Thread nD τ).loc main_arg0))) transposes_S4x2048x2048_S4x2048x2048_0_2_1) := rfl

open Classical in
/-- The reference's result at an entry. -/
theorem res_apply (m : (ℓ : Loc nD τ sig) → Buf (Elt Ideal) ℓ) (c : Dev nD) (b : Fin 4) (i j : Fin 2048) :
    (Value.res_main_v43 m c : FVec Ideal S4x2048x2048 .f32) (ix3 b i j)
      = if Lists (m ((c.tc : Thread nD τ).loc main_arg0)) b i j ∧ Lists (m ((c.tc : Thread nD τ).loc main_arg0)) b j i then (1 : EReal) else 0 := by
  refine (congrFun (res_eq m c) (ix3 b i j)).trans ((mul_transpose _ b i j).trans ?_)
  rw [refAdj_apply, refAdj_apply]
  split_ifs <;> simp_all

end Cert.Proof.RV

end
-- ==== Proof.VCert.lean ====
/-
  The kernel against the reference. The words of the neighbour lists are positions of tokens, so the SparseCores' call
  may run; its result is one where two tokens name each other and zero elsewhere, which is the reference's result.
-/
module

public import proofs.«01_k».proof.Proof.KCert
public import proofs.«01_k».proof.Proof.VRef
public import Idealize.ShloMosaic.Lib.Quiescent

@[expose] public section

set_option maxRecDepth 16384

noncomputable section

namespace Cert.Proof.KV

open Cert.KernelIdeal Cert.KernelIdeal.Gen
open Idealize.ShloMosaic Idealize.ShloMosaic.TcCoe Idealize.SL.Sem

variable (m : (ℓ : Loc nD τ sig) → Buf (Elt Ideal) ℓ)

/-- Word `8 p + l` of batch `b`'s flat list is place `l` of token `p`. -/
theorem tab0_apply (c : Dev nD) (b : Fin 4) (n : Fin 16384) :
    KI.tab0 m c (ix2 b n) = KI.topk m c (ix3 b (⟨n.val / 8, by omega⟩ : Fin 2048) (⟨n.val % 8, by omega⟩ : Fin 8)) := by
  unfold KI.tab0
  generalize KI.topk m c = t
  pointwise []

theorem tab0_word (c : Dev nD) (b : Fin 4) (n : Fin 16384) (p : Fin 2048) (l : Fin 8) (h : n.val = 8 * p.val + l.val) :
    (KI.tab0 m c (ix2 b n)).toNat = (pick (maskedRow (toks (argX m c) b) p) l.val).val := by
  have hp : (⟨n.val / 8, by omega⟩ : Fin 2048) = p := Fin.ext (show n.val / 8 = p.val by omega)
  have hl : (⟨n.val % 8, by omega⟩ : Fin 8) = l := Fin.ext (show n.val % 8 = l.val by omega)
  have hk := (pick (maskedRow (toks (argX m c) b) p) l.val).isLt
  rw [tab0_apply, hp, hl, topk_apply, BitVec.toNat_ofNat]
  omega

theorem htab (d : Dev nD) (j : S4x16384.Idx) : (KI.tab0 m d j).toNat < 2048 := by
  have e : j = ix2 (j 0) (j 1) := by funext a; fin_cases a <;> rfl
  have main : ∀ (b : Fin 4) (n : Fin 16384), (KI.tab0 m d (ix2 b n)).toNat < 2048 := by
    intro b n
    rw [tab0_word m d b n (⟨n.val / 8, by omega⟩ : Fin 2048) (⟨n.val % 8, by omega⟩ : Fin 8)
      (show n.val = 8 * (n.val / 8) + n.val % 8 by omega)]
    exact Fin.isLt _
  exact (congrArg (fun i => (KI.tab0 m d i).toNat < 2048) e).mpr (main (j 0) (j 1))

theorem nbr_iff (c : Dev nD) (b : Fin 4) (i j : Fin 2048) :
    KI.nbr (KI.tabRow (KI.tab0 m c) b.val) i.val j.val ↔ RV.Lists (argX m c) b i j := by
  have word : ∀ l : Fin 8, (KI.tabRow (KI.tab0 m c) b.val (8 * i.val + l.val)).toNat = (pick (maskedRow (toks (argX m c) b) i) l.val).val := by
    intro l
    unfold KI.tabRow
    rw [dif_pos ⟨b.isLt, by omega⟩]
    exact tab0_word m c b ⟨8 * i.val + l.val, by omega⟩ i l rfl
  constructor
  · rintro ⟨l, hl, h⟩
    refine ⟨⟨l, hl⟩, Fin.ext ?_⟩
    rw [← word ⟨l, hl⟩]; exact h
  · rintro ⟨l, h⟩
    exact ⟨l.val, l.isLt, by rw [word l, h]⟩

open Classical in
/-- The kernel's result at an entry. -/
theorem res0_apply (c : Dev nD) (b : Fin 4) (i j : Fin 2048) :
    (KI.res0 m c : FVec Ideal S4x2048x2048 .f32) (ix3 b i j) = if RV.Lists (argX m c) b i j ∧ RV.Lists (argX m c) b j i then (1 : EReal) else 0 := by
  have hb := b.isLt; have hi := i.isLt; have hj := j.isLt
  have e : (KI.res0 m c : FVec Ideal S4x2048x2048 .f32) (ix3 b i j)
      = KI.outF (KI.tab0 m c) (ix1 (⟨b.val * 4194304 + i.val * 2048 + j.val, by omega⟩ : Fin 16777216)) := by
    unfold KI.res0
    generalize (KI.outF (KI.tab0 m c) : FVec Ideal S16777216 .f32) = t
    pointwise []
  have h1 : (b.val * 4194304 + i.val * 2048 + j.val) / 4194304 = b.val := by omega
  have h2 : (b.val * 4194304 + i.val * 2048 + j.val) / 2048 % 2048 = i.val := by omega
  have h3 : (b.val * 4194304 + i.val * 2048 + j.val) % 2048 = j.val := by omega
  rw [e]
  show (if KI.bothNbr (KI.tabRow (KI.tab0 m c) ((b.val * 4194304 + i.val * 2048 + j.val) / 4194304))
      ((b.val * 4194304 + i.val * 2048 + j.val) / 2048 % 2048) ((b.val * 4194304 + i.val * 2048 + j.val) % 2048) then (KI.f1 : Ideal .f32) else (KI.f0 : Ideal .f32)) = _
  rw [h1, h2, h3]
  have hiff : KI.bothNbr (KI.tabRow (KI.tab0 m c) b.val) i.val j.val ↔ RV.Lists (argX m c) b i j ∧ RV.Lists (argX m c) b j i :=
    and_congr (nbr_iff m c b i j) (nbr_iff m c b j i)
  by_cases h : RV.Lists (argX m c) b i j ∧ RV.Lists (argX m c) b j i
  · rw [if_pos h, if_pos (hiff.2 h)]; exact Ideal.ofBits_one_f32
  · rw [if_neg h, if_neg fun h' => h (hiff.1 h')]; exact Ideal.ofBits_zero_f32

theorem results_eq (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread nD τ).loc main_arg0)) :
    Cert.ReferenceIdeal.Value.res_main_v43 m' c = KI.res0 m c := by
  refine funext fun (y : S4x2048x2048.Idx) => ?_
  have e : y = ix3 (y 0) (y 1) (y 2) := by funext a; fin_cases a <;> rfl
  rw [e]
  refine (RV.res_apply m' c (y 0) (y 1) (y 2)).trans ((res0_apply m c (y 0) (y 1) (y 2)).trans ?_).symm
  rw [h]

theorem quiescent_kernel : Cert.quiescent_KernelIdeal (hKernelIdeal := Cert.KernelIdeal.Gen.facts) := fun m g _ =>
  (θ_run (Cert.KernelIdeal.defs (F := Ideal)) _ _).mono (fun r h => ⟨fun c => (h.1 c).1, h.2⟩) (KI.run_main m g (htab m))

theorem quiescent_reference : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems rfl r.2⟩)
    (Cert.ReferenceIdeal.Value.run m g)

theorem algebraic : Cert.algebraic_KernelIdeal_ReferenceIdeal (hKernelIdeal := Cert.KernelIdeal.Gen.facts)
    (hReferenceIdeal := Cert.ReferenceIdeal.Gen.facts) := fun m g m' g' _ hm =>
  ⟨fun c => KI.res0 m c,
    (θ_run (Cert.KernelIdeal.defs (F := Ideal)) _ _).mono (fun r h c => ⟨(h.1 c).2, (h.1 c).1⟩) (KI.run_main m g (htab m)),
    (θ_run (Cert.ReferenceIdeal.defs (F := Ideal)) _ _).mono (fun r h c => ⟨(h c).1.trans (results_eq m m' c (hm c)), (h c).2⟩)
      (Cert.ReferenceIdeal.Value.run m' g')⟩

end Cert.Proof.KV

end
-- ==== Proof.lean ====
/-
  The claims of this certificate, proved.
-/
module

public import proofs.«01_k».proof.Defs
public import proofs.«01_k».proof.Proof.Gen.TopK.Frame
public import proofs.«01_k».proof.Proof.Gen.TopKIdeal.Frame
public import proofs.«01_k».proof.Proof.ACert
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.TopKIdeal.Value
public import proofs.«01_k».proof.Proof.VCert

@[expose] public section

noncomputable section

namespace Cert.Proof

open Idealize.ShloMosaic Idealize.SL.Sem

theorem claim : Cert.Claim := ⟨Cert.KernelIdeal.Gen.facts, Cert.ReferenceIdeal.Gen.facts, Cert.TopK.Gen.facts, Cert.TopKIdeal.Gen.facts,
  Cert.Adj.Gen.facts, Cert.Pre_in_range.Gen.facts,
  Cert.Proof.KV.quiescent_kernel, Cert.Proof.KV.quiescent_reference,
  fun m g _ => Cert.TopK.Gen.frame m g, fun m g _ => Cert.TopKIdeal.Gen.frame m g, Cert.Proof.AD.frame_call,
  Cert.Proof.KV.algebraic,
  IdealRules.named_const.statement Cert.TopKIdeal.κ "mask" .f32 0xF149F2CA#32 ⊥ rfl⟩

end Cert.Proof

end
